-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_v54) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v25) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)) →
    ∃ (v0 : (c : Dev Cert.Kernel7Ideal.nD) → Buf (Elt Ideal) ((c.tc : Thread Cert.Kernel7Ideal.nD Cert.Kernel7Ideal.τ).loc Cert.Kernel7Ideal.main_v6_0)) (v1 : (c : Dev Cert.Kernel7Ideal.nD) → Buf (Elt Ideal) ((c.tc : Thread Cert.Kernel7Ideal.nD Cert.Kernel7Ideal.τ).loc Cert.Kernel7Ideal.main_v6_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6_0) = v0 c
          ∧ r.2.mem ((c.tc : Thread Cert.Kernel7Ideal.nD Cert.Kernel7Ideal.τ).loc Cert.Kernel7Ideal.main_v6_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v69) = v0 c
          ∧ r.2.mem ((c.tc : Thread Cert.Reference7Ideal.nD Cert.Reference7Ideal.τ).loc Cert.Reference7Ideal.main_v84) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v46)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v46) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v78) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v10)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v10) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v39) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite_scores.lean ====
abbrev S32768x3072 : Shape := ⟨2, ![32768, 3072]⟩
abbrev S32768x1536 : Shape := ⟨2, ![32768, 1536]⟩
abbrev S_ : Shape := ⟨0, ![]⟩

class Facts : Prop where
  bitsLt_bf16_f32 : FTy.bits .bf16 < FTy.bits .f32
  bcast_S_S32768x3072 : S_.BroadcastsInDim S32768x3072 (![] : Fin 0 → Fin S32768x3072.rank)

variable [Facts]

def fn {F : FTy → Type} [FloatOps F] (main_arg0 : FVec F S32768x3072 .bf16) (main_arg1 : FVec F S32768x1536 .bf16) : IVec S32768x3072 1 :=
  let main_v0 : FVec F S32768x3072 .f32 := (extf .f32 · bitsLt_bf16_f32) main_arg0
  let main_v1 : FVec F S32768x3072 .f32 := Host.absf main_v0
  let main_cst : FVec F S_ .f32 := constant S_ .f32 0x7F800000#32
  let main_v2 : FVec F S32768x3072 .f32 := broadcastInDim S32768x3072 ![] bcast_S_S32768x3072 main_cst
  let main_v3 : IVec S32768x3072 1 := cmpf .olt main_v1 main_v2
  main_v3
-- ==== Kernel.lean ====
abbrev S32768x3072 : Shape := ⟨2, ![32768, 3072]⟩
abbrev S32768x1536 : Shape := ⟨2, ![32768, 1536]⟩
abbrev S32768x512 : Shape := ⟨2, ![32768, 512]⟩
abbrev S32768x128 : Shape := ⟨2, ![32768, 128]⟩
abbrev S1024x512 : Shape := ⟨2, ![1024, 512]⟩
abbrev S64x512 : Shape := ⟨2, ![64, 512]⟩
abbrev S1024x128 : Shape := ⟨2, ![1024, 128]⟩
abbrev S1152x512 : Shape := ⟨2, ![1152, 512]⟩
abbrev S128x256 : Shape := ⟨2, ![128, 256]⟩
abbrev S128x128 : Shape := ⟨2, ![128, 128]⟩
abbrev S256x128 : Shape := ⟨2, ![256, 128]⟩
abbrev S128 : Shape := ⟨1, ![128]⟩
abbrev S128x1 : Shape := ⟨2, ![128, 1]⟩

abbrev nBuf : Space → Nat
  | .hbm => 4
  | .vmem => 20
  | .smem => 0
  | _ => 0

abbrev bufTy : (tb : Table) → Fin (tcTables nBuf tb) → BufTy
  | .hbm, ⟨0, _⟩ => ⟨S32768x3072, .bf16⟩
  | .hbm, ⟨1, _⟩ => ⟨S32768x1536, .bf16⟩
  | .hbm, ⟨2, _⟩ => ⟨S32768x512, .bf16⟩
  | .hbm, ⟨3, _⟩ => ⟨S32768x128, .f32⟩
  | .local _ .vmem, ⟨0, _⟩ => ⟨S1024x512, .bf16⟩
  | .local _ .vmem, ⟨1, _⟩ => ⟨S1024x512, .bf16⟩
  | .local _ .vmem, ⟨2, _⟩ => ⟨S64x512, .bf16⟩
  | .local _ .vmem, ⟨3, _⟩ => ⟨S64x512, .bf16⟩
  | .local _ .vmem, ⟨4, _⟩ => ⟨S1024x512, .bf16⟩
  | .local _ .vmem, ⟨5, _⟩ => ⟨S1024x512, .bf16⟩
  | .local _ .vmem, ⟨6, _⟩ => ⟨S64x512, .bf16⟩
  | .local _ .vmem, ⟨7, _⟩ => ⟨S64x512, .bf16⟩
  | .local _ .vmem, ⟨8, _⟩ => ⟨S64x512, .bf16⟩
  | .local _ .vmem, ⟨9, _⟩ => ⟨S64x512, .bf16⟩
  | .local _ .vmem, ⟨10, _⟩ => ⟨S1024x512, .bf16⟩
  | .local _ .vmem, ⟨11, _⟩ => ⟨S1024x512, .bf16⟩
  | .local _ .vmem, ⟨12, _⟩ => ⟨S64x512, .bf16⟩
  | .local _ .vmem, ⟨13, _⟩ => ⟨S64x512, .bf16⟩
  | .local _ .vmem, ⟨14, _⟩ => ⟨S1024x512, .bf16⟩
  | .local _ .vmem, ⟨15, _⟩ => ⟨S1024x512, .bf16⟩
  | .local _ .vmem, ⟨16, _⟩ => ⟨S1024x128, .f32⟩
  | .local _ .vmem, ⟨17, _⟩ => ⟨S1024x128, .f32⟩
  | .local _ .vmem, ⟨18, _⟩ => ⟨S1152x512, .bf16⟩
  | .local _ .vmem, ⟨19, _⟩ => ⟨S1152x512, .bf16⟩
  | _, _ => ⟨S32768x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c256_i32 : BitVec 32 := 256#32
  let v0 : BitVec 32 := Scalar.muli arg0 c256_i32
  let c16_i32 : BitVec 32 := 16#32
  let v1 : BitVec 32 := Scalar.muli arg2 c16_i32
  let v2 : BitVec 32 := Scalar.addi v0 v1
  let c1_i32 : BitVec 32 := 1#32
  let v3 : BitVec 32 := Scalar.subi v2 c1_i32
  let c256_i32_0 : BitVec 32 := 256#32
  let v4 : BitVec 32 := Scalar.muli arg0 c256_i32_0
  let v5 : BitVec 32 := Scalar.maxsi v3 v4
  let c3_i32 : BitVec 32 := 3#32
  let c0_i32 : BitVec 32 := 0#32
  ![v5.toNat, c3_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c3_i32 : BitVec 32 := 3#32
  let c0_i32 : BitVec 32 := 0#32
  ![v1.toNat, c3_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c256_i32 : BitVec 32 := 256#32
  let v0 : BitVec 32 := Scalar.muli arg0 c256_i32
  let c1_i32 : BitVec 32 := 1#32
  let v1 : BitVec 32 := Scalar.addi arg2 c1_i32
  let c16_i32 : BitVec 32 := 16#32
  let v2 : BitVec 32 := Scalar.muli v1 c16_i32
  let v3 : BitVec 32 := Scalar.addi v0 v2
  let c1_i32_0 : BitVec 32 := 1#32
  let v4 : BitVec 32 := Scalar.addi arg0 c1_i32_0
  let c256_i32_1 : BitVec 32 := 256#32
  let v5 : BitVec 32 := Scalar.muli v4 c256_i32_1
  let c1_i32_2 : BitVec 32 := 1#32
  let v6 : BitVec 32 := Scalar.subi v5 c1_i32_2
  let v7 : BitVec 32 := Scalar.minsi v3 v6
  let c3_i32 : BitVec 32 := 3#32
  let c0_i32 : BitVec 32 := 0#32
  ![v7.toNat, c3_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c256_i32 : BitVec 32 := 256#32
  let v0 : BitVec 32 := Scalar.muli arg0 c256_i32
  let c16_i32 : BitVec 32 := 16#32
  let v1 : BitVec 32 := Scalar.muli arg2 c16_i32
  let v2 : BitVec 32 := Scalar.addi v0 v1
  let c1_i32 : BitVec 32 := 1#32
  let v3 : BitVec 32 := Scalar.subi v2 c1_i32
  let c256_i32_0 : BitVec 32 := 256#32
  let v4 : BitVec 32 := Scalar.muli arg0 c256_i32_0
  let v5 : BitVec 32 := Scalar.maxsi v3 v4
  let c0_i32 : BitVec 32 := 0#32
  let c0_i32_1 : BitVec 32 := 0#32
  ![v5.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c256_i32 : BitVec 32 := 256#32
  let v0 : BitVec 32 := Scalar.muli arg0 c256_i32
  let c1_i32 : BitVec 32 := 1#32
  let v1 : BitVec 32 := Scalar.addi arg2 c1_i32
  let c16_i32 : BitVec 32 := 16#32
  let v2 : BitVec 32 := Scalar.muli v1 c16_i32
  let v3 : BitVec 32 := Scalar.addi v0 v2
  let c1_i32_0 : BitVec 32 := 1#32
  let v4 : BitVec 32 := Scalar.addi arg0 c1_i32_0
  let c256_i32_1 : BitVec 32 := 256#32
  let v5 : BitVec 32 := Scalar.muli v4 c256_i32_1
  let c1_i32_2 : BitVec 32 := 1#32
  let v6 : BitVec 32 := Scalar.subi v5 c1_i32_2
  let v7 : BitVec 32 := Scalar.minsi v3 v6
  let c0_i32 : BitVec 32 := 0#32
  let c0_i32_3 : BitVec 32 := 0#32
  ![v7.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S32768x3072 : Shape := ⟨2, ![32768, 3072]⟩
abbrev S32768x1536 : Shape := ⟨2, ![32768, 1536]⟩
abbrev S2x16384x2x3x4x128 : Shape := ⟨6, ![2, 16384, 2, 3, 4, 128]⟩
abbrev S2x16384x3x4x128 : Shape := ⟨5, ![2, 16384, 3, 4, 128]⟩
abbrev S2x16384x1x1x4x128 : Shape := ⟨6, ![2, 16384, 1, 1, 4, 128]⟩
abbrev S2x16384x4x128 : Shape := ⟨4, ![2, 16384, 4, 128]⟩
abbrev S2x16384x1x4x128 : Shape := ⟨5, ![2, 16384, 1, 4, 128]⟩
abbrev S_ : Shape := ⟨0, ![]⟩
abbrev S2x1x16384x4x128 : Shape := ⟨5, ![2, 1, 16384, 4, 128]⟩
abbrev S2x1x256x64x4x128 : Shape := ⟨6, ![2, 1, 256, 64, 4, 128]⟩
abbrev S2x1x258x64x4x128 : Shape := ⟨6, ![2, 1, 258, 64, 4, 128]⟩
abbrev S2x1x256x192x4x128 : Shape := ⟨6, ![2, 1, 256, 192, 4, 128]⟩
abbrev S2x1x256x4x64x192 : Shape := ⟨6, ![2, 1, 256, 4, 64, 192]⟩
abbrev S64 : Shape := ⟨1, ![64]⟩
abbrev S192 : Shape := ⟨1, ![192]⟩
abbrev S1x192 : Shape := ⟨2, ![1, 192]⟩
abbrev S64x1 : Shape := ⟨2, ![64, 1]⟩
abbrev S64x192 : Shape := ⟨2, ![64, 192]⟩
abbrev S256 : Shape := ⟨1, ![256]⟩
abbrev S256x1 : Shape := ⟨2, ![256, 1]⟩
abbrev S256x192 : Shape := ⟨2, ![256, 192]⟩
abbrev S1x256x192 : Shape := ⟨3, ![1, 256, 192]⟩
abbrev S1 : Shape := ⟨1, ![1]⟩
abbrev S1x1x1 : Shape := ⟨3, ![1, 1, 1]⟩
abbrev S1x1x64x192 : Shape := ⟨4, ![1, 1, 64, 192]⟩
abbrev S1x256x1x192 : Shape := ⟨4, ![1, 256, 1, 192]⟩
abbrev S1x256x64x192 : Shape := ⟨4, ![1, 256, 64, 192]⟩
abbrev S1x1x256x1x64x192 : Shape := ⟨6, ![1, 1, 256, 1, 64, 192]⟩
abbrev S2x1x256x4x64 : Shape := ⟨5, ![2, 1, 256, 4, 64]⟩
abbrev S2x1x256x4x64x1 : Shape := ⟨6, ![2, 1, 256, 4, 64, 1]⟩
abbrev S2x1x256x4x128x64 : Shape := ⟨6, ![2, 1, 256, 4, 128, 64]⟩
abbrev S2x1x256x64x4 : Shape := ⟨5, ![2, 1, 256, 64, 4]⟩
abbrev S2x1x16384x4 : Shape := ⟨4, ![2, 1, 16384, 4]⟩
abbrev S2x16384x1x4 : Shape := ⟨4, ![2, 16384, 1, 4]⟩
abbrev S2x16384x4 : Shape := ⟨3, ![2, 16384, 4]⟩
abbrev S32768x512 : Shape := ⟨2, ![32768, 512]⟩
abbrev S32768x4 : Shape := ⟨2, ![32768, 4]⟩
abbrev S32768x128 : Shape := ⟨2, ![32768, 128]⟩

abbrev nBuf : Space → Nat
  | .hbm => 123
  | .vmem => 0
  | .smem => 0
  | _ => 0

abbrev bufTy : (tb : Table) → Fin (tcTables nBuf tb) → BufTy
  | .hbm, ⟨0, _⟩ => ⟨S32768x3072, .bf16⟩
  | .hbm, ⟨1, _⟩ => ⟨S32768x1536, .bf16⟩
  | .hbm, ⟨2, _⟩ => ⟨S2x16384x2x3x4x128, .bf16⟩
  | .hbm, ⟨3, _⟩ => ⟨S2x16384x3x4x128, .bf16⟩
  | .hbm, ⟨4, _⟩ => ⟨S2x16384x1x1x4x128, .bf16⟩
  | .hbm, ⟨5, _⟩ => ⟨S2x16384x4x128, .bf16⟩
  | .hbm, ⟨6, _⟩ => ⟨S2x16384x1x1x4x128, .bf16⟩
  | .hbm, ⟨7, _⟩ => ⟨S2x16384x4x128, .bf16⟩
  | .hbm, ⟨8, _⟩ => ⟨S2x16384x1x4x128, .bf16⟩
  | .hbm, ⟨9, _⟩ => ⟨S2x16384x4x128, .bf16⟩
  | .hbm, ⟨10, _⟩ => ⟨S_, .i32⟩
  | .hbm, ⟨11, _⟩ => ⟨S_, .bf16⟩
  | .hbm, ⟨12, _⟩ => ⟨S2x16384x4x128, .bf16⟩
  | .hbm, ⟨13, _⟩ => ⟨S2x16384x1x4x128, .bf16⟩
  | .hbm, ⟨14, _⟩ => ⟨S2x1x16384x4x128, .bf16⟩
  | .hbm, ⟨15, _⟩ => ⟨S2x1x256x64x4x128, .bf16⟩
  | .hbm, ⟨16, _⟩ => ⟨S_, .i32⟩
  | .hbm, ⟨17, _⟩ => ⟨S_, .bf16⟩
  | .hbm, ⟨18, _⟩ => ⟨S2x16384x4x128, .bf16⟩
  | .hbm, ⟨19, _⟩ => ⟨S2x16384x1x4x128, .bf16⟩
  | .hbm, ⟨20, _⟩ => ⟨S2x1x16384x4x128, .bf16⟩
  | .hbm, ⟨21, _⟩ => ⟨S2x1x256x64x4x128, .bf16⟩
  | .hbm, ⟨22, _⟩ => ⟨S_, .i32⟩
  | .hbm, ⟨23, _⟩ => ⟨S_, .bf16⟩
  | .hbm, ⟨24, _⟩ => ⟨S2x1x258x64x4x128, .bf16⟩
  | .hbm, ⟨25, _⟩ => ⟨S2x1x256x64x4x128, .bf16⟩
  | .hbm, ⟨26, _⟩ => ⟨S2x1x256x64x4x128, .bf16⟩
  | .hbm, ⟨27, _⟩ => ⟨S2x1x256x64x4x128, .bf16⟩
  | .hbm, ⟨28, _⟩ => ⟨S2x1x256x192x4x128, .bf16⟩
  | .hbm, ⟨29, _⟩ => ⟨S_, .i32⟩
  | .hbm, ⟨30, _⟩ => ⟨S_, .bf16⟩
  | .hbm, ⟨31, _⟩ => ⟨S2x16384x4x128, .bf16⟩
  | .hbm, ⟨32, _⟩ => ⟨S2x16384x1x4x128, .bf16⟩
  | .hbm, ⟨33, _⟩ => ⟨S2x1x16384x4x128, .bf16⟩
  | .hbm, ⟨34, _⟩ => ⟨S2x1x256x64x4x128, .bf16⟩
  | .hbm, ⟨35, _⟩ => ⟨S_, .i32⟩
  | .hbm, ⟨36, _⟩ => ⟨S_, .bf16⟩
  | .hbm, ⟨37, _⟩ => ⟨S2x1x258x64x4x128, .bf16⟩
  | .hbm, ⟨38, _⟩ => ⟨S2x1x256x64x4x128, .bf16⟩
  | .hbm, ⟨39, _⟩ => ⟨S2x1x256x64x4x128, .bf16⟩
  | .hbm, ⟨40, _⟩ => ⟨S2x1x256x64x4x128, .bf16⟩
  | .hbm, ⟨41, _⟩ => ⟨S2x1x256x192x4x128, .bf16⟩
  | .hbm, ⟨42, _⟩ => ⟨S2x1x256x4x64x192, .f32⟩
  | .hbm, ⟨43, _⟩ => ⟨S64, .i32⟩
  | .hbm, ⟨44, _⟩ => ⟨S192, .i32⟩
  | .hbm, ⟨45, _⟩ => ⟨S_, .i32⟩
  | .hbm, ⟨46, _⟩ => ⟨S192, .i32⟩
  | .hbm, ⟨47, _⟩ => ⟨S192, .i32⟩
  | .hbm, ⟨48, _⟩ => ⟨S1x192, .i32⟩
  | .hbm, ⟨49, _⟩ => ⟨S64x1, .i32⟩
  | .hbm, ⟨50, _⟩ => ⟨S64x192, .i32⟩
  | .hbm, ⟨51, _⟩ => ⟨S64x192, .i32⟩
  | .hbm, ⟨52, _⟩ => ⟨S64x192, .i32⟩
  | .hbm, ⟨53, _⟩ => ⟨S64x192, .i32⟩
  | .hbm, ⟨54, _⟩ => ⟨S_, .i32⟩
  | .hbm, ⟨55, _⟩ => ⟨S64x192, .i32⟩
  | .hbm, ⟨56, _⟩ => ⟨S64x192, .i1⟩
  | .hbm, ⟨57, _⟩ => ⟨S256, .i32⟩
  | .hbm, ⟨58, _⟩ => ⟨S256x1, .i32⟩
  | .hbm, ⟨59, _⟩ => ⟨S_, .i32⟩
  | .hbm, ⟨60, _⟩ => ⟨S256x1, .i32⟩
  | .hbm, ⟨61, _⟩ => ⟨S256x1, .i32⟩
  | .hbm, ⟨62, _⟩ => ⟨S1x192, .i32⟩
  | .hbm, ⟨63, _⟩ => ⟨S256x192, .i32⟩
  | .hbm, ⟨64, _⟩ => ⟨S256x192, .i32⟩
  | .hbm, ⟨65, _⟩ => ⟨S256x192, .i32⟩
  | .hbm, ⟨66, _⟩ => ⟨S1x256x192, .i32⟩
  | .hbm, ⟨67, _⟩ => ⟨S_, .i32⟩
  | .hbm, ⟨68, _⟩ => ⟨S1x256x192, .i32⟩
  | .hbm, ⟨69, _⟩ => ⟨S1x256x192, .i32⟩
  | .hbm, ⟨70, _⟩ => ⟨S1, .i32⟩
  | .hbm, ⟨71, _⟩ => ⟨S1x1x1, .i32⟩
  | .hbm, ⟨72, _⟩ => ⟨S1x256x192, .i32⟩
  | .hbm, ⟨73, _⟩ => ⟨S1x256x192, .i32⟩
  | .hbm, ⟨74, _⟩ => ⟨S_, .i32⟩
  | .hbm, ⟨75, _⟩ => ⟨S256x192, .i32⟩
  | .hbm, ⟨76, _⟩ => ⟨S256x192, .i1⟩
  | .hbm, ⟨77, _⟩ => ⟨S1x256x192, .i1⟩
  | .hbm, ⟨78, _⟩ => ⟨S_, .i32⟩
  | .hbm, ⟨79, _⟩ => ⟨S1x256x192, .i32⟩
  | .hbm, ⟨80, _⟩ => ⟨S1x256x192, .i1⟩
  | .hbm, ⟨81, _⟩ => ⟨S1x256x192, .i1⟩
  | .hbm, ⟨82, _⟩ => ⟨S1x1x64x192, .i1⟩
  | .hbm, ⟨83, _⟩ => ⟨S1x256x1x192, .i1⟩
  | .hbm, ⟨84, _⟩ => ⟨S1x256x64x192, .i1⟩
  | .hbm, ⟨85, _⟩ => ⟨S1x256x64x192, .i1⟩
  | .hbm, ⟨86, _⟩ => ⟨S1x256x64x192, .i1⟩
  | .hbm, ⟨87, _⟩ => ⟨S1x1x256x1x64x192, .i1⟩
  | .hbm, ⟨88, _⟩ => ⟨S_, .f32⟩
  | .hbm, ⟨89, _⟩ => ⟨S_, .f32⟩
  | .hbm, ⟨90, _⟩ => ⟨S2x1x256x4x64x192, .i1⟩
  | .hbm, ⟨91, _⟩ => ⟨S2x1x256x4x64x192, .f32⟩
  | .hbm, ⟨92, _⟩ => ⟨S2x1x256x4x64x192, .f32⟩
  | .hbm, ⟨93, _⟩ => ⟨S_, .f32⟩
  | .hbm, ⟨94, _⟩ => ⟨S2x1x256x4x64, .f32⟩
  | .hbm, ⟨95, _⟩ => ⟨S2x1x256x4x64x1, .f32⟩
  | .hbm, ⟨96, _⟩ => ⟨S2x1x256x4x64x192, .f32⟩
  | .hbm, ⟨97, _⟩ => ⟨S2x1x256x4x64x192, .f32⟩
  | .hbm, ⟨98, _⟩ => ⟨S2x1x256x4x64x192, .f32⟩
  | .hbm, ⟨99, _⟩ => ⟨S_, .f32⟩
  | .hbm, ⟨100, _⟩ => ⟨S2x1x256x4x64, .f32⟩
  | .hbm, ⟨101, _⟩ => ⟨S2x1x256x4x64x1, .f32⟩
  | .hbm, ⟨102, _⟩ => ⟨S2x1x256x4x64x192, .f32⟩
  | .hbm, ⟨103, _⟩ => ⟨S2x1x256x4x64x192, .f32⟩
  | .hbm, ⟨104, _⟩ => ⟨S2x1x256x4x64x192, .bf16⟩
  | .hbm, ⟨105, _⟩ => ⟨S2x1x256x4x128x64, .f32⟩
  | .hbm, ⟨106, _⟩ => ⟨S2x1x256x64x4x128, .f32⟩
  | .hbm, ⟨107, _⟩ => ⟨S2x1x256x4x64x1, .f32⟩
  | .hbm, ⟨108, _⟩ => ⟨S2x1x256x4x64x1, .f32⟩
  | .hbm, ⟨109, _⟩ => ⟨S2x1x256x4x64, .f32⟩
  | .hbm, ⟨110, _⟩ => ⟨S2x1x16384x4x128, .f32⟩
  | .hbm, ⟨111, _⟩ => ⟨S2x16384x1x4x128, .f32⟩
  | .hbm, ⟨112, _⟩ => ⟨S2x16384x4x128, .f32⟩
  | .hbm, ⟨113, _⟩ => ⟨S2x1x256x64x4, .f32⟩
  | .hbm, ⟨114, _⟩ => ⟨S2x1x16384x4, .f32⟩
  | .hbm, ⟨115, _⟩ => ⟨S2x16384x1x4, .f32⟩
  | .hbm, ⟨116, _⟩ => ⟨S2x16384x4, .f32⟩
  | .hbm, ⟨117, _⟩ => ⟨S32768x512, .f32⟩
  | .hbm, ⟨118, _⟩ => ⟨S32768x512, .bf16⟩
  | .hbm, ⟨119, _⟩ => ⟨S32768x4, .f32⟩
  | .hbm, ⟨120, _⟩ => ⟨S_, .i32⟩
  | .hbm, ⟨121, _⟩ => ⟨S_, .f32⟩
  | .hbm, ⟨122, _⟩ => ⟨S32768x128, .f32⟩
  | _, _ => ⟨S32768x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_call0_v0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_call1_v0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_call2_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_2 : Ref sig .tc := ⟨.hbm, 29, rfl⟩
abbrev main_call3_v0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_3 : Ref sig .tc := ⟨.hbm, 35, rfl⟩
abbrev main_call4_v0 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c_5 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_6 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_c_7 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_c_8 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_c_9 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst : Ref sig .tc := ⟨.hbm, 88, rfl⟩
abbrev main_call5_v0 : Ref sig .tc := ⟨.hbm, 89, rfl⟩
abbrev main_call5_v1 : Ref sig .tc := ⟨.hbm, 90, rfl⟩
abbrev main_call5_v2 : Ref sig .tc := ⟨.hbm, 91, rfl⟩
abbrev main_v70 : Ref sig .tc := ⟨.hbm, 92, rfl⟩
abbrev main_cst_10 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_11 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_c_12 : Ref sig .tc := ⟨.hbm, 120, rfl⟩
abbrev main_call6_v0 : Ref sig .tc := ⟨.hbm, 121, rfl⟩
abbrev main_v96 : Ref sig .tc := ⟨.hbm, 122, rfl⟩

abbrev nD : Nat := 1
abbrev τ : Topo := Topo.v7x

variable {F : FTy → Type} [FloatOps F]
-- ==== Kernel2.lean ====
abbrev S32768x2048 : Shape := ⟨2, ![32768, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048x5632 : Shape := ⟨2, ![2048, 5632]⟩
abbrev S5632x2048 : Shape := ⟨2, ![5632, 2048]⟩
abbrev S512x2048 : Shape := ⟨2, ![512, 2048]⟩
abbrev S2048x512 : Shape := ⟨2, ![2048, 512]⟩
abbrev S2048x256 : Shape := ⟨2, ![2048, 256]⟩
abbrev S512x256 : Shape := ⟨2, ![512, 256]⟩
abbrev S512x512 : Shape := ⟨2, ![512, 512]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S1x2048, .f32⟩
  | .hbm, ⟨3, _⟩ => ⟨S1x2048x5632, .f32⟩
  | .hbm, ⟨4, _⟩ => ⟨S1x2048x5632, .f32⟩
  | .hbm, ⟨5, _⟩ => ⟨S1x5632x2048, .f32⟩
  | .hbm, ⟨6, _⟩ => ⟨S2048x5632, .f32⟩
  | .hbm, ⟨7, _⟩ => ⟨S2048x5632, .bf16⟩
  | .hbm, ⟨8, _⟩ => ⟨S2048x5632, .f32⟩
  | .hbm, ⟨9, _⟩ => ⟨S2048x5632, .bf16⟩
  | .hbm, ⟨10, _⟩ => ⟨S5632x2048, .f32⟩
  | .hbm, ⟨11, _⟩ => ⟨S5632x2048, .bf16⟩
  | .hbm, ⟨12, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S1x2048, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .f32⟩
  | .local _ .vmem, ⟨13, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![64, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Kernel2Ideal.lean ====
abbrev S32768x2048 : Shape := ⟨2, ![32768, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048x5632 : Shape := ⟨2, ![2048, 5632]⟩
abbrev S5632x2048 : Shape := ⟨2, ![5632, 2048]⟩
abbrev S512x2048 : Shape := ⟨2, ![512, 2048]⟩
abbrev S2048x512 : Shape := ⟨2, ![2048, 512]⟩
abbrev S2048x256 : Shape := ⟨2, ![2048, 256]⟩
abbrev S512x256 : Shape := ⟨2, ![512, 256]⟩
abbrev S512x512 : Shape := ⟨2, ![512, 512]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S1x2048, .f32⟩
  | .hbm, ⟨3, _⟩ => ⟨S1x2048x5632, .f32⟩
  | .hbm, ⟨4, _⟩ => ⟨S1x2048x5632, .f32⟩
  | .hbm, ⟨5, _⟩ => ⟨S1x5632x2048, .f32⟩
  | .hbm, ⟨6, _⟩ => ⟨S2048x5632, .f32⟩
  | .hbm, ⟨7, _⟩ => ⟨S2048x5632, .bf16⟩
  | .hbm, ⟨8, _⟩ => ⟨S2048x5632, .f32⟩
  | .hbm, ⟨9, _⟩ => ⟨S2048x5632, .bf16⟩
  | .hbm, ⟨10, _⟩ => ⟨S5632x2048, .f32⟩
  | .hbm, ⟨11, _⟩ => ⟨S5632x2048, .bf16⟩
  | .hbm, ⟨12, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S1x2048, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .f32⟩
  | .local _ .vmem, ⟨13, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![64, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S32768x2048 : Shape := ⟨2, ![32768, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048x5632 : Shape := ⟨2, ![2048, 5632]⟩
abbrev S5632x2048 : Shape := ⟨2, ![5632, 2048]⟩
abbrev S32768x5632 : Shape := ⟨2, ![32768, 5632]⟩
abbrev S_ : Shape := ⟨0, ![]⟩
abbrev S2048 : Shape := ⟨1, ![2048]⟩
abbrev S32768 : Shape := ⟨1, ![32768]⟩
abbrev S32768x1 : Shape := ⟨2, ![32768, 1]⟩

abbrev nBuf : Space → Nat
  | .hbm => 44
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S1x2048, .f32⟩
  | .hbm, ⟨3, _⟩ => ⟨S1x2048x5632, .f32⟩
  | .hbm, ⟨4, _⟩ => ⟨S1x2048x5632, .f32⟩
  | .hbm, ⟨5, _⟩ => ⟨S1x5632x2048, .f32⟩
  | .hbm, ⟨6, _⟩ => ⟨S32768x2048, .f32⟩
  | .hbm, ⟨7, _⟩ => ⟨S2048x5632, .f32⟩
  | .hbm, ⟨8, _⟩ => ⟨S2048x5632, .f32⟩
  | .hbm, ⟨9, _⟩ => ⟨S5632x2048, .f32⟩
  | .hbm, ⟨10, _⟩ => ⟨S32768x5632, .f32⟩
  | .hbm, ⟨11, _⟩ => ⟨S32768x5632, .f32⟩
  | .hbm, ⟨12, _⟩ => ⟨S32768x5632, .f32⟩
  | .hbm, ⟨13, _⟩ => ⟨S_, .f32⟩
  | .hbm, ⟨14, _⟩ => ⟨S32768x5632, .f32⟩
  | .hbm, ⟨15, _⟩ => ⟨S32768x5632, .f32⟩
  | .hbm, ⟨16, _⟩ => ⟨S_, .f32⟩
  | .hbm, ⟨17, _⟩ => ⟨S32768x5632, .f32⟩
  | .hbm, ⟨18, _⟩ => ⟨S32768x5632, .f32⟩
  | .hbm, ⟨19, _⟩ => ⟨S32768x5632, .f32⟩
  | .hbm, ⟨20, _⟩ => ⟨S32768x5632, .f32⟩
  | .hbm, ⟨21, _⟩ => ⟨S32768x5632, .f32⟩
  | .hbm, ⟨22, _⟩ => ⟨S32768x2048, .f32⟩
  | .hbm, ⟨23, _⟩ => ⟨S2048, .f32⟩
  | .hbm, ⟨24, _⟩ => ⟨S32768x2048, .f32⟩
  | .hbm, ⟨25, _⟩ => ⟨S_, .f32⟩
  | .hbm, ⟨26, _⟩ => ⟨S32768, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x1, .f32⟩
  | .hbm, ⟨35, _⟩ => ⟨S32768x2048, .f32⟩
  | .hbm, ⟨36, _⟩ => ⟨S32768x2048, .f32⟩
  | .hbm, ⟨37, _⟩ => ⟨S1x2048, .f32⟩
  | .hbm, ⟨38, _⟩ => ⟨S32768x2048, .f32⟩
  | .hbm, ⟨39, _⟩ => ⟨S32768x2048, .f32⟩
  | .hbm, ⟨40, _⟩ => ⟨S_, .f32⟩
  | .hbm, ⟨41, _⟩ => ⟨S32768x2048, .f32⟩
  | .hbm, ⟨42, _⟩ => ⟨S32768x2048, .f32⟩
  | .hbm, ⟨43, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩

abbrev nD : Nat := 1
abbrev τ : Topo := Topo.v7x

variable {F : FTy → Type} [FloatOps F]
-- ==== Kernel3.lean ====
abbrev S2x16384x2048 : Shape := ⟨3, ![2, 16384, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S32768x2048 : Shape := ⟨2, ![32768, 2048]⟩
abbrev S2048x5632 : Shape := ⟨2, ![2048, 5632]⟩
abbrev S5632x2048 : Shape := ⟨2, ![5632, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S2048x256 : Shape := ⟨2, ![2048, 256]⟩
abbrev S512x256 : Shape := ⟨2, ![512, 256]⟩
abbrev S512x512 : Shape := ⟨2, ![512, 512]⟩

abbrev nBuf : Space → Nat
  | .hbm => 16
  | .vmem => 16
  | .smem => 0
  | _ => 0

abbrev bufTy : (tb : Table) → Fin (tcTables nBuf tb) → BufTy
  | .hbm, ⟨0, _⟩ => ⟨S2x16384x2048, .f32⟩
  | .hbm, ⟨1, _⟩ => ⟨S1x2048, .f32⟩
  | .hbm, ⟨2, _⟩ => ⟨S1x2048, .f32⟩
  | .hbm, ⟨3, _⟩ => ⟨S1x2048x5632, .f32⟩
  | .hbm, ⟨4, _⟩ => ⟨S1x2048x5632, .f32⟩
  | .hbm, ⟨5, _⟩ => ⟨S1x5632x2048, .f32⟩
  | .hbm, ⟨6, _⟩ => ⟨S1x2048, .f32⟩
  | .hbm, ⟨7, _⟩ => ⟨S32768x2048, .f32⟩
  | .hbm, ⟨8, _⟩ => ⟨S2048x5632, .f32⟩
  | .hbm, ⟨9, _⟩ => ⟨S2048x5632, .bf16⟩
  | .hbm, ⟨10, _⟩ => ⟨S2048x5632, .f32⟩
  | .hbm, ⟨11, _⟩ => ⟨S2048x5632, .bf16⟩
  | .hbm, ⟨12, _⟩ => ⟨S5632x2048, .f32⟩
  | .hbm, ⟨13, _⟩ => ⟨S5632x2048, .bf16⟩
  | .hbm, ⟨14, _⟩ => ⟨S32768x2048, .f32⟩
  | .hbm, ⟨15, _⟩ => ⟨S32768x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .bf16⟩
  | .local _ .vmem, ⟨15, _⟩ => ⟨S512x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![64, 11], ![false, false]⟩

def k0_cond2 (i : grid0.Coords) : BitVec 1 :=
  let arg1 : BitVec 32 := BitVec.ofNat 32 (i 1).val
  let c10_i32 : BitVec 32 := 10#32
  let v32 : BitVec 1 := Scalar.cmpi .eq arg1 c10_i32
  let v33 : BitVec 32 := Scalar.extui v32
  let c0_i32_19 : BitVec 32 := 0#32
  let v34 : BitVec 1 := Scalar.cmpi .ne v33 c0_i32_19
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference3Ideal.lean ====
abbrev S2x16384x2048 : Shape := ⟨3, ![2, 16384, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S2048x5632 : Shape := ⟨2, ![2048, 5632]⟩
abbrev S5632x2048 : Shape := ⟨2, ![5632, 2048]⟩
abbrev S32768x5632 : Shape := ⟨2, ![32768, 5632]⟩

abbrev nBuf : Space → Nat
  | .hbm => 80
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S1x2048, .f32⟩
  | .hbm, ⟨2, _⟩ => ⟨S1x2048, .f32⟩
  | .hbm, ⟨3, _⟩ => ⟨S1x2048x5632, .f32⟩
  | .hbm, ⟨4, _⟩ => ⟨S1x2048x5632, .f32⟩
  | .hbm, ⟨5, _⟩ => ⟨S1x5632x2048, .f32⟩
  | .hbm, ⟨6, _⟩ => ⟨S1x2048, .f32⟩
  | .hbm, ⟨7, _⟩ => ⟨S32768x2048, .f32⟩
  | .hbm, ⟨8, _⟩ => ⟨S2048, .f32⟩
  | .hbm, ⟨9, _⟩ => ⟨S32768x2048, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1, .f32⟩
  | .hbm, ⟨20, _⟩ => ⟨S32768x2048, .f32⟩
  | .hbm, ⟨21, _⟩ => ⟨S32768x2048, .f32⟩
  | .hbm, ⟨22, _⟩ => ⟨S1x2048, .f32⟩
  | .hbm, ⟨23, _⟩ => ⟨S32768x2048, .f32⟩
  | .hbm, ⟨24, _⟩ => ⟨S32768x2048, .f32⟩
  | .hbm, ⟨25, _⟩ => ⟨S2048x5632, .f32⟩
  | .hbm, ⟨26, _⟩ => ⟨S2048x5632, .f32⟩
  | .hbm, ⟨27, _⟩ => ⟨S5632x2048, .f32⟩
  | .hbm, ⟨28, _⟩ => ⟨S32768x5632, .f32⟩
  | .hbm, ⟨29, _⟩ => ⟨S32768x5632, .f32⟩
  | .hbm, ⟨30, _⟩ => ⟨S32768x5632, .f32⟩
  | .hbm, ⟨31, _⟩ => ⟨S_, .f32⟩
  | .hbm, ⟨32, _⟩ => ⟨S32768x5632, .f32⟩
  | .hbm, ⟨33, _⟩ => ⟨S32768x5632, .f32⟩
  | .hbm, ⟨34, _⟩ => ⟨S_, .f32⟩
  | .hbm, ⟨35, _⟩ => ⟨S32768x5632, .f32⟩
  | .hbm, ⟨36, _⟩ => ⟨S32768x5632, .f32⟩
  | .hbm, ⟨37, _⟩ => ⟨S32768x5632, .f32⟩
  | .hbm, ⟨38, _⟩ => ⟨S32768x5632, .f32⟩
  | .hbm, ⟨39, _⟩ => ⟨S32768x5632, .f32⟩
  | .hbm, ⟨40, _⟩ => ⟨S32768x2048, .f32⟩
  | .hbm, ⟨41, _⟩ => ⟨S2048, .f32⟩
  | .hbm, ⟨42, _⟩ => ⟨S32768x2048, .f32⟩
  | .hbm, ⟨43, _⟩ => ⟨S_, .f32⟩
  | .hbm, ⟨44, _⟩ => ⟨S32768, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S32768x1, .f32⟩
  | .hbm, ⟨53, _⟩ => ⟨S32768x2048, .f32⟩
  | .hbm, ⟨54, _⟩ => ⟨S32768x2048, .f32⟩
  | .hbm, ⟨55, _⟩ => ⟨S1x2048, .f32⟩
  | .hbm, ⟨56, _⟩ => ⟨S32768x2048, .f32⟩
  | .hbm, ⟨57, _⟩ => ⟨S32768x2048, .f32⟩
  | .hbm, ⟨58, _⟩ => ⟨S_, .f32⟩
  | .hbm, ⟨59, _⟩ => ⟨S32768x2048, .f32⟩
  | .hbm, ⟨60, _⟩ => ⟨S32768x2048, .f32⟩
  | .hbm, ⟨61, _⟩ => ⟨S32768x2048, .f32⟩
  | .hbm, ⟨62, _⟩ => ⟨S2048, .f32⟩
  | .hbm, ⟨63, _⟩ => ⟨S32768x2048, .f32⟩
  | .hbm, ⟨64, _⟩ => ⟨S_, .f32⟩
  | .hbm, ⟨65, _⟩ => ⟨S32768, .f32⟩
  | .hbm, ⟨66, _⟩ => ⟨S32768x1, .f32⟩
  | .hbm, ⟨67, _⟩ => ⟨S_, .f32⟩
  | .hbm, ⟨68, _⟩ => ⟨S32768x1, .f32⟩
  | .hbm, ⟨69, _⟩ => ⟨S32768x1, .f32⟩
  | .hbm, ⟨70, _⟩ => ⟨S_, .f32⟩
  | .hbm, ⟨71, _⟩ => ⟨S32768x1, .f32⟩
  | .hbm, ⟨72, _⟩ => ⟨S32768x1, .f32⟩
  | .hbm, ⟨73, _⟩ => ⟨S32768x1, .f32⟩
  | .hbm, ⟨74, _⟩ => ⟨S32768x2048, .f32⟩
  | .hbm, ⟨75, _⟩ => ⟨S32768x2048, .f32⟩
  | .hbm, ⟨76, _⟩ => ⟨S1x2048, .f32⟩
  | .hbm, ⟨77, _⟩ => ⟨S32768x2048, .f32⟩
  | .hbm, ⟨78, _⟩ => ⟨S32768x2048, .f32⟩
  | .hbm, ⟨79, _⟩ => ⟨S32768x2048, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_5 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩

abbrev nD : Nat := 1
abbrev τ : Topo := Topo.v7x

variable {F : FTy → Type} [FloatOps F]
-- ==== Kernel4.lean ====
abbrev S16384x2048 : Shape := ⟨2, ![16384, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048x5632 : Shape := ⟨2, ![2048, 5632]⟩
abbrev S5632x2048 : Shape := ⟨2, ![5632, 2048]⟩
abbrev S512x2048 : Shape := ⟨2, ![512, 2048]⟩
abbrev S2048x512 : Shape := ⟨2, ![2048, 512]⟩
abbrev S2048x256 : Shape := ⟨2, ![2048, 256]⟩
abbrev S512x256 : Shape := ⟨2, ![512, 256]⟩
abbrev S512x512 : Shape := ⟨2, ![512, 512]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S1x2048, .f32⟩
  | .hbm, ⟨3, _⟩ => ⟨S1x2048x5632, .f32⟩
  | .hbm, ⟨4, _⟩ => ⟨S1x2048x5632, .f32⟩
  | .hbm, ⟨5, _⟩ => ⟨S1x5632x2048, .f32⟩
  | .hbm, ⟨6, _⟩ => ⟨S2048x5632, .f32⟩
  | .hbm, ⟨7, _⟩ => ⟨S2048x5632, .bf16⟩
  | .hbm, ⟨8, _⟩ => ⟨S2048x5632, .f32⟩
  | .hbm, ⟨9, _⟩ => ⟨S2048x5632, .bf16⟩
  | .hbm, ⟨10, _⟩ => ⟨S5632x2048, .f32⟩
  | .hbm, ⟨11, _⟩ => ⟨S5632x2048, .bf16⟩
  | .hbm, ⟨12, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S1x2048, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .f32⟩
  | .local _ .vmem, ⟨13, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference4Ideal.lean ====
abbrev S16384x2048 : Shape := ⟨2, ![16384, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048x5632 : Shape := ⟨2, ![2048, 5632]⟩
abbrev S5632x2048 : Shape := ⟨2, ![5632, 2048]⟩
abbrev S16384x5632 : Shape := ⟨2, ![16384, 5632]⟩
abbrev S_ : Shape := ⟨0, ![]⟩
abbrev S2048 : Shape := ⟨1, ![2048]⟩
abbrev S16384 : Shape := ⟨1, ![16384]⟩
abbrev S16384x1 : Shape := ⟨2, ![16384, 1]⟩

abbrev nBuf : Space → Nat
  | .hbm => 44
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S1x2048, .f32⟩
  | .hbm, ⟨3, _⟩ => ⟨S1x2048x5632, .f32⟩
  | .hbm, ⟨4, _⟩ => ⟨S1x2048x5632, .f32⟩
  | .hbm, ⟨5, _⟩ => ⟨S1x5632x2048, .f32⟩
  | .hbm, ⟨6, _⟩ => ⟨S16384x2048, .f32⟩
  | .hbm, ⟨7, _⟩ => ⟨S2048x5632, .f32⟩
  | .hbm, ⟨8, _⟩ => ⟨S2048x5632, .f32⟩
  | .hbm, ⟨9, _⟩ => ⟨S5632x2048, .f32⟩
  | .hbm, ⟨10, _⟩ => ⟨S16384x5632, .f32⟩
  | .hbm, ⟨11, _⟩ => ⟨S16384x5632, .f32⟩
  | .hbm, ⟨12, _⟩ => ⟨S16384x5632, .f32⟩
  | .hbm, ⟨13, _⟩ => ⟨S_, .f32⟩
  | .hbm, ⟨14, _⟩ => ⟨S16384x5632, .f32⟩
  | .hbm, ⟨15, _⟩ => ⟨S16384x5632, .f32⟩
  | .hbm, ⟨16, _⟩ => ⟨S_, .f32⟩
  | .hbm, ⟨17, _⟩ => ⟨S16384x5632, .f32⟩
  | .hbm, ⟨18, _⟩ => ⟨S16384x5632, .f32⟩
  | .hbm, ⟨19, _⟩ => ⟨S16384x5632, .f32⟩
  | .hbm, ⟨20, _⟩ => ⟨S16384x5632, .f32⟩
  | .hbm, ⟨21, _⟩ => ⟨S16384x5632, .f32⟩
  | .hbm, ⟨22, _⟩ => ⟨S16384x2048, .f32⟩
  | .hbm, ⟨23, _⟩ => ⟨S2048, .f32⟩
  | .hbm, ⟨24, _⟩ => ⟨S16384x2048, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S16384x2048, .f32⟩
  | .hbm, ⟨36, _⟩ => ⟨S16384x2048, .f32⟩
  | .hbm, ⟨37, _⟩ => ⟨S1x2048, .f32⟩
  | .hbm, ⟨38, _⟩ => ⟨S16384x2048, .f32⟩
  | .hbm, ⟨39, _⟩ => ⟨S16384x2048, .f32⟩
  | .hbm, ⟨40, _⟩ => ⟨S_, .f32⟩
  | .hbm, ⟨41, _⟩ => ⟨S16384x2048, .f32⟩
  | .hbm, ⟨42, _⟩ => ⟨S16384x2048, .f32⟩
  | .hbm, ⟨43, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩

abbrev nD : Nat := 1
abbrev τ : Topo := Topo.v7x

variable {F : FTy → Type} [FloatOps F]
-- ==== Kernel5.lean ====
abbrev S32768x2048 : Shape := ⟨2, ![32768, 2048]⟩
abbrev S1x2048x11776 : Shape := ⟨3, ![1, 2048, 11776]⟩
abbrev S2048x11776 : Shape := ⟨2, ![2048, 11776]⟩
abbrev S2048x3072 : Shape := ⟨2, ![2048, 3072]⟩
abbrev S2048x1536 : Shape := ⟨2, ![2048, 1536]⟩
abbrev S2048x4096 : Shape := ⟨2, ![2048, 4096]⟩
abbrev S32768x4096 : Shape := ⟨2, ![32768, 4096]⟩
abbrev S1024x2048 : Shape := ⟨2, ![1024, 2048]⟩
abbrev S2048x2048 : Shape := ⟨2, ![2048, 2048]⟩

abbrev nBuf : Space → Nat
  | .hbm => 12
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S1x2048x11776, .f32⟩
  | .hbm, ⟨2, _⟩ => ⟨S2048x11776, .f32⟩
  | .hbm, ⟨3, _⟩ => ⟨S2048x3072, .f32⟩
  | .hbm, ⟨4, _⟩ => ⟨S2048x3072, .bf16⟩
  | .hbm, ⟨5, _⟩ => ⟨S2048x3072, .f32⟩
  | .hbm, ⟨6, _⟩ => ⟨S2048x3072, .bf16⟩
  | .hbm, ⟨7, _⟩ => ⟨S2048x1536, .f32⟩
  | .hbm, ⟨8, _⟩ => ⟨S2048x1536, .bf16⟩
  | .hbm, ⟨9, _⟩ => ⟨S2048x4096, .f32⟩
  | .hbm, ⟨10, _⟩ => ⟨S2048x4096, .bf16⟩
  | .hbm, ⟨11, _⟩ => ⟨S32768x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S32768x2048 : Shape := ⟨2, ![32768, 2048]⟩
abbrev S1x2048x11776 : Shape := ⟨3, ![1, 2048, 11776]⟩
abbrev S2048x11776 : Shape := ⟨2, ![2048, 11776]⟩
abbrev S32768x11776 : Shape := ⟨2, ![32768, 11776]⟩
abbrev S32768x4096 : Shape := ⟨2, ![32768, 4096]⟩

abbrev nBuf : Space → Nat
  | .hbm => 7
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S1x2048x11776, .f32⟩
  | .hbm, ⟨2, _⟩ => ⟨S32768x2048, .f32⟩
  | .hbm, ⟨3, _⟩ => ⟨S2048x11776, .f32⟩
  | .hbm, ⟨4, _⟩ => ⟨S32768x11776, .f32⟩
  | .hbm, ⟨5, _⟩ => ⟨S32768x4096, .f32⟩
  | .hbm, ⟨6, _⟩ => ⟨S32768x4096, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel6.lean ====
abbrev S32768x2048 : Shape := ⟨2, ![32768, 2048]⟩
abbrev S1x2048x11776 : Shape := ⟨3, ![1, 2048, 11776]⟩
abbrev S2048x11776 : Shape := ⟨2, ![2048, 11776]⟩
abbrev S2048x3072 : Shape := ⟨2, ![2048, 3072]⟩
abbrev S2048x1536 : Shape := ⟨2, ![2048, 1536]⟩
abbrev S2048x4096 : Shape := ⟨2, ![2048, 4096]⟩
abbrev S32768x1536 : Shape := ⟨2, ![32768, 1536]⟩
abbrev S1024x2048 : Shape := ⟨2, ![1024, 2048]⟩
abbrev S1024x1536 : Shape := ⟨2, ![1024, 1536]⟩

abbrev nBuf : Space → Nat
  | .hbm => 12
  | .vmem => 5
  | .smem => 0
  | _ => 0

abbrev bufTy : (tb : Table) → Fin (tcTables nBuf tb) → BufTy
  | .hbm, ⟨0, _⟩ => ⟨S32768x2048, .bf16⟩
  | .hbm, ⟨1, _⟩ => ⟨S1x2048x11776, .f32⟩
  | .hbm, ⟨2, _⟩ => ⟨S2048x11776, .f32⟩
  | .hbm, ⟨3, _⟩ => ⟨S2048x3072, .f32⟩
  | .hbm, ⟨4, _⟩ => ⟨S2048x3072, .bf16⟩
  | .hbm, ⟨5, _⟩ => ⟨S2048x3072, .f32⟩
  | .hbm, ⟨6, _⟩ => ⟨S2048x3072, .bf16⟩
  | .hbm, ⟨7, _⟩ => ⟨S2048x1536, .f32⟩
  | .hbm, ⟨8, _⟩ => ⟨S2048x1536, .bf16⟩
  | .hbm, ⟨9, _⟩ => ⟨S2048x4096, .f32⟩
  | .hbm, ⟨10, _⟩ => ⟨S2048x4096, .bf16⟩
  | .hbm, ⟨11, _⟩ => ⟨S32768x1536, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S1024x1536, .bf16⟩
  | .local _ .vmem, ⟨4, _⟩ => ⟨S1024x1536, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S32768x2048 : Shape := ⟨2, ![32768, 2048]⟩
abbrev S1x2048x11776 : Shape := ⟨3, ![1, 2048, 11776]⟩
abbrev S2048x11776 : Shape := ⟨2, ![2048, 11776]⟩
abbrev S32768x11776 : Shape := ⟨2, ![32768, 11776]⟩
abbrev S32768x4608 : Shape := ⟨2, ![32768, 4608]⟩
abbrev S32768x3x1536 : Shape := ⟨3, ![32768, 3, 1536]⟩
abbrev S32768x1x1536 : Shape := ⟨3, ![32768, 1, 1536]⟩
abbrev S32768x1536 : Shape := ⟨2, ![32768, 1536]⟩

abbrev nBuf : Space → Nat
  | .hbm => 10
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S1x2048x11776, .f32⟩
  | .hbm, ⟨2, _⟩ => ⟨S32768x2048, .f32⟩
  | .hbm, ⟨3, _⟩ => ⟨S2048x11776, .f32⟩
  | .hbm, ⟨4, _⟩ => ⟨S32768x11776, .f32⟩
  | .hbm, ⟨5, _⟩ => ⟨S32768x4608, .f32⟩
  | .hbm, ⟨6, _⟩ => ⟨S32768x3x1536, .f32⟩
  | .hbm, ⟨7, _⟩ => ⟨S32768x1x1536, .f32⟩
  | .hbm, ⟨8, _⟩ => ⟨S32768x1536, .f32⟩
  | .hbm, ⟨9, _⟩ => ⟨S32768x1536, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel7.lean ====
abbrev S32768x2048 : Shape := ⟨2, ![32768, 2048]⟩
abbrev S32768x1024 : Shape := ⟨2, ![32768, 1024]⟩
abbrev S32768x512 : Shape := ⟨2, ![32768, 512]⟩
abbrev S32768x128 : Shape := ⟨2, ![32768, 128]⟩
abbrev S32768x4096 : Shape := ⟨2, ![32768, 4096]⟩
abbrev S1x2048 : Shape := ⟨2, ![1, 2048]⟩
abbrev S1x1024x2048 : Shape := ⟨3, ![1, 1024, 2048]⟩
abbrev S1x512x2048 : Shape := ⟨3, ![1, 512, 2048]⟩
abbrev S1x2048x2048 : Shape := ⟨3, ![1, 2048, 2048]⟩
abbrev S1024x2048 : Shape := ⟨2, ![1024, 2048]⟩
abbrev S512x2048 : Shape := ⟨2, ![512, 2048]⟩
abbrev S2048x2048 : Shape := ⟨2, ![2048, 2048]⟩
abbrev S512x1024 : Shape := ⟨2, ![512, 1024]⟩
abbrev S512x512 : Shape := ⟨2, ![512, 512]⟩
abbrev S512x128 : Shape := ⟨2, ![512, 128]⟩
abbrev S512x1 : Shape := ⟨2, ![512, 1]⟩
abbrev S512 : Shape := ⟨1, ![512]⟩

abbrev nBuf : Space → Nat
  | .hbm => 22
  | .vmem => 29
  | .smem => 0
  | _ => 0

abbrev bufTy : (tb : Table) → Fin (tcTables nBuf tb) → BufTy
  | .hbm, ⟨0, _⟩ => ⟨S32768x2048, .f32⟩
  | .hbm, ⟨1, _⟩ => ⟨S32768x1024, .bf16⟩
  | .hbm, ⟨2, _⟩ => ⟨S32768x512, .bf16⟩
  | .hbm, ⟨3, _⟩ => ⟨S32768x512, .bf16⟩
  | .hbm, ⟨4, _⟩ => ⟨S32768x512, .bf16⟩
  | .hbm, ⟨5, _⟩ => ⟨S32768x128, .f32⟩
  | .hbm, ⟨6, _⟩ => ⟨S32768x128, .f32⟩
  | .hbm, ⟨7, _⟩ => ⟨S32768x128, .f32⟩
  | .hbm, ⟨8, _⟩ => ⟨S32768x4096, .bf16⟩
  | .hbm, ⟨9, _⟩ => ⟨S1x2048, .f32⟩
  | .hbm, ⟨10, _⟩ => ⟨S1x2048, .f32⟩
  | .hbm, ⟨11, _⟩ => ⟨S1x1024x2048, .f32⟩
  | .hbm, ⟨12, _⟩ => ⟨S1x512x2048, .f32⟩
  | .hbm, ⟨13, _⟩ => ⟨S1x2048x2048, .f32⟩
  | .hbm, ⟨14, _⟩ => ⟨S1024x2048, .f32⟩
  | .hbm, ⟨15, _⟩ => ⟨S1024x2048, .bf16⟩
  | .hbm, ⟨16, _⟩ => ⟨S512x2048, .f32⟩
  | .hbm, ⟨17, _⟩ => ⟨S512x2048, .bf16⟩
  | .hbm, ⟨18, _⟩ => ⟨S2048x2048, .f32⟩
  | .hbm, ⟨19, _⟩ => ⟨S2048x2048, .bf16⟩
  | .hbm, ⟨20, _⟩ => ⟨S32768x2048, .f32⟩
  | .hbm, ⟨21, _⟩ => ⟨S32768x2048, .bf16⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x2048, .bf16⟩
  | .local _ .vmem, ⟨17, _⟩ => ⟨S512x2048, .bf16⟩
  | .local _ .vmem, ⟨18, _⟩ => ⟨S512x2048, .bf16⟩
  | .local _ .vmem, ⟨19, _⟩ => ⟨S512x2048, .bf16⟩
  | .local _ .vmem, ⟨20, _⟩ => ⟨S1x2048, .f32⟩
  | .local _ .vmem, ⟨21, _⟩ => ⟨S1x2048, .f32⟩
  | .local _ .vmem, ⟨22, _⟩ => ⟨S1024x2048, .bf16⟩
  | .local _ .vmem, ⟨23, _⟩ => ⟨S512x2048, .bf16⟩
  | .local _ .vmem, ⟨24, _⟩ => ⟨S2048x2048, .bf16⟩
  | .local _ .vmem, ⟨25, _⟩ => ⟨S512x2048, .f32⟩
  | .local _ .vmem, ⟨26, _⟩ => ⟨S512x2048, .f32⟩
  | .local _ .vmem, ⟨27, _⟩ => ⟨S512x2048, .bf16⟩
  | .local _ .vmem, ⟨28, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6_0 : Ref sig .tc := ⟨.hbm, 20, rfl⟩
abbrev main_v6_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2048x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference7Ideal.lean ====
abbrev S32768x2048 : Shape := ⟨2, ![32768, 2048]⟩
abbrev S32768x1024 : Shape := ⟨2, ![32768, 1024]⟩
abbrev S32768x512 : Shape := ⟨2, ![32768, 512]⟩
abbrev S32768x128 : Shape := ⟨2, ![32768, 128]⟩
abbrev S32768x4096 : Shape := ⟨2, ![32768, 4096]⟩
abbrev S1x2048 : Shape := ⟨2, ![1, 2048]⟩
abbrev S1x1024x2048 : Shape := ⟨3, ![1, 1024, 2048]⟩
abbrev S1x512x2048 : Shape := ⟨3, ![1, 512, 2048]⟩
abbrev S1x2048x2048 : Shape := ⟨3, ![1, 2048, 2048]⟩
abbrev S_ : Shape := ⟨0, ![]⟩
abbrev S32768x2x2048 : Shape := ⟨3, ![32768, 2, 2048]⟩
abbrev S1024x2048 : Shape := ⟨2, ![1024, 2048]⟩
abbrev S32768x4x128 : Shape := ⟨3, ![32768, 4, 128]⟩
abbrev S32768x4 : Shape := ⟨2, ![32768, 4]⟩
abbrev S1x32768x4 : Shape := ⟨3, ![1, 32768, 4]⟩
abbrev S3x32768x4 : Shape := ⟨3, ![3, 32768, 4]⟩
abbrev S3x32768x4x1 : Shape := ⟨4, ![3, 32768, 4, 1]⟩
abbrev S1x32768x4x128 : Shape := ⟨4, ![1, 32768, 4, 128]⟩
abbrev S3x32768x4x128 : Shape := ⟨4, ![3, 32768, 4, 128]⟩
abbrev S512x2048 : Shape := ⟨2, ![512, 2048]⟩
abbrev S32768x1x2048 : Shape := ⟨3, ![32768, 1, 2048]⟩
abbrev S2048x2048 : Shape := ⟨2, ![2048, 2048]⟩
abbrev S2048 : Shape := ⟨1, ![2048]⟩
abbrev S32768 : Shape := ⟨1, ![32768]⟩
abbrev S32768x1 : Shape := ⟨2, ![32768, 1]⟩

abbrev nBuf : Space → Nat
  | .hbm => 111
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x1024, .bf16⟩
  | .hbm, ⟨2, _⟩ => ⟨S32768x512, .bf16⟩
  | .hbm, ⟨3, _⟩ => ⟨S32768x512, .bf16⟩
  | .hbm, ⟨4, _⟩ => ⟨S32768x512, .bf16⟩
  | .hbm, ⟨5, _⟩ => ⟨S32768x128, .f32⟩
  | .hbm, ⟨6, _⟩ => ⟨S32768x128, .f32⟩
  | .hbm, ⟨7, _⟩ => ⟨S32768x128, .f32⟩
  | .hbm, ⟨8, _⟩ => ⟨S32768x4096, .bf16⟩
  | .hbm, ⟨9, _⟩ => ⟨S1x2048, .f32⟩
  | .hbm, ⟨10, _⟩ => ⟨S1x2048, .f32⟩
  | .hbm, ⟨11, _⟩ => ⟨S1x1024x2048, .f32⟩
  | .hbm, ⟨12, _⟩ => ⟨S1x512x2048, .f32⟩
  | .hbm, ⟨13, _⟩ => ⟨S1x2048x2048, .f32⟩
  | .hbm, ⟨14, _⟩ => ⟨S32768x4096, .f32⟩
  | .hbm, ⟨15, _⟩ => ⟨S32768x4096, .f32⟩
  | .hbm, ⟨16, _⟩ => ⟨S32768x4096, .f32⟩
  | .hbm, ⟨17, _⟩ => ⟨S_, .f32⟩
  | .hbm, ⟨18, _⟩ => ⟨S32768x4096, .f32⟩
  | .hbm, ⟨19, _⟩ => ⟨S32768x4096, .f32⟩
  | .hbm, ⟨20, _⟩ => ⟨S_, .f32⟩
  | .hbm, ⟨21, _⟩ => ⟨S32768x4096, .f32⟩
  | .hbm, ⟨22, _⟩ => ⟨S32768x4096, .f32⟩
  | .hbm, ⟨23, _⟩ => ⟨S32768x2x2048, .f32⟩
  | .hbm, ⟨24, _⟩ => ⟨S32768x1024, .f32⟩
  | .hbm, ⟨25, _⟩ => ⟨S1024x2048, .f32⟩
  | .hbm, ⟨26, _⟩ => ⟨S32768x2048, .f32⟩
  | .hbm, ⟨27, _⟩ => ⟨S32768x512, .f32⟩
  | .hbm, ⟨28, _⟩ => ⟨S32768x4x128, .f32⟩
  | .hbm, ⟨29, _⟩ => ⟨S32768x512, .f32⟩
  | .hbm, ⟨30, _⟩ => ⟨S32768x4x128, .f32⟩
  | .hbm, ⟨31, _⟩ => ⟨S32768x512, .f32⟩
  | .hbm, ⟨32, _⟩ => ⟨S32768x4x128, .f32⟩
  | .hbm, ⟨33, _⟩ => ⟨S32768x4, .f32⟩
  | .hbm, ⟨34, _⟩ => ⟨S32768x4, .f32⟩
  | .hbm, ⟨35, _⟩ => ⟨S32768x4, .f32⟩
  | .hbm, ⟨36, _⟩ => ⟨S1x32768x4, .f32⟩
  | .hbm, ⟨37, _⟩ => ⟨S1x32768x4, .f32⟩
  | .hbm, ⟨38, _⟩ => ⟨S1x32768x4, .f32⟩
  | .hbm, ⟨39, _⟩ => ⟨S3x32768x4, .f32⟩
  | .hbm, ⟨40, _⟩ => ⟨S_, .f32⟩
  | .hbm, ⟨41, _⟩ => ⟨S32768x4, .f32⟩
  | .hbm, ⟨42, _⟩ => ⟨S_, .f32⟩
  | .hbm, ⟨43, _⟩ => ⟨S32768x4, .f32⟩
  | .hbm, ⟨44, _⟩ => ⟨S32768x4, .f32⟩
  | .hbm, ⟨45, _⟩ => ⟨S1x32768x4, .f32⟩
  | .hbm, ⟨46, _⟩ => ⟨S3x32768x4, .f32⟩
  | .hbm, ⟨47, _⟩ => ⟨S3x32768x4, .f32⟩
  | .hbm, ⟨48, _⟩ => ⟨S3x32768x4, .f32⟩
  | .hbm, ⟨49, _⟩ => ⟨S_, .f32⟩
  | .hbm, ⟨50, _⟩ => ⟨S32768x4, .f32⟩
  | .hbm, ⟨51, _⟩ => ⟨S1x32768x4, .f32⟩
  | .hbm, ⟨52, _⟩ => ⟨S3x32768x4, .f32⟩
  | .hbm, ⟨53, _⟩ => ⟨S3x32768x4, .f32⟩
  | .hbm, ⟨54, _⟩ => ⟨S3x32768x4x1, .f32⟩
  | .hbm, ⟨55, _⟩ => ⟨S1x32768x4x128, .f32⟩
  | .hbm, ⟨56, _⟩ => ⟨S1x32768x4x128, .f32⟩
  | .hbm, ⟨57, _⟩ => ⟨S1x32768x4x128, .f32⟩
  | .hbm, ⟨58, _⟩ => ⟨S3x32768x4x128, .f32⟩
  | .hbm, ⟨59, _⟩ => ⟨S3x32768x4x128, .f32⟩
  | .hbm, ⟨60, _⟩ => ⟨S3x32768x4x128, .f32⟩
  | .hbm, ⟨61, _⟩ => ⟨S_, .f32⟩
  | .hbm, ⟨62, _⟩ => ⟨S32768x4x128, .f32⟩
  | .hbm, ⟨63, _⟩ => ⟨S32768x512, .f32⟩
  | .hbm, ⟨64, _⟩ => ⟨S512x2048, .f32⟩
  | .hbm, ⟨65, _⟩ => ⟨S32768x2048, .f32⟩
  | .hbm, ⟨66, _⟩ => ⟨S32768x1x2048, .f32⟩
  | .hbm, ⟨67, _⟩ => ⟨S32768x2048, .f32⟩
  | .hbm, ⟨68, _⟩ => ⟨S32768x2048, .f32⟩
  | .hbm, ⟨69, _⟩ => ⟨S32768x1x2048, .f32⟩
  | .hbm, ⟨70, _⟩ => ⟨S32768x2048, .f32⟩
  | .hbm, ⟨71, _⟩ => ⟨S32768x2048, .f32⟩
  | .hbm, ⟨72, _⟩ => ⟨S32768x2048, .f32⟩
  | .hbm, ⟨73, _⟩ => ⟨S2048x2048, .f32⟩
  | .hbm, ⟨74, _⟩ => ⟨S32768x2048, .f32⟩
  | .hbm, ⟨75, _⟩ => ⟨S2048, .f32⟩
  | .hbm, ⟨76, _⟩ => ⟨S32768x2048, .f32⟩
  | .hbm, ⟨77, _⟩ => ⟨S_, .f32⟩
  | .hbm, ⟨78, _⟩ => ⟨S32768, .f32⟩
  | .hbm, ⟨79, _⟩ => ⟨S32768x1, .f32⟩
  | .hbm, ⟨80, _⟩ => ⟨S_, .f32⟩
  | .hbm, ⟨81, _⟩ => ⟨S32768x1, .f32⟩
  | .hbm, ⟨82, _⟩ => ⟨S32768x1, .f32⟩
  | .hbm, ⟨83, _⟩ => ⟨S_, .f32⟩
  | .hbm, ⟨84, _⟩ => ⟨S32768x1, .f32⟩
  | .hbm, ⟨85, _⟩ => ⟨S32768x1, .f32⟩
  | .hbm, ⟨86, _⟩ => ⟨S32768x1, .f32⟩
  | .hbm, ⟨87, _⟩ => ⟨S32768x2048, .f32⟩
  | .hbm, ⟨88, _⟩ => ⟨S32768x2048, .f32⟩
  | .hbm, ⟨89, _⟩ => ⟨S1x2048, .f32⟩
  | .hbm, ⟨90, _⟩ => ⟨S32768x2048, .f32⟩
  | .hbm, ⟨91, _⟩ => ⟨S32768x2048, .f32⟩
  | .hbm, ⟨92, _⟩ => ⟨S32768x2048, .f32⟩
  | .hbm, ⟨93, _⟩ => ⟨S2048, .f32⟩
  | .hbm, ⟨94, _⟩ => ⟨S32768x2048, .f32⟩
  | .hbm, ⟨95, _⟩ => ⟨S_, .f32⟩
  | .hbm, ⟨96, _⟩ => ⟨S32768, .f32⟩
  | .hbm, ⟨97, _⟩ => ⟨S32768x1, .f32⟩
  | .hbm, ⟨98, _⟩ => ⟨S_, .f32⟩
  | .hbm, ⟨99, _⟩ => ⟨S32768x1, .f32⟩
  | .hbm, ⟨100, _⟩ => ⟨S32768x1, .f32⟩
  | .hbm, ⟨101, _⟩ => ⟨S_, .f32⟩
  | .hbm, ⟨102, _⟩ => ⟨S32768x1, .f32⟩
  | .hbm, ⟨103, _⟩ => ⟨S32768x1, .f32⟩
  | .hbm, ⟨104, _⟩ => ⟨S32768x1, .f32⟩
  | .hbm, ⟨105, _⟩ => ⟨S32768x2048, .f32⟩
  | .hbm, ⟨106, _⟩ => ⟨S32768x2048, .f32⟩
  | .hbm, ⟨107, _⟩ => ⟨S1x2048, .f32⟩
  | .hbm, ⟨108, _⟩ => ⟨S32768x2048, .f32⟩
  | .hbm, ⟨109, _⟩ => ⟨S32768x2048, .f32⟩
  | .hbm, ⟨110, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_1 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_4 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_5 : Ref sig .tc := ⟨.hbm, 77, rfl⟩
abbrev main_v57 : Ref sig .tc := ⟨.hbm, 78, rfl⟩
abbrev main_v58 : Ref sig .tc := ⟨.hbm, 79, rfl⟩
abbrev main_cst_6 : Ref sig .tc := ⟨.hbm, 80, rfl⟩
abbrev main_v59 : Ref sig .tc := ⟨.hbm, 81, rfl⟩
abbrev main_v60 : Ref sig .tc := ⟨.hbm, 82, rfl⟩
abbrev main_cst_7 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_8 : Ref sig .tc := ⟨.hbm, 95, rfl⟩
abbrev main_v72 : Ref sig .tc := ⟨.hbm, 96, rfl⟩
abbrev main_v73 : Ref sig .tc := ⟨.hbm, 97, rfl⟩
abbrev main_cst_9 : Ref sig .tc := ⟨.hbm, 98, rfl⟩
abbrev main_v74 : Ref sig .tc := ⟨.hbm, 99, rfl⟩
abbrev main_v75 : Ref sig .tc := ⟨.hbm, 100, rfl⟩
abbrev main_cst_10 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩

abbrev nD : Nat := 1
abbrev τ : Topo := Topo.v7x

variable {F : FTy → Type} [FloatOps F]
-- ==== Kernel8.lean ====
abbrev S32768x2048 : Shape := ⟨2, ![32768, 2048]⟩
abbrev S1x2048x11776 : Shape := ⟨3, ![1, 2048, 11776]⟩
abbrev S2048x11776 : Shape := ⟨2, ![2048, 11776]⟩
abbrev S2048x3072 : Shape := ⟨2, ![2048, 3072]⟩
abbrev S2048x1536 : Shape := ⟨2, ![2048, 1536]⟩
abbrev S2048x4096 : Shape := ⟨2, ![2048, 4096]⟩
abbrev S16 : Shape := ⟨1, ![16]⟩
abbrev S_ : Shape := ⟨0, ![]⟩
abbrev S16384 : Shape := ⟨1, ![16384]⟩
abbrev S16384x1 : Shape := ⟨2, ![16384, 1]⟩
abbrev S1x16 : Shape := ⟨2, ![1, 16]⟩
abbrev S16384x16 : Shape := ⟨2, ![16384, 16]⟩
abbrev S16384x96 : Shape := ⟨2, ![16384, 96]⟩
abbrev S16384x128 : Shape := ⟨2, ![16384, 128]⟩
abbrev S16384x112 : Shape := ⟨2, ![16384, 112]⟩
abbrev S1x16384x128 : Shape := ⟨3, ![1, 16384, 128]⟩
abbrev S2x16384x128 : Shape := ⟨3, ![2, 16384, 128]⟩
abbrev S32768x3072 : Shape := ⟨2, ![32768, 3072]⟩
abbrev S1024x2048 : Shape := ⟨2, ![1024, 2048]⟩
abbrev S1x1024x128 : Shape := ⟨3, ![1, 1024, 128]⟩
abbrev S1024x1536 : Shape := ⟨2, ![1024, 1536]⟩
abbrev S1024x128 : Shape := ⟨2, ![1024, 128]⟩

abbrev nBuf : Space → Nat
  | .hbm => 58
  | .vmem => 12
  | .smem => 0
  | _ => 0

abbrev bufTy : (tb : Table) → Fin (tcTables nBuf tb) → BufTy
  | .hbm, ⟨0, _⟩ => ⟨S32768x2048, .bf16⟩
  | .hbm, ⟨1, _⟩ => ⟨S1x2048x11776, .f32⟩
  | .hbm, ⟨2, _⟩ => ⟨S2048x11776, .f32⟩
  | .hbm, ⟨3, _⟩ => ⟨S2048x3072, .f32⟩
  | .hbm, ⟨4, _⟩ => ⟨S2048x3072, .bf16⟩
  | .hbm, ⟨5, _⟩ => ⟨S2048x3072, .f32⟩
  | .hbm, ⟨6, _⟩ => ⟨S2048x3072, .bf16⟩
  | .hbm, ⟨7, _⟩ => ⟨S2048x1536, .f32⟩
  | .hbm, ⟨8, _⟩ => ⟨S2048x1536, .bf16⟩
  | .hbm, ⟨9, _⟩ => ⟨S2048x4096, .f32⟩
  | .hbm, ⟨10, _⟩ => ⟨S2048x4096, .bf16⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S16384, .f32⟩
  | .hbm, ⟨20, _⟩ => ⟨S16384x1, .f32⟩
  | .hbm, ⟨21, _⟩ => ⟨S1x16, .f32⟩
  | .hbm, ⟨22, _⟩ => ⟨S16384x16, .f32⟩
  | .hbm, ⟨23, _⟩ => ⟨S16384x16, .f32⟩
  | .hbm, ⟨24, _⟩ => ⟨S16384x16, .f32⟩
  | .hbm, ⟨25, _⟩ => ⟨S16384x16, .f32⟩
  | .hbm, ⟨26, _⟩ => ⟨S16384x16, .f32⟩
  | .hbm, ⟨27, _⟩ => ⟨S_, .f32⟩
  | .hbm, ⟨28, _⟩ => ⟨S16384x96, .f32⟩
  | .hbm, ⟨29, _⟩ => ⟨S16384x128, .f32⟩
  | .hbm, ⟨30, _⟩ => ⟨S16384x16, .f32⟩
  | .hbm, ⟨31, _⟩ => ⟨S_, .f32⟩
  | .hbm, ⟨32, _⟩ => ⟨S16384x112, .f32⟩
  | .hbm, ⟨33, _⟩ => ⟨S16384x128, .f32⟩
  | .hbm, ⟨34, _⟩ => ⟨S_, .f32⟩
  | .hbm, ⟨35, _⟩ => ⟨S16384x16, .f32⟩
  | .hbm, ⟨36, _⟩ => ⟨S_, .f32⟩
  | .hbm, ⟨37, _⟩ => ⟨S16384x96, .f32⟩
  | .hbm, ⟨38, _⟩ => ⟨S16384x128, .f32⟩
  | .hbm, ⟨39, _⟩ => ⟨S_, .f32⟩
  | .hbm, ⟨40, _⟩ => ⟨S16384x128, .f32⟩
  | .hbm, ⟨41, _⟩ => ⟨S16384x128, .f32⟩
  | .hbm, ⟨42, _⟩ => ⟨S1x16384x128, .f32⟩
  | .hbm, ⟨43, _⟩ => ⟨S1x16384x128, .f32⟩
  | .hbm, ⟨44, _⟩ => ⟨S2x16384x128, .f32⟩
  | .hbm, ⟨45, _⟩ => ⟨S_, .f32⟩
  | .hbm, ⟨46, _⟩ => ⟨S16384x128, .f32⟩
  | .hbm, ⟨47, _⟩ => ⟨S16384x128, .f32⟩
  | .hbm, ⟨48, _⟩ => ⟨S1x16384x128, .f32⟩
  | .hbm, ⟨49, _⟩ => ⟨S1x16384x128, .f32⟩
  | .hbm, ⟨50, _⟩ => ⟨S2x16384x128, .f32⟩
  | .hbm, ⟨51, _⟩ => ⟨S_, .f32⟩
  | .hbm, ⟨52, _⟩ => ⟨S16384x128, .f32⟩
  | .hbm, ⟨53, _⟩ => ⟨S16384x128, .f32⟩
  | .hbm, ⟨54, _⟩ => ⟨S1x16384x128, .f32⟩
  | .hbm, ⟨55, _⟩ => ⟨S1x16384x128, .f32⟩
  | .hbm, ⟨56, _⟩ => ⟨S2x16384x128, .f32⟩
  | .hbm, ⟨57, _⟩ => ⟨S32768x3072, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | .local _ .vmem, ⟨8, _⟩ => ⟨S1x1024x128, .f32⟩
  | .local _ .vmem, ⟨9, _⟩ => ⟨S1x1024x128, .f32⟩
  | .local _ .vmem, ⟨10, _⟩ => ⟨S1024x1536, .bf16⟩
  | .local _ .vmem, ⟨11, _⟩ => ⟨S1024x1536, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_1 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_2 : Ref sig .tc := ⟨.hbm, 31, rfl⟩
abbrev main_v26 : Ref sig .tc := ⟨.hbm, 32, rfl⟩
abbrev main_v27 : Ref sig .tc := ⟨.hbm, 33, rfl⟩
abbrev main_cst_3 : Ref sig .tc := ⟨.hbm, 34, rfl⟩
abbrev main_v28 : Ref sig .tc := ⟨.hbm, 35, rfl⟩
abbrev main_cst_4 : Ref sig .tc := ⟨.hbm, 36, rfl⟩
abbrev main_v29 : Ref sig .tc := ⟨.hbm, 37, rfl⟩
abbrev main_v30 : Ref sig .tc := ⟨.hbm, 38, rfl⟩
abbrev main_cst_5 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_6 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_7 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![arg1.toNat, v9.toNat, c0_i32_3.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![arg1.toNat, v9.toNat, c0_i32_3.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![arg1.toNat, v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference8Ideal.lean ====
abbrev S32768x2048 : Shape := ⟨2, ![32768, 2048]⟩
abbrev S1x2048x11776 : Shape := ⟨3, ![1, 2048, 11776]⟩
abbrev S2048x11776 : Shape := ⟨2, ![2048, 11776]⟩
abbrev S32768x11776 : Shape := ⟨2, ![32768, 11776]⟩
abbrev S32768x4608 : Shape := ⟨2, ![32768, 4608]⟩
abbrev S2x16384x3x12x128 : Shape := ⟨5, ![2, 16384, 3, 12, 128]⟩
abbrev S16384 : Shape := ⟨1, ![16384]⟩
abbrev S2x16384x1x12x128 : Shape := ⟨5, ![2, 16384, 1, 12, 128]⟩
abbrev S2x16384x12x128 : Shape := ⟨4, ![2, 16384, 12, 128]⟩
abbrev S16 : Shape := ⟨1, ![16]⟩
abbrev S_ : Shape := ⟨0, ![]⟩
abbrev S16384x1 : Shape := ⟨2, ![16384, 1]⟩
abbrev S1x16 : Shape := ⟨2, ![1, 16]⟩
abbrev S16384x16 : Shape := ⟨2, ![16384, 16]⟩
abbrev S1x16384x1x16 : Shape := ⟨4, ![1, 16384, 1, 16]⟩
abbrev S2x16384x12x32 : Shape := ⟨4, ![2, 16384, 12, 32]⟩
abbrev S2x16384x12x16 : Shape := ⟨4, ![2, 16384, 12, 16]⟩
abbrev S2x16384x12x96 : Shape := ⟨4, ![2, 16384, 12, 96]⟩
abbrev S2x16384x2x12x128 : Shape := ⟨5, ![2, 16384, 2, 12, 128]⟩
abbrev S32768x3072 : Shape := ⟨2, ![32768, 3072]⟩

abbrev nBuf : Space → Nat
  | .hbm => 86
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S1x2048x11776, .f32⟩
  | .hbm, ⟨2, _⟩ => ⟨S32768x2048, .f32⟩
  | .hbm, ⟨3, _⟩ => ⟨S2048x11776, .f32⟩
  | .hbm, ⟨4, _⟩ => ⟨S32768x11776, .f32⟩
  | .hbm, ⟨5, _⟩ => ⟨S32768x4608, .f32⟩
  | .hbm, ⟨6, _⟩ => ⟨S2x16384x3x12x128, .f32⟩
  | .hbm, ⟨7, _⟩ => ⟨S16384, .f32⟩
  | .hbm, ⟨8, _⟩ => ⟨S2x16384x1x12x128, .f32⟩
  | .hbm, ⟨9, _⟩ => ⟨S2x16384x12x128, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S16384x1, .f32⟩
  | .hbm, ⟨19, _⟩ => ⟨S1x16, .f32⟩
  | .hbm, ⟨20, _⟩ => ⟨S16384x16, .f32⟩
  | .hbm, ⟨21, _⟩ => ⟨S16384x16, .f32⟩
  | .hbm, ⟨22, _⟩ => ⟨S16384x16, .f32⟩
  | .hbm, ⟨23, _⟩ => ⟨S16384x16, .f32⟩
  | .hbm, ⟨24, _⟩ => ⟨S1x16384x1x16, .f32⟩
  | .hbm, ⟨25, _⟩ => ⟨S16384x16, .f32⟩
  | .hbm, ⟨26, _⟩ => ⟨S1x16384x1x16, .f32⟩
  | .hbm, ⟨27, _⟩ => ⟨S2x16384x12x32, .f32⟩
  | .hbm, ⟨28, _⟩ => ⟨S2x16384x12x16, .f32⟩
  | .hbm, ⟨29, _⟩ => ⟨S2x16384x12x16, .f32⟩
  | .hbm, ⟨30, _⟩ => ⟨S2x16384x12x16, .f32⟩
  | .hbm, ⟨31, _⟩ => ⟨S2x16384x12x16, .f32⟩
  | .hbm, ⟨32, _⟩ => ⟨S2x16384x12x16, .f32⟩
  | .hbm, ⟨33, _⟩ => ⟨S2x16384x12x16, .f32⟩
  | .hbm, ⟨34, _⟩ => ⟨S2x16384x12x16, .f32⟩
  | .hbm, ⟨35, _⟩ => ⟨S2x16384x12x16, .f32⟩
  | .hbm, ⟨36, _⟩ => ⟨S2x16384x12x16, .f32⟩
  | .hbm, ⟨37, _⟩ => ⟨S2x16384x12x16, .f32⟩
  | .hbm, ⟨38, _⟩ => ⟨S2x16384x12x16, .f32⟩
  | .hbm, ⟨39, _⟩ => ⟨S2x16384x12x16, .f32⟩
  | .hbm, ⟨40, _⟩ => ⟨S2x16384x12x32, .f32⟩
  | .hbm, ⟨41, _⟩ => ⟨S2x16384x12x96, .f32⟩
  | .hbm, ⟨42, _⟩ => ⟨S2x16384x12x128, .f32⟩
  | .hbm, ⟨43, _⟩ => ⟨S_, .f32⟩
  | .hbm, ⟨44, _⟩ => ⟨S2x16384x12x128, .f32⟩
  | .hbm, ⟨45, _⟩ => ⟨S2x16384x12x128, .f32⟩
  | .hbm, ⟨46, _⟩ => ⟨S2x16384x1x12x128, .f32⟩
  | .hbm, ⟨47, _⟩ => ⟨S2x16384x12x128, .f32⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S16384x1, .f32⟩
  | .hbm, ⟨57, _⟩ => ⟨S1x16, .f32⟩
  | .hbm, ⟨58, _⟩ => ⟨S16384x16, .f32⟩
  | .hbm, ⟨59, _⟩ => ⟨S16384x16, .f32⟩
  | .hbm, ⟨60, _⟩ => ⟨S16384x16, .f32⟩
  | .hbm, ⟨61, _⟩ => ⟨S16384x16, .f32⟩
  | .hbm, ⟨62, _⟩ => ⟨S1x16384x1x16, .f32⟩
  | .hbm, ⟨63, _⟩ => ⟨S16384x16, .f32⟩
  | .hbm, ⟨64, _⟩ => ⟨S1x16384x1x16, .f32⟩
  | .hbm, ⟨65, _⟩ => ⟨S2x16384x12x32, .f32⟩
  | .hbm, ⟨66, _⟩ => ⟨S2x16384x12x16, .f32⟩
  | .hbm, ⟨67, _⟩ => ⟨S2x16384x12x16, .f32⟩
  | .hbm, ⟨68, _⟩ => ⟨S2x16384x12x16, .f32⟩
  | .hbm, ⟨69, _⟩ => ⟨S2x16384x12x16, .f32⟩
  | .hbm, ⟨70, _⟩ => ⟨S2x16384x12x16, .f32⟩
  | .hbm, ⟨71, _⟩ => ⟨S2x16384x12x16, .f32⟩
  | .hbm, ⟨72, _⟩ => ⟨S2x16384x12x16, .f32⟩
  | .hbm, ⟨73, _⟩ => ⟨S2x16384x12x16, .f32⟩
  | .hbm, ⟨74, _⟩ => ⟨S2x16384x12x16, .f32⟩
  | .hbm, ⟨75, _⟩ => ⟨S2x16384x12x16, .f32⟩
  | .hbm, ⟨76, _⟩ => ⟨S2x16384x12x16, .f32⟩
  | .hbm, ⟨77, _⟩ => ⟨S2x16384x12x16, .f32⟩
  | .hbm, ⟨78, _⟩ => ⟨S2x16384x12x32, .f32⟩
  | .hbm, ⟨79, _⟩ => ⟨S2x16384x12x96, .f32⟩
  | .hbm, ⟨80, _⟩ => ⟨S2x16384x12x128, .f32⟩
  | .hbm, ⟨81, _⟩ => ⟨S2x16384x1x12x128, .f32⟩
  | .hbm, ⟨82, _⟩ => ⟨S2x16384x1x12x128, .f32⟩
  | .hbm, ⟨83, _⟩ => ⟨S2x16384x2x12x128, .f32⟩
  | .hbm, ⟨84, _⟩ => ⟨S32768x3072, .f32⟩
  | .hbm, ⟨85, _⟩ => ⟨S32768x3072, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_cst_1 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_cst_2 : Ref sig .tc := ⟨.hbm, 50, rfl⟩
abbrev main_v45 : Ref sig .tc := ⟨.hbm, 51, rfl⟩
abbrev main_v46 : Ref sig .tc := ⟨.hbm, 52, rfl⟩
abbrev main_cst_3 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩

abbrev nD : Nat := 1
abbrev τ : Topo := Topo.v7x

variable {F : FTy → Type} [FloatOps F]
-- ==== Kernel9.lean ====
abbrev S32768x2048 : Shape := ⟨2, ![32768, 2048]⟩
abbrev S1x2048x11776 : Shape := ⟨3, ![1, 2048, 11776]⟩
abbrev S1x3x3072 : Shape := ⟨3, ![1, 3, 3072]⟩
abbrev S1x3072 : Shape := ⟨2, ![1, 3072]⟩
abbrev S2048x11776 : Shape := ⟨2, ![2048, 11776]⟩
abbrev S2048x3072 : Shape := ⟨2, ![2048, 3072]⟩
abbrev S2048x1536 : Shape := ⟨2, ![2048, 1536]⟩
abbrev S2048x4096 : Shape := ⟨2, ![2048, 4096]⟩
abbrev S3x3072 : Shape := ⟨2, ![3, 3072]⟩
abbrev S3x32768x1024 : Shape := ⟨3, ![3, 32768, 1024]⟩
abbrev S1024x2048 : Shape := ⟨2, ![1024, 2048]⟩
abbrev S16x2048 : Shape := ⟨2, ![16, 2048]⟩
abbrev S2048x1024 : Shape := ⟨2, ![2048, 1024]⟩
abbrev S3x1024 : Shape := ⟨2, ![3, 1024]⟩
abbrev S1x1024 : Shape := ⟨2, ![1, 1024]⟩
abbrev S1x1024x1024 : Shape := ⟨3, ![1, 1024, 1024]⟩
abbrev S1056x2048 : Shape := ⟨2, ![1056, 2048]⟩
abbrev S1056x1024 : Shape := ⟨2, ![1056, 1024]⟩
abbrev S1024x1024 : Shape := ⟨2, ![1024, 1024]⟩

abbrev nBuf : Space → Nat
  | .hbm => 15
  | .vmem => 15
  | .smem => 0
  | _ => 0

abbrev bufTy : (tb : Table) → Fin (tcTables nBuf tb) → BufTy
  | .hbm, ⟨0, _⟩ => ⟨S32768x2048, .bf16⟩
  | .hbm, ⟨1, _⟩ => ⟨S1x2048x11776, .f32⟩
  | .hbm, ⟨2, _⟩ => ⟨S1x3x3072, .f32⟩
  | .hbm, ⟨3, _⟩ => ⟨S1x3072, .f32⟩
  | .hbm, ⟨4, _⟩ => ⟨S2048x11776, .f32⟩
  | .hbm, ⟨5, _⟩ => ⟨S2048x3072, .f32⟩
  | .hbm, ⟨6, _⟩ => ⟨S2048x3072, .bf16⟩
  | .hbm, ⟨7, _⟩ => ⟨S2048x3072, .f32⟩
  | .hbm, ⟨8, _⟩ => ⟨S2048x3072, .bf16⟩
  | .hbm, ⟨9, _⟩ => ⟨S2048x1536, .f32⟩
  | .hbm, ⟨10, _⟩ => ⟨S2048x1536, .bf16⟩
  | .hbm, ⟨11, _⟩ => ⟨S2048x4096, .f32⟩
  | .hbm, ⟨12, _⟩ => ⟨S2048x4096, .bf16⟩
  | .hbm, ⟨13, _⟩ => ⟨S3x3072, .f32⟩
  | .hbm, ⟨14, _⟩ => ⟨S3x32768x1024, .bf16⟩
  | .local _ .vmem, ⟨0, _⟩ => ⟨S1024x2048, .bf16⟩
  | .local _ .vmem, ⟨1, _⟩ => ⟨S1024x2048, .bf16⟩
  | .local _ .vmem, ⟨2, _⟩ => ⟨S16x2048, .bf16⟩
  | .local _ .vmem, ⟨3, _⟩ => ⟨S16x2048, .bf16⟩
  | .local _ .vmem, ⟨4, _⟩ => ⟨S16x2048, .bf16⟩
  | .local _ .vmem, ⟨5, _⟩ => ⟨S16x2048, .bf16⟩
  | .local _ .vmem, ⟨6, _⟩ => ⟨S2048x1024, .bf16⟩
  | .local _ .vmem, ⟨7, _⟩ => ⟨S2048x1024, .bf16⟩
  | .local _ .vmem, ⟨8, _⟩ => ⟨S3x1024, .f32⟩
  | .local _ .vmem, ⟨9, _⟩ => ⟨S3x1024, .f32⟩
  | .local _ .vmem, ⟨10, _⟩ => ⟨S1x1024, .f32⟩
  | .local _ .vmem, ⟨11, _⟩ => ⟨S1x1024, .f32⟩
  | .local _ .vmem, ⟨12, _⟩ => ⟨S1x1024x1024, .bf16⟩
  | .local _ .vmem, ⟨13, _⟩ => ⟨S1x1024x1024, .bf16⟩
  | .local _ .vmem, ⟨14, _⟩ => ⟨S1056x2048, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference9Ideal.lean ====
abbrev S32768x2048 : Shape := ⟨2, ![32768, 2048]⟩
abbrev S1x2048x11776 : Shape := ⟨3, ![1, 2048, 11776]⟩
abbrev S1x3x3072 : Shape := ⟨3, ![1, 3, 3072]⟩
abbrev S1x3072 : Shape := ⟨2, ![1, 3072]⟩
abbrev S2048x11776 : Shape := ⟨2, ![2048, 11776]⟩
abbrev S32768x11776 : Shape := ⟨2, ![32768, 11776]⟩
abbrev S2x16384x11776 : Shape := ⟨3, ![2, 16384, 11776]⟩
abbrev S2x16384x3072 : Shape := ⟨3, ![2, 16384, 3072]⟩
abbrev S3x3072 : Shape := ⟨2, ![3, 3072]⟩
abbrev S3072 : Shape := ⟨1, ![3072]⟩
abbrev S_ : Shape := ⟨0, ![]⟩
abbrev S2x16386x3072 : Shape := ⟨3, ![2, 16386, 3072]⟩
abbrev S1x1x3072 : Shape := ⟨3, ![1, 1, 3072]⟩
abbrev S32768x3072 : Shape := ⟨2, ![32768, 3072]⟩
abbrev S32768x1024 : Shape := ⟨2, ![32768, 1024]⟩
abbrev S1x32768x1024 : Shape := ⟨3, ![1, 32768, 1024]⟩
abbrev S3x32768x1024 : Shape := ⟨3, ![3, 32768, 1024]⟩

abbrev nBuf : Space → Nat
  | .hbm => 46
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S1x2048x11776, .f32⟩
  | .hbm, ⟨2, _⟩ => ⟨S1x3x3072, .f32⟩
  | .hbm, ⟨3, _⟩ => ⟨S1x3072, .f32⟩
  | .hbm, ⟨4, _⟩ => ⟨S32768x2048, .f32⟩
  | .hbm, ⟨5, _⟩ => ⟨S2048x11776, .f32⟩
  | .hbm, ⟨6, _⟩ => ⟨S32768x11776, .f32⟩
  | .hbm, ⟨7, _⟩ => ⟨S2x16384x11776, .f32⟩
  | .hbm, ⟨8, _⟩ => ⟨S2x16384x3072, .f32⟩
  | .hbm, ⟨9, _⟩ => ⟨S3x3072, .f32⟩
  | .hbm, ⟨10, _⟩ => ⟨S3072, .f32⟩
  | .hbm, ⟨11, _⟩ => ⟨S_, .i32⟩
  | .hbm, ⟨12, _⟩ => ⟨S_, .f32⟩
  | .hbm, ⟨13, _⟩ => ⟨S2x16386x3072, .f32⟩
  | .hbm, ⟨14, _⟩ => ⟨S2x16384x3072, .f32⟩
  | .hbm, ⟨15, _⟩ => ⟨S1x3072, .f32⟩
  | .hbm, ⟨16, _⟩ => ⟨S3072, .f32⟩
  | .hbm, ⟨17, _⟩ => ⟨S1x1x3072, .f32⟩
  | .hbm, ⟨18, _⟩ => ⟨S2x16384x3072, .f32⟩
  | .hbm, ⟨19, _⟩ => ⟨S2x16384x3072, .f32⟩
  | .hbm, ⟨20, _⟩ => ⟨S2x16384x3072, .f32⟩
  | .hbm, ⟨21, _⟩ => ⟨S1x3072, .f32⟩
  | .hbm, ⟨22, _⟩ => ⟨S3072, .f32⟩
  | .hbm, ⟨23, _⟩ => ⟨S1x1x3072, .f32⟩
  | .hbm, ⟨24, _⟩ => ⟨S2x16384x3072, .f32⟩
  | .hbm, ⟨25, _⟩ => ⟨S2x16384x3072, .f32⟩
  | .hbm, ⟨26, _⟩ => ⟨S2x16384x3072, .f32⟩
  | .hbm, ⟨27, _⟩ => ⟨S2x16384x3072, .f32⟩
  | .hbm, ⟨28, _⟩ => ⟨S1x3072, .f32⟩
  | .hbm, ⟨29, _⟩ => ⟨S3072, .f32⟩
  | .hbm, ⟨30, _⟩ => ⟨S1x1x3072, .f32⟩
  | .hbm, ⟨31, _⟩ => ⟨S2x16384x3072, .f32⟩
  | .hbm, ⟨32, _⟩ => ⟨S2x16384x3072, .f32⟩
  | .hbm, ⟨33, _⟩ => ⟨S2x16384x3072, .f32⟩
  | .hbm, ⟨34, _⟩ => ⟨S1x1x3072, .f32⟩
  | .hbm, ⟨35, _⟩ => ⟨S2x16384x3072, .f32⟩
  | .hbm, ⟨36, _⟩ => ⟨S2x16384x3072, .f32⟩
  | .hbm, ⟨37, _⟩ => ⟨S32768x3072, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S1x32768x1024, .f32⟩
  | .hbm, ⟨42, _⟩ => ⟨S1x32768x1024, .f32⟩
  | .hbm, ⟨43, _⟩ => ⟨S1x32768x1024, .f32⟩
  | .hbm, ⟨44, _⟩ => ⟨S3x32768x1024, .f32⟩
  | .hbm, ⟨45, _⟩ => ⟨S3x32768x1024, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩

abbrev nD : Nat := 1
abbrev τ : Topo := Topo.v7x

variable {F : FTy → Type} [FloatOps F]
-- ==== Proof.AttnVocab.lean ====
/-
What one grid point of the attention kernel leaves in its two output blocks: thirty-two pieces of 128 queries by 128
columns (eight strips of queries, four heads) and eight strips of the softmax denominators' logarithms.
-/
module
public import proofs.«01_k».proof.Proof.Gen.KernelIdeal.Value
public import Idealize.ShloMosaic.Lib.Pipeline.ValueKit
public import Idealize.ShloMosaic.Lib.Pipeline.ReadBack

@[expose] public section

set_option maxRecDepth 16384
noncomputable section

open Idealize.ShloMosaic Idealize.ShloMosaic.TcCoe Idealize.SL.Sem
open Idealize.ShloMosaic.Pipeline (Dat)

namespace Cert.Attn
open Cert.KernelIdeal Cert.KernelIdeal.Gen Cert.KernelIdeal.Value

/-- Query number of a strip, along the rows. -/
def rowNo : IVec S128x256 32 := iota .tc S128x256 32 [0] iota_S128x256_d0_w32

/-- Key number of a strip's window, along the columns. -/
def colNo : IVec S128x256 32 := iota .tc S128x256 32 [1] iota_S128x256_d1_w32

/-- Key `c` is within 64 places of query `r`: `r ≤ c ≤ r + 128`. -/
def band : IVec S128x256 1 :=
  andi (cmpi .sge colNo rowNo) (cmpi .sle colNo (addi rowNo (broadcast S128x256 128#32)))

/-- The position in the sequence of each key of the window. -/
def keyPos (a o : BitVec 32) : IVec S128x256 32 :=
  addi (broadcast S128x256 (Scalar.addi (Scalar.muli a 1024#32) o)) colNo

/-- The keys a query attends: in its band and in the sequence. -/
def mask (a o : BitVec 32) : IVec S128x256 1 :=
  andi (andi band (cmpi .sge (keyPos a o) (broadcast S128x256 0#32)))
    (cmpi .slt (keyPos a o) (broadcast S128x256 16384#32))

/-- The scores of a strip of queries against its window of keys, the masked ones at the named mask value. -/
def scores (mk : IVec S128x256 1) (q : FVec Ideal S128x128 .bf16) (k : FVec Ideal S256x128 .bf16) :
    FVec Ideal S128x256 .f32 :=
  select mk (matmul dot_S128x128_S256x128_S128x256_1_1_0_0_n_n none q k (constant S128x256 .f32 0x00000000#32))
    (broadcast S128x256 (Named.named κ "mask" 0xF149F2CA#32))

/-- The greatest score of each query. -/
def rowMax (s : FVec Ideal S128x256 .f32) : FVec Ideal S128x1 .f32 :=
  shapeCast S128x1 (multiReduction .maximumf [1] S128 s 0xFF800000#32 reduces_S128x256_S128 (.inl rfl) rfl)
    shapeCasts_S128_S128x1

/-- The exponentials of the scores less the greatest. -/
def weights (s : FVec Ideal S128x256 .f32) : FVec Ideal S128x256 .f32 :=
  exp (subf s (broadcastTo S128x256 (rowMax s) broadcasts_S128x1_S128x256))

/-- The sum of each query's weights. -/
def rowSum (s : FVec Ideal S128x256 .f32) : FVec Ideal S128x1 .f32 :=
  shapeCast S128x1 (multiReduction .add [1] S128 (weights s) 0x00000000#32 reduces_S128x256_S128 (.inl rfl) rfl)
    shapeCasts_S128_S128x1

/-- One head of one strip: the weighted sum of the values over the sum of the weights. -/
def headOut (s : FVec Ideal S128x256 .f32) (v : FVec Ideal S256x128 .bf16) : FVec Ideal S128x128 .bf16 :=
  truncf .bf16 (divf (matmul (F := Ideal) dot_S128x256_S256x128_S128x128_1_0_0_1_n_n none
      (truncf .bf16 (weights s) bitsLt_bf16_f32) v (constant S128x128 .f32 0x00000000#32))
    (broadcastTo S128x128 (rowSum s) broadcasts_S128x1_S128x128)) bitsLt_bf16_f32

/-- The logarithm of a query's softmax denominator: the greatest score plus the logarithm of the sum of weights. -/
def logDen (s : FVec Ideal S128x256 .f32) : FVec Ideal S128x1 .f32 := addf (rowMax s) (log (rowSum s))

/-- The lane `h` of a strip replaced by a column. -/
def putLane (h : BitVec 32) (x : FVec Ideal S128x1 .f32) (prev : FVec Ideal S128x128 .f32) :
    FVec Ideal S128x128 .f32 :=
  select (cmpi .eq (iota .tc S128x128 32 [1] iota_S128x128_d1_w32) (broadcast S128x128 h))
    (broadcastTo S128x128 (shapeCast S128x1 x shapeCasts_S128x1_S128x1) broadcasts_S128x1_S128x128) prev

/-- A block of keys or values with the 64 rows before it and the 64 after. -/
def halo (kp : Vec Ideal S64x512 .bf16) (kc : Vec Ideal S1024x512 .bf16) (kn : Vec Ideal S64x512 .bf16) :
    Vec Ideal S1152x512 .bf16 :=
  View.canon
    [⟨Rect.unit ![1088, 0] ![64, 512] (by decide), kn⟩,
     ⟨Rect.unit ![64, 0] ![1024, 512] (by decide), kc⟩,
     ⟨Rect.unit ![0, 0] ![64, 512] (by decide), kp⟩]

/-- The corner of strip `i`, head `h`. -/
def corner (i : Fin 8) (h : Fin 4) : Fin 2 → ℕ := ![128 * i.val, 128 * h.val]

theorem tile_fits (i : Fin 8) (h : Fin 4) :
    ∀ a : Fin S1024x512.rank, corner i h a + (![128, 128] : Fin 2 → ℕ) a ≤ S1024x512.size a := by
  revert i h; decide

theorem window_fits (i : Fin 8) (h : Fin 4) :
    ∀ a : Fin S1152x512.rank, corner i h a + (![256, 128] : Fin 2 → ℕ) a ≤ S1152x512.size a := by
  revert i h; decide

theorem strip_fits (i : Fin 8) :
    ∀ a : Fin S1024x128.rank, (![128 * i.val, 0] : Fin 2 → ℕ) a + (![128, 128] : Fin 2 → ℕ) a ≤ S1024x128.size a := by
  revert i; decide

/-- The queries of strip `i`, head `h`. -/
def tile (X : Vec Ideal S1024x512 .bf16) (i : Fin 8) (h : Fin 4) : Vec Ideal S128x128 .bf16 :=
  View.ld X (Rect.unit (corner i h) ![128, 128] (tile_fits i h))

/-- The window of keys (or values) of strip `i`, head `h`. -/
def window (X : Vec Ideal S1152x512 .bf16) (i : Fin 8) (h : Fin 4) : Vec Ideal S256x128 .bf16 :=
  View.ld X (Rect.unit (corner i h) ![256, 128] (window_fits i h))

/-- The offset word of strip `i`: its first key lies 64 before its first query. -/
def stripWord : Fin 8 → BitVec 32 :=
  ![4294967232#32, 64#32, 192#32, 320#32, 448#32, 576#32, 704#32, 832#32]

/-- The scores of strip `i`, head `h` of a block. -/
def blkScores (a : BitVec 32) (Q : Vec Ideal S1024x512 .bf16) (K : Vec Ideal S1152x512 .bf16) (i : Fin 8) (h : Fin 4) :
    FVec Ideal S128x256 .f32 := scores (mask a (stripWord i)) (tile Q i h) (window K i h)

/-- The piece strip `i`, head `h` writes in the output block. -/
def outPiece (a : BitVec 32) (Q : Vec Ideal S1024x512 .bf16) (K V : Vec Ideal S1152x512 .bf16) (i : Fin 8) (h : Fin 4) :
    View.Piece (Elt Ideal) S1024x512 .bf16 :=
  ⟨Rect.unit (corner i h) ![128, 128] (tile_fits i h), headOut (blkScores a Q K i h) (window V i h)⟩

/-- The piece strip `i` writes in the block of logarithms: head `h` in lane `h`, nought in the others. -/
def lsePiece (a : BitVec 32) (Q : Vec Ideal S1024x512 .bf16) (K : Vec Ideal S1152x512 .bf16) (i : Fin 8) :
    View.Piece (Elt Ideal) S1024x128 .f32 :=
  ⟨Rect.unit ![128 * i.val, 0] ![128, 128] (strip_fits i),
    putLane 3#32 (logDen (blkScores a Q K i 3)) (putLane 2#32 (logDen (blkScores a Q K i 2))
      (putLane 1#32 (logDen (blkScores a Q K i 1)) (putLane 0#32 (logDen (blkScores a Q K i 0))
        (broadcast S128x128 (Scalar.ofBits .f32 0x00000000#32)))))⟩

variable (m : (ℓ : Loc nD τ sig) → Buf (Elt Ideal) ℓ)

/-- The grid point's place in the sequence. -/
def seqWord (t : Fin cfg0.N) : BitVec 32 := BitVec.ofNat 32 ((grid0.coords t 2 : Fin _) : ℕ)

/-- The query block. -/
def qBlk (c : Dev nD) (t : Fin cfg0.N) : Vec Ideal S1024x512 .bf16 := iblk m c 0 t

/-- The key block with its neighbours. -/
def kBlk (c : Dev nD) (t : Fin cfg0.N) : Vec Ideal S1152x512 .bf16 := halo (iblk m c 1 t) (iblk m c 2 t) (iblk m c 3 t)

/-- The value block with its neighbours. -/
def vBlk (c : Dev nD) (t : Fin cfg0.N) : Vec Ideal S1152x512 .bf16 := halo (iblk m c 4 t) (iblk m c 5 t) (iblk m c 6 t)

/-- The pieces of a list in the order the strips and heads are written, the last first. -/
def outList {α : Type _} (P : Fin 8 → Fin 4 → α) : List α :=
    [P 7 3, P 7 2, P 7 1, P 7 0,
     P 6 3, P 6 2, P 6 1, P 6 0,
     P 5 3, P 5 2, P 5 1, P 5 0,
     P 4 3, P 4 2, P 4 1, P 4 0,
     P 3 3, P 3 2, P 3 1, P 3 0,
     P 2 3, P 2 2, P 2 1, P 2 0,
     P 1 3, P 1 2, P 1 1, P 1 0,
     P 0 3, P 0 2, P 0 1, P 0 0]

/-- The strips in the order they are written, the last first. -/
def lseList {α : Type _} (P : Fin 8 → α) : List α := [P 7, P 6, P 5, P 4, P 3, P 2, P 1, P 0]

/-- `outPiece` with the corner and the offset word written out. -/
def outPieceAt (a w : BitVec 32) (Q : Vec Ideal S1024x512 .bf16) (K V : Vec Ideal S1152x512 .bf16) (off : Fin 2 → ℕ)
    (h1 : ∀ a : Fin S1024x512.rank, off a + (![128, 128] : Fin 2 → ℕ) a ≤ S1024x512.size a)
    (h2 : ∀ a : Fin S1152x512.rank, off a + (![256, 128] : Fin 2 → ℕ) a ≤ S1152x512.size a) :
    View.Piece (Elt Ideal) S1024x512 .bf16 :=
  ⟨Rect.unit off ![128, 128] h1, headOut (scores (mask a w) (View.ld Q (Rect.unit off ![128, 128] h1))
    (View.ld K (Rect.unit off ![256, 128] h2))) (View.ld V (Rect.unit off ![256, 128] h2))⟩

/-- One piece of the list at its strip and head. -/
theorem cons_out {p : View.Piece (Elt Ideal) S1024x512 .bf16} {L L' : List (View.Piece (Elt Ideal) S1024x512 .bf16)}
    (a w : BitVec 32) (Q : Vec Ideal S1024x512 .bf16) (K V : Vec Ideal S1152x512 .bf16) (i : Fin 8) (h : Fin 4)
    (off : Fin 2 → ℕ) (h1 h2) (hp : p = outPieceAt a w Q K V off h1 h2) (ho : off = corner i h) (hw : w = stripWord i)
    (hL : L = L') : p :: L = outPiece a Q K V i h :: L' := by
  subst ho hw; rw [hp, hL]; rfl

/-- The scores of a strip and head whose corner is written out. -/
def scoresAt (a w : BitVec 32) (Q : Vec Ideal S1024x512 .bf16) (K : Vec Ideal S1152x512 .bf16) (off : Fin 2 → ℕ)
    (h1 : ∀ a : Fin S1024x512.rank, off a + (![128, 128] : Fin 2 → ℕ) a ≤ S1024x512.size a)
    (h2 : ∀ a : Fin S1152x512.rank, off a + (![256, 128] : Fin 2 → ℕ) a ≤ S1152x512.size a) :
    FVec Ideal S128x256 .f32 :=
  scores (mask a w) (View.ld Q (Rect.unit off ![128, 128] h1)) (View.ld K (Rect.unit off ![256, 128] h2))

/-- The piece of logarithms from the scores of the four heads. -/
def lsePieceOf (off : Fin 2 → ℕ) (h1 : ∀ a : Fin S1024x128.rank, off a + (![128, 128] : Fin 2 → ℕ) a ≤ S1024x128.size a)
    (s0 s1 s2 s3 : FVec Ideal S128x256 .f32) : View.Piece (Elt Ideal) S1024x128 .f32 :=
  ⟨Rect.unit off ![128, 128] h1, putLane 3#32 (logDen s3) (putLane 2#32 (logDen s2) (putLane 1#32 (logDen s1)
    (putLane 0#32 (logDen s0) (broadcast S128x128 (Scalar.ofBits .f32 0x00000000#32)))))⟩

/-- One strip of the list of logarithms. -/
theorem cons_lse {p : View.Piece (Elt Ideal) S1024x128 .f32} {L L' : List (View.Piece (Elt Ideal) S1024x128 .f32)}
    (a w : BitVec 32) (Q : Vec Ideal S1024x512 .bf16) (K : Vec Ideal S1152x512 .bf16) (i : Fin 8)
    (off o0 o1 o2 o3 : Fin 2 → ℕ) (h a0 a1 a2 a3 b0 b1 b2 b3)
    (hp : p = lsePieceOf off h (scoresAt a w Q K o0 a0 b0) (scoresAt a w Q K o1 a1 b1) (scoresAt a w Q K o2 a2 b2)
      (scoresAt a w Q K o3 a3 b3)) (ho : off = ![128 * i.val, 0])
    (e0 : o0 = corner i 0) (e1 : o1 = corner i 1) (e2 : o2 = corner i 2) (e3 : o3 = corner i 3)
    (hw : w = stripWord i) (hL : L = L') : p :: L = lsePiece a Q K i :: L' := by
  subst ho e0 e1 e2 e3 hw; rw [hp, hL]; rfl

/-- A read of the three pieces of a block and its neighbours is a read of `halo`. -/
theorem halo_fold (kp : Vec Ideal S64x512 .bf16) (kc : Vec Ideal S1024x512 .bf16) (kn : Vec Ideal S64x512 .bf16)
    (h1 h2 h3) (r : Rect S1152x512) :
    (fun j => View.canon (Val := Elt Ideal) (e := .bf16)
      [⟨Rect.unit (s := S1152x512) ![1088, 0] ![64, 512] h1, kn⟩,
       ⟨Rect.unit (s := S1152x512) ![64, 0] ![1024, 512] h2, kc⟩,
       ⟨Rect.unit (s := S1152x512) ![0, 0] ![64, 512] h3, kp⟩] (r.idx j)) = View.ld (halo kp kc kn) r := rfl

end Cert.Attn
-- ==== Proof.AttnBlock.lean ====
/-
The blocks of one grid point, as the run leaves them, are the pieces of the attention's vocabulary.
-/
module
public import proofs.«01_k».proof.Proof.AttnVocab
public import Idealize.ShloMosaic.Lib.Pipeline.ValueKit
public import Idealize.ShloMosaic.Lib.Pipeline.ReadBack

@[expose] public section

set_option maxRecDepth 16384
noncomputable section

open Idealize.ShloMosaic Idealize.ShloMosaic.TcCoe Idealize.SL.Sem
open Idealize.ShloMosaic.Pipeline (Dat)

namespace Cert.Attn
open Cert.KernelIdeal Cert.KernelIdeal.Gen Cert.KernelIdeal.Value

variable (m : (ℓ : Loc nD τ sig) → Buf (Elt Ideal) ℓ)

/-- The output block: its thirty-two pieces. -/
theorem out_pieces (c : Dev nD) (t : Fin cfg0.N) :
    (outsAt0 m c t).1 = View.canon (outList (outPiece (seqWord t) (qBlk m c t) (kBlk m c t) (vBlk m c t))) := by
  unfold outsAt0
  dsimp only
  unfold out0_A_7
  rw [View.read_writes_eq_canon _ _ _ (cover0_A_7 c _ _ _ _ _ _ _ _ _ _ _ _ _ _ _ _ _ _ _ _ _ _ _ _ _ _ _ _ _ _)]
  unfold kernelRun0_A
  dsimp only
  sl_unfold_words
  simp only [View.readAt_eq_ld, Memref.IsWhole.read_unread, View.ld_unit_lit, shapeCast_self, View.readCov_eq_canon']
  simp (disch := decide) only [View.ld_unit_lit]
  refine congrArg View.canon ?_
  unfold outList
  simp only [halo_fold]
  iterate 32 refine cons_out _ _ _ _ _ _ _ _ _ _ rfl rfl rfl ?_
  rfl

set_option maxRecDepth 65536 in
/-- The block of logarithms: its eight pieces. -/
theorem lse_pieces (c : Dev nD) (t : Fin cfg0.N) :
    (outsAt0 m c t).2 = View.canon (lseList (lsePiece (seqWord t) (qBlk m c t) (kBlk m c t))) := by
  unfold outsAt0
  dsimp only
  unfold out0_A_8
  rw [View.read_writes_eq_canon _ _ _ (cover0_A_8 c _ _ _ _ _ _ _ _ _ _ _ _ _ _ _ _ _ _ _ _ _ _ _ _ _ _ _ _ _ _)]
  unfold kernelRun0_A
  dsimp only
  sl_unfold_words
  simp only [View.readAt_eq_ld, Memref.IsWhole.read_unread, View.ld_unit_lit, shapeCast_self, View.readCov_eq_canon']
  simp (disch := decide) only [View.ld_unit_lit]
  refine congrArg View.canon ?_
  unfold lseList
  simp only [halo_fold]
  iterate 8 refine cons_lse _ _ _ _ _ _ _ _ _ _ _ _ _ _ _ _ _ _ _ rfl rfl rfl rfl rfl rfl rfl ?_
  rfl

end Cert.Attn
-- ==== Proof.AttnMath.lean ====
/-
The softmax over a window of keys, over the extended reals: a window with masked keys (score `⊥`) is the window of the
keys left, and dividing the weighted sum by the denominator is dividing each weight.
-/
module
public import Idealize.ShloMosaic.PureOps.Ideal

@[expose] public section

noncomputable section

open Idealize.ShloMosaic

namespace Cert.Attn

/-- The greatest score of a window. -/
def topOf {n : ℕ} (S : Fin n → EReal) : EReal := Finset.univ.fold max ⊥ S

/-- The weight of key `j`. -/
def wt {n : ℕ} (S : Fin n → EReal) (j : Fin n) : EReal := Ideal.exp (S j - topOf S)

/-- The softmax denominator. -/
def den {n : ℕ} (S : Fin n → EReal) : EReal := ∑ j, wt S j

/-- The weighted sum of the values. -/
def num {n : ℕ} (S V : Fin n → EReal) : EReal := ∑ j, wt S j * V j

/-- A masked key weighs nothing. -/
theorem wt_bot {n : ℕ} {S : Fin n → EReal} {j : Fin n} (h : S j = ⊥) : wt S j = 0 := by
  unfold wt; rw [h, EReal.bot_sub]; rfl

/-- `S` is the window `s`, placed by `e` among masked keys. -/
structure Placed {n k : ℕ} (e : Fin k → Fin n) (S : Fin n → EReal) (s : Fin k → EReal) : Prop where
  inj : Function.Injective e
  on : ∀ x, S (e x) = s x
  off : ∀ j, j ∉ Set.range e → S j = ⊥

variable {n k : ℕ} {e : Fin k → Fin n} {S : Fin n → EReal} {s : Fin k → EReal}

/-- The greatest score does not see the masked keys. -/
theorem Placed.top (h : Placed e S s) : topOf S = topOf s := by
  refine le_antisymm ((Finset.fold_max_le _).2 ⟨bot_le, fun j _ => ?_⟩)
    ((Finset.fold_max_le _).2 ⟨bot_le, fun x _ => ?_⟩)
  · by_cases hj : j ∈ Set.range e
    · obtain ⟨x, rfl⟩ := hj
      rw [h.on]
      exact (Finset.le_fold_max _).2 (.inr ⟨x, Finset.mem_univ _, le_rfl⟩)
    · rw [h.off j hj]; exact bot_le
  · rw [← h.on]
    exact (Finset.le_fold_max _).2 (.inr ⟨e x, Finset.mem_univ _, le_rfl⟩)

/-- Nor do the weights of the keys left. -/
theorem Placed.wt_on (h : Placed e S s) (x : Fin k) : wt S (e x) = wt s x := by
  unfold wt; rw [h.top, h.on]

/-- A sum of terms that vanish at the masked keys is the sum over the keys left. -/
theorem Placed.sum (h : Placed e S s) (f : Fin n → EReal) (hf : ∀ j, S j = ⊥ → f j = 0) :
    ∑ j, f j = ∑ x, f (e x) :=
  (Fintype.sum_of_injective e h.inj (fun x => f (e x)) f (fun j hj => hf j (h.off j hj)) fun _ => rfl).symm

/-- The denominator is that of the keys left. -/
theorem Placed.den (h : Placed e S s) : den S = den s := by
  unfold Attn.den
  rw [h.sum (wt S) fun j hj => wt_bot hj]
  exact Finset.sum_congr rfl fun x _ => h.wt_on x

/-- The weighted sum is that of the keys left, whatever the values at masked keys. -/
theorem Placed.num (h : Placed e S s) (V : Fin n → EReal) (v : Fin k → EReal) (hv : ∀ x, s x ≠ ⊥ → V (e x) = v x) :
    num S V = num s v := by
  unfold Attn.num
  rw [h.sum _ fun j hj => by rw [wt_bot hj, zero_mul]]
  refine Finset.sum_congr rfl fun x _ => ?_
  rw [h.wt_on]
  by_cases hx : s x = ⊥
  · rw [wt_bot hx, zero_mul, zero_mul]
  · rw [hv x hx]

/-- Each score is real or masked, and one is real. -/
structure Tame {k : ℕ} (s : Fin k → EReal) : Prop where
  each : ∀ x, s x = ⊥ ∨ ∃ r : ℝ, s x = r
  some : ∃ x, ∃ r : ℝ, s x = r

theorem Tame.top (h : Tame s) : ∃ M : ℝ, topOf s = M := by
  have hne : topOf s ≠ ⊥ := by
    obtain ⟨x, r, hr⟩ := h.some
    intro hb
    have : s x ≤ topOf s := (Finset.le_fold_max _).2 (.inr ⟨x, Finset.mem_univ _, le_rfl⟩)
    rw [hb, hr] at this
    exact absurd this (by simp)
  have hnt : topOf s ≠ ⊤ := by
    refine ne_of_lt ((Finset.fold_max_lt _).2 ⟨bot_lt_top, fun x _ => ?_⟩)
    rcases h.each x with hx | ⟨r, hr⟩
    · rw [hx]; exact bot_lt_top
    · rw [hr]; exact EReal.coe_lt_top r
  exact ⟨(topOf s).toReal, (EReal.coe_toReal hnt hne).symm⟩

/-- Each weight of a tame window is a real number, not negative, and one is positive: so the denominator is positive. -/
theorem Tame.den (h : Tame s) : ∃ L : ℝ, 0 < L ∧ den s = L := by
  obtain ⟨M, hM⟩ := h.top
  have hw : ∀ x, ∃ r : ℝ, 0 ≤ r ∧ wt s x = r ∧ (s x ≠ ⊥ → 0 < r) := fun x => by
    rcases h.each x with hx | ⟨r, hr⟩
    · exact ⟨0, le_rfl, wt_bot hx, fun hn => absurd hx hn⟩
    · refine ⟨Real.exp (r - M), (Real.exp_pos _).le, ?_, fun _ => Real.exp_pos _⟩
      unfold wt
      rw [hr, hM, ← EReal.coe_sub]
      rfl
  choose w h0 hw' hp using hw
  refine ⟨∑ x, w x, ?_, ?_⟩
  · obtain ⟨x, r, hr⟩ := h.some
    exact Finset.sum_pos' (fun x _ => h0 x) ⟨x, Finset.mem_univ _, hp x (by rw [hr]; exact EReal.coe_ne_bot r)⟩
  · unfold Attn.den
    rw [Finset.sum_congr rfl fun x _ => hw' x]
    exact (map_sum (⟨⟨(fun r : ℝ => (r : EReal)), rfl⟩, EReal.coe_add⟩ : ℝ →+ EReal) w _).symm

/-- Division by a positive real is multiplication by its inverse. -/
theorem div_real (a : EReal) {L : ℝ} (hL : 0 < L) : Ideal.div a L = a * ((L⁻¹ : ℝ) : EReal) := by
  unfold Ideal.div
  rw [if_neg (by exact_mod_cast hL.ne'), EReal.coe_inv]

/-- A sum times a positive real is the sum of the products. -/
theorem sum_mul_real {ι : Type*} (A : Finset ι) (f : ι → EReal) {c : ℝ} (hc : 0 ≤ c) :
    (∑ i ∈ A, f i) * (c : EReal) = ∑ i ∈ A, f i * (c : EReal) := by
  classical
  induction A using Finset.induction_on with
  | empty => simp
  | insert a A ha ih =>
    rw [Finset.sum_insert ha, Finset.sum_insert ha, ← ih, mul_comm, mul_comm (f a), mul_comm (∑ i ∈ A, f i)]
    exact EReal.left_distrib_of_nonneg_of_ne_top (by exact_mod_cast hc) (EReal.coe_ne_top c) _ _

/-- The attention of a tame window: dividing each weight, then summing, is dividing the sum. -/
theorem Placed.softmax (h : Placed e S s) (ht : Tame s) (V : Fin n → EReal) (v : Fin k → EReal)
    (hv : ∀ x, s x ≠ ⊥ → V (e x) = v x) :
    ∑ j, V j * Ideal.div (wt S j) (Attn.den S) = Ideal.div (Attn.num s v) (Attn.den s) := by
  obtain ⟨L, hL, hd⟩ := ht.den
  rw [h.den, hd, ← h.num V v hv, div_real _ hL]
  unfold Attn.num
  rw [sum_mul_real _ _ (inv_nonneg.2 hL.le)]
  refine Finset.sum_congr rfl fun j _ => ?_
  rw [div_real _ hL, mul_comm (wt S j) (V j), mul_assoc]

end Cert.Attn
-- ==== Proof.AttnPay.lean ====
/-
The attention of one strip and head, read at an index.
-/
module
public import proofs.«01_k».proof.Proof.AttnVocab
public import proofs.«01_k».proof.Proof.AttnMath
public import Idealize.ShloMosaic.Lib.Pointwise
public import Idealize.ShloMosaic.Lib.Tactic.WordOmega

@[expose] public section

set_option maxRecDepth 16384
noncomputable section

open Idealize.ShloMosaic Idealize.ShloMosaic.TcCoe

namespace Cert.Attn
open Cert.KernelIdeal Cert.KernelIdeal.Gen

/-- The mask's name stands for `⊥`. -/
theorem named_mask : (Named.named κ "mask" (φ := .f32) 0xF149F2CA#32 : Ideal .f32) = (⊥ : EReal) :=
  IdealRules.named_const.ideal_named_scalar _ _ _ _ rfl

/-- A select on a bit. -/
theorem select_one {α : Type _} (b : BitVec 1) (x y : α) : Scalar.select b x y = if b = 1#1 then x else y := by
  rcases (by revert b; decide : ∀ b : BitVec 1, b = 0#1 ∨ b = 1#1) b with rfl | rfl <;> rfl

/-- A score: the product of query and key where the mask holds, else `⊥`. -/
theorem scores_apply (mk : IVec S128x256 1) (q : FVec Ideal S128x128 .bf16) (k : FVec Ideal S256x128 .bf16)
    (r : Fin 128) (j : Fin 256) :
    scores mk q k (ix2 r j) = if mk (ix2 r j) = 1#1 then ∑ d : Fin 128, q (ix2 r d) * k (ix2 j d) else ⊥ := by
  pointwise [scores]
  rw [select_one, named_mask]

/-- A query's greatest score. -/
theorem rowMax_apply (s : FVec Ideal S128x256 .f32) (r : Fin 128) (z : Fin 1) :
    rowMax s (ix2 r z) = topOf fun j => s (ix2 r j) := by
  pointwise [rowMax]
  rw [show Ideal.ofBits FTy.f32 4286578688#32 = ⊥ by simp [Ideal.ofBits, Ideal.ieee]]
  rfl

/-- A weight. -/
theorem weights_apply (s : FVec Ideal S128x256 .f32) (r : Fin 128) (j : Fin 256) :
    weights s (ix2 r j) = wt (fun j => s (ix2 r j)) j := by
  pointwise [weights]
  rw [rowMax_apply]
  rfl

/-- A query's sum of weights. -/
theorem rowSum_apply (s : FVec Ideal S128x256 .f32) (r : Fin 128) (z : Fin 1) :
    rowSum s (ix2 r z) = den fun j => s (ix2 r j) := by
  pointwise [rowSum]
  exact Finset.sum_congr rfl fun j _ => weights_apply s r j

/-- One head's output: the weighted sum of the values over the sum of the weights. -/
theorem headOut_apply (s : FVec Ideal S128x256 .f32) (v : FVec Ideal S256x128 .bf16) (r d : Fin 128) :
    headOut s v (ix2 r d) = Ideal.div (num (fun j => s (ix2 r j)) fun j => v (ix2 j d)) (den fun j => s (ix2 r j)) := by
  pointwise [headOut]
  rw [rowSum_apply]
  exact congrArg (Ideal.div · _) (Finset.sum_congr rfl fun j _ => by rw [weights_apply])

/-- The logarithm of a query's denominator. -/
theorem logDen_apply (s : FVec Ideal S128x256 .f32) (r : Fin 128) (z : Fin 1) :
    logDen s (ix2 r z) = (topOf fun j => s (ix2 r j)) + Ideal.log (den fun j => s (ix2 r j)) := by
  pointwise [logDen]
  rw [rowMax_apply, rowSum_apply]

/-- A lane replaced. -/
theorem putLane_apply (h : ℕ) (hh : h < 128) (x : FVec Ideal S128x1 .f32) (p : FVec Ideal S128x128 .f32)
    (r l : Fin 128) :
    putLane (BitVec.ofNat 32 h) x p (ix2 r l) = if l.val = h then x (ix2 r 0) else p (ix2 r l) := by
  pointwise [putLane]
  rw [select_one]
  have e : IntOp.cmpi CmpIPredicate.eq (BitVec.ofNat 32 l.val) (BitVec.ofNat 32 h) = 1#1 ↔ l.val = h := by
    have := l.isLt
    word_omega
  simp only [e]

/-- The strip's offset word. -/
theorem stripWord_toNat (i : Fin 8) : (stripWord i).toNat = (128 * i.val + 4294967232) % 4294967296 := by
  revert i; decide

/-- The mask of strip `i` at block `n` of the sequence: the keys within 64 places of the query and in the sequence. -/
theorem mask_apply (n : ℕ) (hn : n < 16) (i : Fin 8) (r : Fin 128) (j : Fin 256) :
    mask (BitVec.ofNat 32 n) (stripWord i) (ix2 r j) = 1#1 ↔
      (r.val ≤ j.val ∧ j.val ≤ r.val + 128) ∧ 64 ≤ 1024 * n + 128 * i.val + j.val
        ∧ 1024 * n + 128 * i.val + j.val < 16384 + 64 := by
  pointwise [mask, band, keyPos, rowNo, colNo]
  have hw := stripWord_toNat i
  have hi := i.isLt
  have hr := r.isLt
  have hj := j.isLt
  have hp : (Scalar.addi (Scalar.muli (BitVec.ofNat 32 n) 1024#32) (stripWord i)).toNat
      = (1024 * n + 128 * i.val + 4294967232) % 4294967296 := by
    have e : Scalar.addi (Scalar.muli (BitVec.ofNat 32 n) 1024#32) (stripWord i)
      = BitVec.ofNat 32 n * 1024#32 + stripWord i := rfl
    rw [e, BitVec.toNat_add, BitVec.toNat_mul, hw]
    simp only [BitVec.toNat_ofNat]
    omega
  generalize Scalar.addi (Scalar.muli (BitVec.ofNat 32 n) 1024#32) (stripWord i) = w at hp ⊢
  have hq : (IntOp.addi w (BitVec.ofNat 32 j.val)).toNat
      = (1024 * n + 128 * i.val + j.val + 4294967232) % 4294967296 := by
    have e : IntOp.addi w (BitVec.ofNat 32 j.val) = w + BitVec.ofNat 32 j.val := rfl
    rw [e, BitVec.toNat_add, hp]
    simp only [BitVec.toNat_ofNat]
    omega
  generalize IntOp.addi w (BitVec.ofNat 32 j.val) = y at hq ⊢
  have hs : (IntOp.addi (BitVec.ofNat 32 r.val) 128#32).toNat = r.val + 128 := by
    have e : IntOp.addi (BitVec.ofNat 32 r.val) 128#32 = BitVec.ofNat 32 r.val + 128#32 := rfl
    rw [e, BitVec.toNat_add]
    simp only [BitVec.toNat_ofNat]
    omega
  generalize IntOp.addi (BitVec.ofNat 32 r.val) 128#32 = z at hs ⊢
  have hc : (BitVec.ofNat 32 r.val).toNat = r.val := by simp only [BitVec.toNat_ofNat]; omega
  have hd : (BitVec.ofNat 32 j.val).toNat = j.val := by simp only [BitVec.toNat_ofNat]; omega
  generalize BitVec.ofNat 32 r.val = x1 at hc ⊢
  generalize BitVec.ofNat 32 j.val = x2 at hd ⊢
  rcases Nat.lt_or_ge (1024 * n + 128 * i.val + j.val) 64 with hlt | hge
  · have hq' : y.toNat = 1024 * n + 128 * i.val + j.val + 4294967232 := by omega
    word_omega
  · have hq' : y.toNat = 1024 * n + 128 * i.val + j.val - 64 := by omega
    word_omega

end Cert.Attn
-- ==== Proof.Coord.lean ====
/-
An entry of a matrix named by two natural numbers.
-/
module
public import Idealize.ShloMosaic.Lib.Pointwise

@[expose] public section

noncomputable section

open Idealize.ShloMosaic

namespace Cert.Attn

/-- An entry of a matrix at natural coordinates; nought outside. -/
def at2 {n k : ℕ} (X : (⟨2, ![n, k]⟩ : Shape).Idx → EReal) (r c : ℕ) : EReal :=
  if h : r < n ∧ c < k then X (ix2 ⟨r, h.1⟩ ⟨c, h.2⟩) else 0

theorem at2_eq {n k : ℕ} (X : (⟨2, ![n, k]⟩ : Shape).Idx → EReal) (i : (⟨2, ![n, k]⟩ : Shape).Idx) (r c : ℕ)
    (hr : (i 0).val = r) (hc : (i 1).val = c) : X i = at2 X r c := by
  subst hr hc
  have h0 : (i 0).val < n := (i 0).isLt
  have h1 : (i 1).val < k := (i 1).isLt
  unfold at2
  rw [dif_pos ⟨h0, h1⟩]
  exact congrArg X (eq_ix2 i)

/-- Inside the matrix it is the entry. -/
theorem at2_ix {n k : ℕ} (X : (⟨2, ![n, k]⟩ : Shape).Idx → EReal) (r : Fin n) (c : Fin k) :
    at2 X r.val c.val = X (ix2 r c) := (at2_eq X (ix2 r c) r.val c.val rfl rfl).symm

end Cert.Attn
-- ==== Proof.AttnArray.lean ====
/-
The blocks the attention kernel reads, at coordinates of its argument arrays.
-/
module
public import proofs.«01_k».proof.Proof.AttnVocab
public import proofs.«01_k».proof.Proof.Coord
public import Idealize.ShloMosaic.Lib.Pointwise
public import Idealize.ShloMosaic.Lib.Pipeline.ValueKit

@[expose] public section

set_option maxRecDepth 16384
noncomputable section

open Idealize.ShloMosaic Idealize.ShloMosaic.TcCoe Idealize.SL.Sem
open Idealize.ShloMosaic.Pipeline (Dat)

namespace Cert.Attn
open Cert.KernelIdeal Cert.KernelIdeal.Gen Cert.KernelIdeal.Value

/-- The block of each window at each grid point. -/
theorem idx : ∀ t : Fin cfg0.N,
    win0_0.index t = ![t.val, 0]
    ∧ win0_1.index t = ![if t.val % 16 = 0 then 16 * t.val else 16 * t.val - 1, 3]
    ∧ win0_2.index t = ![t.val, 3]
    ∧ win0_3.index t = ![if t.val % 16 = 15 then 16 * t.val + 15 else 16 * t.val + 16, 3]
    ∧ win0_4.index t = ![if t.val % 16 = 0 then 16 * t.val else 16 * t.val - 1, 0]
    ∧ win0_5.index t = ![t.val, 0]
    ∧ win0_6.index t = ![if t.val % 16 = 15 then 16 * t.val + 15 else 16 * t.val + 16, 0]
    ∧ win0_7.index t = ![t.val, 0]
    ∧ win0_8.index t = ![t.val, 0]
    ∧ (grid0.coords t 2 : ℕ) = t.val % 16 :=
  (by decide +kernel : ∀ t : Fin grid0.N, _)

variable (m : (ℓ : Loc nD τ sig) → Buf (Elt Ideal) ℓ)

/-- The array of queries and keys. -/
def arrQK (c : Dev nD) : FVec Ideal S32768x3072 .bf16 := m ((c.tc : Thread nD τ).loc main_arg0)

/-- The array of values. -/
def arrV (c : Dev nD) : FVec Ideal S32768x1536 .bf16 := m ((c.tc : Thread nD τ).loc main_arg1)

/-- The query block. -/
theorem iblk0 (c : Dev nD) (t : Fin cfg0.N) (y : S1024x512.Idx) :
    iblk m c 0 t y = at2 (arrQK m c) (t.val * 1024 + (y 0).val) (y 1).val := by
  refine (show iblk m c 0 t y = arrQK m c ((win0_0.blk t).view.emb y) from rfl).trans (at2_eq _ _ _ _ ?_ ?_)
  · blk_simp [idx t]
  · blk_simp [idx t]

/-- The keys before the block. -/
theorem iblk1 (c : Dev nD) (t : Fin cfg0.N) (y : S64x512.Idx) :
    iblk m c 1 t y = at2 (arrQK m c) ((if t.val % 16 = 0 then 16 * t.val else 16 * t.val - 1) * 64 + (y 0).val) (1536 + (y 1).val) := by
  refine (show iblk m c 1 t y = arrQK m c ((win0_1.blk t).view.emb y) from rfl).trans (at2_eq _ _ _ _ ?_ ?_)
  · blk_simp [idx t]
  · blk_simp [idx t]

/-- The key block. -/
theorem iblk2 (c : Dev nD) (t : Fin cfg0.N) (y : S1024x512.Idx) :
    iblk m c 2 t y = at2 (arrQK m c) (t.val * 1024 + (y 0).val) (1536 + (y 1).val) := by
  refine (show iblk m c 2 t y = arrQK m c ((win0_2.blk t).view.emb y) from rfl).trans (at2_eq _ _ _ _ ?_ ?_)
  · blk_simp [idx t]
  · blk_simp [idx t]

/-- The keys after the block. -/
theorem iblk3 (c : Dev nD) (t : Fin cfg0.N) (y : S64x512.Idx) :
    iblk m c 3 t y = at2 (arrQK m c) ((if t.val % 16 = 15 then 16 * t.val + 15 else 16 * t.val + 16) * 64 + (y 0).val) (1536 + (y 1).val) := by
  refine (show iblk m c 3 t y = arrQK m c ((win0_3.blk t).view.emb y) from rfl).trans (at2_eq _ _ _ _ ?_ ?_)
  · blk_simp [idx t]
  · blk_simp [idx t]

/-- The values before the block. -/
theorem iblk4 (c : Dev nD) (t : Fin cfg0.N) (y : S64x512.Idx) :
    iblk m c 4 t y = at2 (arrV m c) ((if t.val % 16 = 0 then 16 * t.val else 16 * t.val - 1) * 64 + (y 0).val) (y 1).val := by
  refine (show iblk m c 4 t y = arrV m c ((win0_4.blk t).view.emb y) from rfl).trans (at2_eq _ _ _ _ ?_ ?_)
  · blk_simp [idx t]
  · blk_simp [idx t]

/-- The value block. -/
theorem iblk5 (c : Dev nD) (t : Fin cfg0.N) (y : S1024x512.Idx) :
    iblk m c 5 t y = at2 (arrV m c) (t.val * 1024 + (y 0).val) (y 1).val := by
  refine (show iblk m c 5 t y = arrV m c ((win0_5.blk t).view.emb y) from rfl).trans (at2_eq _ _ _ _ ?_ ?_)
  · blk_simp [idx t]
  · blk_simp [idx t]

/-- The values after the block. -/
theorem iblk6 (c : Dev nD) (t : Fin cfg0.N) (y : S64x512.Idx) :
    iblk m c 6 t y = at2 (arrV m c) ((if t.val % 16 = 15 then 16 * t.val + 15 else 16 * t.val + 16) * 64 + (y 0).val) (y 1).val := by
  refine (show iblk m c 6 t y = arrV m c ((win0_6.blk t).view.emb y) from rfl).trans (at2_eq _ _ _ _ ?_ ?_)
  · blk_simp [idx t]
  · blk_simp [idx t]

/-- An index lies in the rows `o` to `o + n` of the buffer. -/
theorem mem_rows {o n : ℕ} (inb : ∀ a : Fin S1152x512.rank, (![o, 0] : Fin 2 → ℕ) a + (![n, 512] : Fin 2 → ℕ) a ≤ S1152x512.size a)
    (y : S1152x512.Idx) (h : o ≤ (y 0).val) (h' : (y 0).val < o + n) : y ∈ (Rect.unit ![o, 0] ![n, 512] inb).set := by
  have y1 : (y 1).val < 512 := (y 1).isLt
  exact Rect.mem_set_unit.2 (Fin.forall_fin_two.2 ⟨⟨h, h'⟩, ⟨Nat.zero_le _, by simpa using y1⟩⟩)

/-- A block with its neighbours, at an index. -/
theorem halo_apply (kp : Vec Ideal S64x512 .bf16) (kc : Vec Ideal S1024x512 .bf16) (kn : Vec Ideal S64x512 .bf16)
    (y : S1152x512.Idx) (v : EReal)
    (hp : ∀ x : S64x512.Idx, (y 0).val = (x 0).val → (y 1).val = (x 1).val → kp x = v)
    (hc : ∀ x : S1024x512.Idx, (y 0).val = 64 + (x 0).val → (y 1).val = (x 1).val → kc x = v)
    (hn : ∀ x : S64x512.Idx, (y 0).val = 1088 + (x 0).val → (y 1).val = (x 1).val → kn x = v) :
    halo kp kc kn y = v := by
  unfold halo
  have y0 : (y 0).val < 1152 := (y 0).isLt
  have y1 : (y 1).val < 512 := (y 1).isLt
  canon_tiles x h using by
    rcases Nat.lt_or_ge (y 0).val 64 with h0 | h0
    · exact ⟨_, .tail _ (.tail _ (.head _)), mem_rows (by decide) y (Nat.zero_le _) (by omega)⟩
    rcases Nat.lt_or_ge (y 0).val 1088 with h1 | h1
    · exact ⟨_, .tail _ (.head _), mem_rows (by decide) y h0 (by omega)⟩
    · exact ⟨_, .head _, mem_rows (by decide) y h1 (by omega)⟩
  · exact hn x h0 h1
  · exact hc x h0 h1
  · exact hp x h0 h1

/-- The keys a block sees, in the sequence: row `y` of the window is 64 rows before row `y` of the block. -/
theorem kBlk_apply (c : Dev nD) (t : Fin cfg0.N) (y : S1152x512.Idx)
    (h : 64 ≤ 1024 * (t.val % 16) + (y 0).val) (h' : 1024 * (t.val % 16) + (y 0).val < 16384 + 64) :
    kBlk m c t y = at2 (arrQK m c) (1024 * t.val + (y 0).val - 64) (1536 + (y 1).val) := by
  have y0 : (y 0).val < 1152 := (y 0).isLt
  refine halo_apply _ _ _ y _ (fun x h0 h1 => ?_) (fun x h0 h1 => ?_) fun x h0 h1 => ?_
  · have x0 : (x 0).val < 64 := (x 0).isLt
    rw [iblk1 m c t x, h1]
    congr 1
    split <;> omega
  · rw [iblk2 m c t x, h1]
    congr 1
    omega
  · rw [iblk3 m c t x, h1]
    congr 1
    split <;> omega

/-- The values a block sees, likewise. -/
theorem vBlk_apply (c : Dev nD) (t : Fin cfg0.N) (y : S1152x512.Idx)
    (h : 64 ≤ 1024 * (t.val % 16) + (y 0).val) (h' : 1024 * (t.val % 16) + (y 0).val < 16384 + 64) :
    vBlk m c t y = at2 (arrV m c) (1024 * t.val + (y 0).val - 64) (y 1).val := by
  have y0 : (y 0).val < 1152 := (y 0).isLt
  refine halo_apply _ _ _ y _ (fun x h0 h1 => ?_) (fun x h0 h1 => ?_) fun x h0 h1 => ?_
  · have x0 : (x 0).val < 64 := (x 0).isLt
    rw [iblk4 m c t x, h1]
    congr 1
    split <;> omega
  · rw [iblk5 m c t x, h1]
    congr 1
    omega
  · rw [iblk6 m c t x, h1]
    congr 1
    split <;> omega

end Cert.Attn
-- ==== Proof.AttnSpec.lean ====
/-
The attention of one query over the 129 keys of its band, at coordinates of the argument arrays.
-/
module
public import proofs.«01_k».proof.Proof.AttnArray
public import proofs.«01_k».proof.Proof.AttnMath

@[expose] public section

noncomputable section

open Idealize.ShloMosaic

namespace Cert.Attn
open Cert.KernelIdeal

/-- The score of row `R` (batch and position), head `h`, against the key 64 before plus `x`; masked outside the
sequence. The queries are columns 0 to 512 of the array, the keys columns 1536 to 2048. -/
def sc (A : S32768x3072.Idx → EReal) (R h : ℕ) (x : Fin 129) : EReal :=
  if 64 ≤ R % 16384 + x.val ∧ R % 16384 + x.val < 16384 + 64 then
    ∑ d : Fin 128, at2 A R (128 * h + d.val) * at2 A (R + x.val - 64) (1536 + (128 * h + d.val))
  else ⊥

/-- The value at the key 64 before plus `x`, column `c`. -/
def vl (B : S32768x1536.Idx → EReal) (R c : ℕ) (x : Fin 129) : EReal := at2 B (R + x.val - 64) c

/-- The attention at row `R`, column `c` of the four heads. -/
def attn (A : S32768x3072.Idx → EReal) (B : S32768x1536.Idx → EReal) (R c : ℕ) : EReal :=
  Ideal.div (num (sc A R (c / 128)) (vl B R c)) (den (sc A R (c / 128)))

/-- The logarithm of the softmax denominator at row `R`, head `l`; nought in the lanes past the heads. -/
def lse (A : S32768x3072.Idx → EReal) (R l : ℕ) : EReal :=
  if l < 4 then topOf (sc A R l) + Ideal.log (den (sc A R l)) else 0

/-- The score is not masked only inside the sequence. -/
theorem sc_inSeq {A : S32768x3072.Idx → EReal} {R h : ℕ} {x : Fin 129} (hx : sc A R h x ≠ ⊥) :
    64 ≤ R % 16384 + x.val ∧ R % 16384 + x.val < 16384 + 64 := by
  by_contra hc
  exact hx (if_neg hc)

end Cert.Attn
-- ==== Proof.AttnValue.lean ====
/-
The attention kernel's two result arrays.
-/
module
public import proofs.«01_k».proof.Proof.AttnBlock
public import proofs.«01_k».proof.Proof.AttnPay
public import proofs.«01_k».proof.Proof.AttnSpec

@[expose] public section

set_option maxRecDepth 16384
noncomputable section

open Idealize.ShloMosaic Idealize.ShloMosaic.TcCoe Idealize.SL.Sem
open Idealize.ShloMosaic.Pipeline (Dat)

namespace Cert.Attn
open Cert.KernelIdeal Cert.KernelIdeal.Gen Cert.KernelIdeal.Value

/-- An entry of a strip's queries. -/
theorem tile_apply (X : Vec Ideal S1024x512 .bf16) (i : Fin 8) (h : Fin 4) (r d : Fin 128) :
    tile X i h (ix2 r d) = X (ix2 (⟨128 * i.val + r.val, by omega⟩ : Fin 1024) (⟨128 * h.val + d.val, by omega⟩ : Fin 512)) :=
  congrArg X (funext (Fin.forall_fin_two.2 ⟨Fin.ext (by rw [Rect.idx_unit_val]; rfl), Fin.ext (by rw [Rect.idx_unit_val]; rfl)⟩))

/-- An entry of a strip's window. -/
theorem window_apply (X : Vec Ideal S1152x512 .bf16) (i : Fin 8) (h : Fin 4) (j : Fin 256) (d : Fin 128) :
    window X i h (ix2 j d) = X (ix2 (⟨128 * i.val + j.val, by omega⟩ : Fin 1152) (⟨128 * h.val + d.val, by omega⟩ : Fin 512)) :=
  congrArg X (funext (Fin.forall_fin_two.2 ⟨Fin.ext (by rw [Rect.idx_unit_val]; rfl), Fin.ext (by rw [Rect.idx_unit_val]; rfl)⟩))

variable (m : (ℓ : Loc nD τ sig) → Buf (Elt Ideal) ℓ)

/-- Where a query's 129 keys lie in its strip's window. -/
def inWindow (r : Fin 128) (x : Fin 129) : Fin 256 := ⟨r.val + x.val, by omega⟩

theorem seqWord_eq (t : Fin cfg0.N) : seqWord t = BitVec.ofNat 32 (t.val % 16) := by
  unfold seqWord
  rw [(idx t).2.2.2.2.2.2.2.2.2]

/-- A strip's scores at a query are those of its 129 keys, placed in the window. -/
theorem blkScores_placed (c : Dev nD) (t : Fin cfg0.N) (i : Fin 8) (h : Fin 4) (r : Fin 128) :
    Placed (inWindow r) (fun j => blkScores (seqWord t) (qBlk m c t) (kBlk m c t) i h (ix2 r j))
      (sc (arrQK m c) (1024 * t.val + (128 * i.val + r.val)) h.val) := by
  have hn : t.val % 16 < 16 := Nat.mod_lt _ (by decide)
  have hR : (1024 * t.val + (128 * i.val + r.val)) % 16384 = 1024 * (t.val % 16) + 128 * i.val + r.val := by omega
  refine ⟨fun a b hab => ?_, fun x => ?_, fun j hj => ?_⟩
  · have := congrArg Fin.val hab
    simp only [inWindow] at this
    exact Fin.ext (by omega)
  · unfold blkScores
    rw [scores_apply, seqWord_eq]
    unfold sc
    rw [hR]
    by_cases hx : 64 ≤ 1024 * (t.val % 16) + 128 * i.val + r.val + x.val
        ∧ 1024 * (t.val % 16) + 128 * i.val + r.val + x.val < 16384 + 64
    · rw [if_pos ((mask_apply _ hn i r _).2 (by simp only [inWindow]; omega)), if_pos hx]
      refine Finset.sum_congr rfl fun d _ => ?_
      rw [tile_apply, window_apply, kBlk_apply m c t _ (by simp [inWindow]; omega) (by simp [inWindow]; omega)]
      unfold qBlk
      rw [iblk0 m c t]
      exact congrArg₂ (· * ·) (congrArg₂ (at2 _) (by simp; omega) (by simp)) (congrArg₂ (at2 _) (by simp [inWindow]; omega) (by simp))
    · rw [if_neg (fun hm => hx (by have := (mask_apply _ hn i r _).1 hm; simp only [inWindow] at this; omega)), if_neg hx]
  · unfold blkScores
    rw [scores_apply, seqWord_eq, if_neg]
    rw [mask_apply _ hn]
    rintro ⟨⟨h1, h2⟩, -⟩
    exact hj ⟨⟨j.val - r.val, by omega⟩, Fin.ext (by simp only [inWindow]; omega)⟩

/-- The values at the keys of the window are those at the sequence's. -/
theorem window_value (c : Dev nD) (t : Fin cfg0.N) (i : Fin 8) (h : Fin 4) (r d : Fin 128) (x : Fin 129)
    (hx : sc (arrQK m c) (1024 * t.val + (128 * i.val + r.val)) h.val x ≠ ⊥) :
    window (vBlk m c t) i h (ix2 (inWindow r x) d)
      = vl (arrV m c) (1024 * t.val + (128 * i.val + r.val)) (128 * h.val + d.val) x := by
  have hs := sc_inSeq hx
  have hR : (1024 * t.val + (128 * i.val + r.val)) % 16384 = 1024 * (t.val % 16) + 128 * i.val + r.val := by omega
  rw [hR] at hs
  rw [window_apply, vBlk_apply m c t _ (by simp [inWindow]; omega) (by simp [inWindow]; omega)]
  unfold vl
  exact congrArg₂ (at2 _) (by simp [inWindow]; omega) (by simp)

/-- One head of one strip at an index. -/
theorem head_apply (c : Dev nD) (t : Fin cfg0.N) (i : Fin 8) (h : Fin 4) (r d : Fin 128) :
    headOut (blkScores (seqWord t) (qBlk m c t) (kBlk m c t) i h) (window (vBlk m c t) i h) (ix2 r d)
      = attn (arrQK m c) (arrV m c) (1024 * t.val + (128 * i.val + r.val)) (128 * h.val + d.val) := by
  have hp := blkScores_placed m c t i h r
  have hv := hp.num (fun j => window (vBlk m c t) i h (ix2 j d)) _ (fun x hx => window_value m c t i h r d x hx)
  rw [headOut_apply, hp.den, hv]
  unfold attn
  rw [show (128 * h.val + d.val) / 128 = h.val by omega]

/-- One lane of one strip's logarithms. -/
theorem logDen_blk (c : Dev nD) (t : Fin cfg0.N) (i : Fin 8) (h : Fin 4) (r : Fin 128) (z : Fin 1) :
    logDen (blkScores (seqWord t) (qBlk m c t) (kBlk m c t) i h) (ix2 r z)
      = lse (arrQK m c) (1024 * t.val + (128 * i.val + r.val)) h.val := by
  have hp := blkScores_placed m c t i h r
  rw [logDen_apply, hp.den, hp.top]
  unfold lse
  rw [if_pos h.isLt]

/-- One strip of logarithms at an index. -/
theorem lanes_apply (c : Dev nD) (t : Fin cfg0.N) (i : Fin 8) (r l : Fin 128) :
    (lsePiece (seqWord t) (qBlk m c t) (kBlk m c t) i).2 (ix2 r l)
      = lse (arrQK m c) (1024 * t.val + (128 * i.val + r.val)) l.val := by
  unfold lsePiece
  dsimp only
  rw [putLane_apply 3 (by decide), putLane_apply 2 (by decide), putLane_apply 1 (by decide), putLane_apply 0 (by decide),
    logDen_blk, logDen_blk, logDen_blk, logDen_blk]
  by_cases h3 : l.val = 3
  · rw [if_pos h3, h3]; rfl
  by_cases h2 : l.val = 2
  · rw [if_neg h3, if_pos h2, h2]; rfl
  by_cases h1 : l.val = 1
  · rw [if_neg h3, if_neg h2, if_pos h1, h1]; rfl
  by_cases h0 : l.val = 0
  · rw [if_neg h3, if_neg h2, if_neg h1, if_pos h0, h0]; rfl
  · rw [if_neg h3, if_neg h2, if_neg h1, if_neg h0]
    unfold lse
    rw [if_neg (by omega)]
    simp [broadcast, Scalar.ofBits, Ideal.ofBits, Ideal.ieee]

/-- Every strip and head is in the list. -/
theorem mem_outList {α : Type _} (P : Fin 8 → Fin 4 → α) (i : Fin 8) (h : Fin 4) : P i h ∈ outList P := by
  have hm : ∀ (i : Fin 8) (h : Fin 4), (i, h) ∈ outList Prod.mk := by decide
  exact List.mem_map_of_mem (f := fun p : Fin 8 × Fin 4 => P p.1 p.2) (hm i h)

/-- Nothing else is. -/
theorem of_mem_outList {α : Type _} {P : Fin 8 → Fin 4 → α} {p : α} (hp : p ∈ outList P) : ∃ i h, p = P i h := by
  have : p ∈ (outList Prod.mk).map (fun q : Fin 8 × Fin 4 => P q.1 q.2) := hp
  obtain ⟨q, -, rfl⟩ := List.mem_map.1 this
  exact ⟨_, _, rfl⟩

/-- Every strip is in the list of logarithms. -/
theorem mem_lseList {α : Type _} (P : Fin 8 → α) (i : Fin 8) : P i ∈ lseList P := by
  have hm : ∀ i : Fin 8, i ∈ lseList id := by decide
  exact List.mem_map_of_mem (f := P) (hm i)

/-- Nothing else is. -/
theorem of_mem_lseList {α : Type _} {P : Fin 8 → α} {p : α} (hp : p ∈ lseList P) : ∃ i, p = P i := by
  have : p ∈ (lseList id).map P := hp
  obtain ⟨q, -, rfl⟩ := List.mem_map.1 this
  exact ⟨_, rfl⟩

/-- The output block at an index. -/
theorem out_block (c : Dev nD) (t : Fin cfg0.N) (y : S1024x512.Idx) :
    (outsAt0 m c t).1 y = attn (arrQK m c) (arrV m c) (1024 * t.val + (y 0).val) (y 1).val := by
  have y0 : (y 0).val < 1024 := (y 0).isLt
  have y1 : (y 1).val < 512 := (y 1).isLt
  rw [out_pieces]
  refine View.canon_apply_of_pieces (Val := Elt Ideal) (e := .bf16)
    (fun y : S1024x512.Idx => attn (arrQK m c) (arrV m c) (1024 * t.val + (y 0).val) (y 1).val) _ ?_ y ?_
  · intro p hp x
    obtain ⟨i, h, rfl⟩ := of_mem_outList hp
    obtain ⟨r, d, rfl⟩ : ∃ r d : Fin 128, x = ix2 r d := ⟨x 0, x 1, eq_ix2 x⟩
    refine (head_apply m c t i h r d).trans ?_
    have e : ∀ a : Fin 2, (((Rect.unit (s := S1024x512) (corner i h) ![128, 128] (tile_fits i h)).idx (ix2 r d) a : Fin _) : ℕ)
        = corner i h a + ((ix2 r d : (⟨2, ![128, 128]⟩ : Shape).Idx) a).val := fun a => Rect.idx_unit_val _ _ _ _ _
    exact congrArg₂ (attn _ _) (congrArg (1024 * t.val + ·) (e 0).symm) (e 1).symm
  · have hi : (y 0).val / 128 < 8 := by omega
    have hh : (y 1).val / 128 < 4 := by omega
    refine ⟨_, mem_outList _ ⟨(y 0).val / 128, hi⟩ ⟨(y 1).val / 128, hh⟩, ?_⟩
    refine (Rect.mem_set_unit (inb := tile_fits ⟨(y 0).val / 128, hi⟩ ⟨(y 1).val / 128, hh⟩)).2 (Fin.forall_fin_two.2 ⟨?_, ?_⟩) <;>
      simp [corner] <;> omega

/-- The block of logarithms at an index. -/
theorem lse_block (c : Dev nD) (t : Fin cfg0.N) (y : S1024x128.Idx) :
    (outsAt0 m c t).2 y = lse (arrQK m c) (1024 * t.val + (y 0).val) (y 1).val := by
  have y0 : (y 0).val < 1024 := (y 0).isLt
  have y1 : (y 1).val < 128 := (y 1).isLt
  rw [lse_pieces]
  refine View.canon_apply_of_pieces (Val := Elt Ideal) (e := .f32)
    (fun y : S1024x128.Idx => lse (arrQK m c) (1024 * t.val + (y 0).val) (y 1).val) _ ?_ y ?_
  · intro p hp x
    obtain ⟨i, rfl⟩ := of_mem_lseList hp
    obtain ⟨r, d, rfl⟩ : ∃ r d : Fin 128, x = ix2 r d := ⟨x 0, x 1, eq_ix2 x⟩
    refine (lanes_apply m c t i r d).trans ?_
    have e : ∀ a : Fin 2, (((Rect.unit (s := S1024x128) ![128 * i.val, 0] ![128, 128] (strip_fits i)).idx (ix2 r d) a : Fin _) : ℕ)
        = (![128 * i.val, 0] : Fin 2 → ℕ) a + ((ix2 r d : (⟨2, ![128, 128]⟩ : Shape).Idx) a).val :=
      fun a => Rect.idx_unit_val _ _ _ _ _
    exact congrArg₂ (lse _) (congrArg (1024 * t.val + ·) (e 0).symm) ((Nat.zero_add _).symm.trans (e 1).symm)
  · have hi : (y 0).val / 128 < 8 := by omega
    refine ⟨_, mem_lseList _ ⟨(y 0).val / 128, hi⟩, ?_⟩
    refine (Rect.mem_set_unit (inb := strip_fits ⟨(y 0).val / 128, hi⟩)).2 (Fin.forall_fin_two.2 ⟨?_, ?_⟩) <;>
      simp <;> omega

/-- The kernel's output array. -/
theorem out_array (c : Dev nD) : (dats m 0 c).arrAt 7 cfg0.N
    = fun i : S32768x512.Idx => (attn (arrQK m c) (arrV m c) (i 0).val (i 1).val : Elt Ideal .bf16) := by
  refine (dats m 0 c).arrAt_eq_of_covers 7 _ (by decide +kernel) fun t hf y => ?_
  rw [after0_7]
  refine (out_block m c t y).trans (congrArg₂ (attn _ _) ?_ ?_)
  · blk_simp [idx t]; omega
  · blk_simp [idx t]

/-- The kernel's array of logarithms. -/
theorem lse_array (c : Dev nD) : (dats m 0 c).arrAt 8 cfg0.N
    = fun i : S32768x128.Idx => (lse (arrQK m c) (i 0).val (i 1).val : Elt Ideal .f32) := by
  refine (dats m 0 c).arrAt_eq_of_covers 8 _ (by decide +kernel) fun t hf y => ?_
  rw [after0_8]
  refine (lse_block m c t y).trans (congrArg₂ (lse _) ?_ ?_)
  · blk_simp [idx t]; omega
  · blk_simp [idx t]

end Cert.Attn
-- ==== Proof.AttnRefKeys.lean ====
/-
The reference's blocks of queries, keys and values, and its windows of 192, at coordinates of the argument arrays.
-/
module
public import proofs.«01_k».proof.Proof.Gen.ReferenceIdeal.Read
public import proofs.«01_k».proof.Proof.AttnSpec
public import Idealize.ShloMosaic.Lib.Pointwise

@[expose] public section

set_option maxRecDepth 16384
noncomputable section

open Idealize.ShloMosaic Idealize.ShloMosaic.TcCoe Idealize.SL.Sem

namespace Cert.Attn
open Cert.ReferenceIdeal Cert.ReferenceIdeal.Gen Cert.ReferenceIdeal.Read

/-- The queries in blocks of 64. -/
theorem ref_q (x0 : FVec Ideal S32768x3072 .bf16) (b : Fin 2) (n : Fin 256) (q : Fin 64) (h : Fin 4) (d : Fin 128) :
    val_main_v11 (F := Ideal) x0 (ix6 b 0 n q h d) = at2 x0 (b.val * 16384 + n.val * 64 + q.val) (128 * h.val + d.val) := by
  pointwise [val_main_v11, val_main_v10, val_main_v9, val_main_v8, val_main_v3, val_main_v2, val_main_v0]
  rw [dif_pos (by omega)]
  exact at2_eq x0 _ _ _ (by simp; omega) (by simp; omega)

/-- The keys in blocks of 64. -/
theorem ref_k (x0 : FVec Ideal S32768x3072 .bf16) (b : Fin 2) (n : Fin 256) (q : Fin 64) (h : Fin 4) (d : Fin 128) :
    val_main_v15 (F := Ideal) x0 (ix6 b 0 n q h d)
      = at2 x0 (b.val * 16384 + n.val * 64 + q.val) (1536 + (128 * h.val + d.val)) := by
  pointwise [val_main_v15, val_main_v14, val_main_v13, val_main_v12, val_main_v5, val_main_v4, val_main_v0]
  rw [dif_pos (by omega)]
  exact at2_eq x0 _ _ _ (by simp; omega) (by simp; omega)

/-- The values in blocks of 64. -/
theorem ref_v (x1 : FVec Ideal S32768x1536 .bf16) (b : Fin 2) (n : Fin 256) (q : Fin 64) (h : Fin 4) (d : Fin 128) :
    val_main_v24 (F := Ideal) x1 (ix6 b 0 n q h d) = at2 x1 (b.val * 16384 + n.val * 64 + q.val) (128 * h.val + d.val) := by
  pointwise [val_main_v24, val_main_v23, val_main_v22, val_main_v21, val_main_v7, val_main_v6, val_main_v1]
  rw [dif_pos (by omega)]
  exact at2_eq x1 _ _ _ (by simp; omega) (by simp; omega)

/-- The padded keys: one block of noughts before and one after. -/
theorem ref_kp (x0 : FVec Ideal S32768x3072 .bf16) (b : Fin 2) (n : Fin 258) (q : Fin 64) (h : Fin 4) (d : Fin 128)
    (hn : 64 ≤ n.val * 64 + q.val ∧ n.val * 64 + q.val < 16384 + 64) :
    val_main_v16 (F := Ideal) x0 (ix6 b 0 n q h d)
      = at2 x0 (b.val * 16384 + (n.val * 64 + q.val) - 64) (1536 + (128 * h.val + d.val)) := by
  pointwise [val_main_v16]
  rw [dif_pos (by omega), ref_k]
  exact congrArg₂ (at2 _) (by simp; omega) rfl

/-- The keys of the window's part 0. -/
theorem ref_kw0 (x0 : FVec Ideal S32768x3072 .bf16) (b : Fin 2) (n : Fin 256) (q : Fin 64) (h : Fin 4) (d : Fin 128)
    (hn : 64 ≤ n.val * 64 + (q.val + 0) ∧ n.val * 64 + (q.val + 0) < 16384 + 64) :
    val_main_v17 (F := Ideal) x0 (ix6 b 0 n q h d)
      = at2 x0 (b.val * 16384 + (n.val * 64 + (q.val + 0)) - 64) (1536 + (128 * h.val + d.val)) := by
  have hb : n.val + 0 < 258 := by omega
  rw [val_main_v17_apply]
  refine (congrArg (val_main_v16 (F := Ideal) x0) ?_).trans ((ref_kp x0 b ⟨n.val + 0, hb⟩ q h d (by dsimp only; omega)).trans ?_)
  · funext a
    match a with
    | ⟨0, _⟩ => exact Fin.ext (by simp)
    | ⟨1, _⟩ => exact Fin.ext (by simp)
    | ⟨2, _⟩ => exact Fin.ext (by simp; try omega)
    | ⟨3, _⟩ => exact Fin.ext (by simp)
    | ⟨4, _⟩ => exact Fin.ext (by simp)
    | ⟨5, _⟩ => exact Fin.ext (by simp)
  · exact congrArg₂ (at2 _) (by dsimp only; omega) rfl

/-- The keys of the window's part 1. -/
theorem ref_kw1 (x0 : FVec Ideal S32768x3072 .bf16) (b : Fin 2) (n : Fin 256) (q : Fin 64) (h : Fin 4) (d : Fin 128)
    (hn : 64 ≤ n.val * 64 + (q.val + 64) ∧ n.val * 64 + (q.val + 64) < 16384 + 64) :
    val_main_v18 (F := Ideal) x0 (ix6 b 0 n q h d)
      = at2 x0 (b.val * 16384 + (n.val * 64 + (q.val + 64)) - 64) (1536 + (128 * h.val + d.val)) := by
  have hb : n.val + 1 < 258 := by omega
  rw [val_main_v18_apply]
  refine (congrArg (val_main_v16 (F := Ideal) x0) ?_).trans ((ref_kp x0 b ⟨n.val + 1, hb⟩ q h d (by dsimp only; omega)).trans ?_)
  · funext a
    match a with
    | ⟨0, _⟩ => exact Fin.ext (by simp)
    | ⟨1, _⟩ => exact Fin.ext (by simp)
    | ⟨2, _⟩ => exact Fin.ext (by simp; try omega)
    | ⟨3, _⟩ => exact Fin.ext (by simp)
    | ⟨4, _⟩ => exact Fin.ext (by simp)
    | ⟨5, _⟩ => exact Fin.ext (by simp)
  · exact congrArg₂ (at2 _) (by dsimp only; omega) rfl

/-- The keys of the window's part 2. -/
theorem ref_kw2 (x0 : FVec Ideal S32768x3072 .bf16) (b : Fin 2) (n : Fin 256) (q : Fin 64) (h : Fin 4) (d : Fin 128)
    (hn : 64 ≤ n.val * 64 + (q.val + 128) ∧ n.val * 64 + (q.val + 128) < 16384 + 64) :
    val_main_v19 (F := Ideal) x0 (ix6 b 0 n q h d)
      = at2 x0 (b.val * 16384 + (n.val * 64 + (q.val + 128)) - 64) (1536 + (128 * h.val + d.val)) := by
  have hb : n.val + 2 < 258 := by omega
  rw [val_main_v19_apply]
  refine (congrArg (val_main_v16 (F := Ideal) x0) ?_).trans ((ref_kp x0 b ⟨n.val + 2, hb⟩ q h d (by dsimp only; omega)).trans ?_)
  · funext a
    match a with
    | ⟨0, _⟩ => exact Fin.ext (by simp)
    | ⟨1, _⟩ => exact Fin.ext (by simp)
    | ⟨2, _⟩ => exact Fin.ext (by simp; try omega)
    | ⟨3, _⟩ => exact Fin.ext (by simp)
    | ⟨4, _⟩ => exact Fin.ext (by simp)
    | ⟨5, _⟩ => exact Fin.ext (by simp)
  · exact congrArg₂ (at2 _) (by dsimp only; omega) rfl

/-- The window of 192 keys, inside the sequence. -/
theorem ref_kw (x0 : FVec Ideal S32768x3072 .bf16) (b : Fin 2) (n : Fin 256) (k : Fin 192) (h : Fin 4) (d : Fin 128)
    (hk : 64 ≤ n.val * 64 + k.val ∧ n.val * 64 + k.val < 16384 + 64) :
    val_main_v20 (F := Ideal) x0 (ix6 b 0 n k h d)
      = at2 x0 (b.val * 16384 + (n.val * 64 + k.val) - 64) (1536 + (128 * h.val + d.val)) := by
  pointwise [val_main_v20]
  split
  · exact (ref_kw0 x0 b n _ h d (by dsimp only; omega)).trans (congrArg₂ (at2 _) (by dsimp only; omega) rfl)
  · split
    · exact (ref_kw1 x0 b n _ h d (by dsimp only; omega)).trans (congrArg₂ (at2 _) (by dsimp only; omega) rfl)
    · exact (ref_kw2 x0 b n _ h d (by dsimp only; omega)).trans (congrArg₂ (at2 _) (by dsimp only; omega) rfl)

/-- The padded values: one block of noughts before and one after. -/
theorem ref_vp (x1 : FVec Ideal S32768x1536 .bf16) (b : Fin 2) (n : Fin 258) (q : Fin 64) (h : Fin 4) (d : Fin 128)
    (hn : 64 ≤ n.val * 64 + q.val ∧ n.val * 64 + q.val < 16384 + 64) :
    val_main_v25 (F := Ideal) x1 (ix6 b 0 n q h d)
      = at2 x1 (b.val * 16384 + (n.val * 64 + q.val) - 64) (128 * h.val + d.val) := by
  pointwise [val_main_v25]
  rw [dif_pos (by omega), ref_v]
  exact congrArg₂ (at2 _) (by simp; omega) rfl

/-- The values of the window's part 0. -/
theorem ref_vw0 (x1 : FVec Ideal S32768x1536 .bf16) (b : Fin 2) (n : Fin 256) (q : Fin 64) (h : Fin 4) (d : Fin 128)
    (hn : 64 ≤ n.val * 64 + (q.val + 0) ∧ n.val * 64 + (q.val + 0) < 16384 + 64) :
    val_main_v26 (F := Ideal) x1 (ix6 b 0 n q h d)
      = at2 x1 (b.val * 16384 + (n.val * 64 + (q.val + 0)) - 64) (128 * h.val + d.val) := by
  have hb : n.val + 0 < 258 := by omega
  rw [val_main_v26_apply]
  refine (congrArg (val_main_v25 (F := Ideal) x1) ?_).trans ((ref_vp x1 b ⟨n.val + 0, hb⟩ q h d (by dsimp only; omega)).trans ?_)
  · funext a
    match a with
    | ⟨0, _⟩ => exact Fin.ext (by simp)
    | ⟨1, _⟩ => exact Fin.ext (by simp)
    | ⟨2, _⟩ => exact Fin.ext (by simp; try omega)
    | ⟨3, _⟩ => exact Fin.ext (by simp)
    | ⟨4, _⟩ => exact Fin.ext (by simp)
    | ⟨5, _⟩ => exact Fin.ext (by simp)
  · exact congrArg₂ (at2 _) (by dsimp only; omega) rfl

/-- The values of the window's part 1. -/
theorem ref_vw1 (x1 : FVec Ideal S32768x1536 .bf16) (b : Fin 2) (n : Fin 256) (q : Fin 64) (h : Fin 4) (d : Fin 128)
    (hn : 64 ≤ n.val * 64 + (q.val + 64) ∧ n.val * 64 + (q.val + 64) < 16384 + 64) :
    val_main_v27 (F := Ideal) x1 (ix6 b 0 n q h d)
      = at2 x1 (b.val * 16384 + (n.val * 64 + (q.val + 64)) - 64) (128 * h.val + d.val) := by
  have hb : n.val + 1 < 258 := by omega
  rw [val_main_v27_apply]
  refine (congrArg (val_main_v25 (F := Ideal) x1) ?_).trans ((ref_vp x1 b ⟨n.val + 1, hb⟩ q h d (by dsimp only; omega)).trans ?_)
  · funext a
    match a with
    | ⟨0, _⟩ => exact Fin.ext (by simp)
    | ⟨1, _⟩ => exact Fin.ext (by simp)
    | ⟨2, _⟩ => exact Fin.ext (by simp; try omega)
    | ⟨3, _⟩ => exact Fin.ext (by simp)
    | ⟨4, _⟩ => exact Fin.ext (by simp)
    | ⟨5, _⟩ => exact Fin.ext (by simp)
  · exact congrArg₂ (at2 _) (by dsimp only; omega) rfl

/-- The values of the window's part 2. -/
theorem ref_vw2 (x1 : FVec Ideal S32768x1536 .bf16) (b : Fin 2) (n : Fin 256) (q : Fin 64) (h : Fin 4) (d : Fin 128)
    (hn : 64 ≤ n.val * 64 + (q.val + 128) ∧ n.val * 64 + (q.val + 128) < 16384 + 64) :
    val_main_v28 (F := Ideal) x1 (ix6 b 0 n q h d)
      = at2 x1 (b.val * 16384 + (n.val * 64 + (q.val + 128)) - 64) (128 * h.val + d.val) := by
  have hb : n.val + 2 < 258 := by omega
  rw [val_main_v28_apply]
  refine (congrArg (val_main_v25 (F := Ideal) x1) ?_).trans ((ref_vp x1 b ⟨n.val + 2, hb⟩ q h d (by dsimp only; omega)).trans ?_)
  · funext a
    match a with
    | ⟨0, _⟩ => exact Fin.ext (by simp)
    | ⟨1, _⟩ => exact Fin.ext (by simp)
    | ⟨2, _⟩ => exact Fin.ext (by simp; try omega)
    | ⟨3, _⟩ => exact Fin.ext (by simp)
    | ⟨4, _⟩ => exact Fin.ext (by simp)
    | ⟨5, _⟩ => exact Fin.ext (by simp)
  · exact congrArg₂ (at2 _) (by dsimp only; omega) rfl

/-- The window of 192 values, inside the sequence. -/
theorem ref_vw (x1 : FVec Ideal S32768x1536 .bf16) (b : Fin 2) (n : Fin 256) (k : Fin 192) (h : Fin 4) (d : Fin 128)
    (hk : 64 ≤ n.val * 64 + k.val ∧ n.val * 64 + k.val < 16384 + 64) :
    val_main_v29 (F := Ideal) x1 (ix6 b 0 n k h d)
      = at2 x1 (b.val * 16384 + (n.val * 64 + k.val) - 64) (128 * h.val + d.val) := by
  pointwise [val_main_v29]
  split
  · exact (ref_vw0 x1 b n _ h d (by dsimp only; omega)).trans (congrArg₂ (at2 _) (by dsimp only; omega) rfl)
  · split
    · exact (ref_vw1 x1 b n _ h d (by dsimp only; omega)).trans (congrArg₂ (at2 _) (by dsimp only; omega) rfl)
    · exact (ref_vw2 x1 b n _ h d (by dsimp only; omega)).trans (congrArg₂ (at2 _) (by dsimp only; omega) rfl)

end Cert.Attn
-- ==== Proof.AttnRefMask.lean ====
/-
The reference's mask at an index.
-/
module
public import proofs.«01_k».proof.Proof.Gen.ReferenceIdeal.Read
public import Idealize.ShloMosaic.Lib.Pointwise

@[expose] public section

set_option maxRecDepth 16384
noncomputable section

open Idealize.ShloMosaic Idealize.ShloMosaic.TcCoe Idealize.SL.Sem

namespace Cert.Attn
open Cert.ReferenceIdeal Cert.ReferenceIdeal.Gen Cert.ReferenceIdeal.Read

/-- The band: a key within 64 places of the query. -/
theorem ref_band (q : Fin 64) (k : Fin 192) :
    val_main_v42 (F := Ideal) (ix2 q k) = 1#1 ↔ q.val ≤ k.val ∧ k.val ≤ q.val + 128 := by
  pointwise [val_main_v42, val_main_v41, val_main_v40, val_main_v39, val_main_v38, val_main_v37, val_main_v36, val_main_v35,
    val_main_v34, val_main_v33, val_main_v32, val_main_v31, val_main_c_4, val_main_c_5]
  revert q k
  decide +kernel

/-- The keys in the sequence. -/
theorem ref_inSeq (n : Fin 256) (k : Fin 192) :
    val_main_v63 (F := Ideal) (ix3 0 n k) = 1#1 ↔ 64 ≤ n.val * 64 + k.val ∧ n.val * 64 + k.val < 16384 + 64 := by
  pointwise [val_main_v63, val_main_v62, val_main_v61, val_main_v60, val_main_v59, val_main_v58, val_main_v57, val_main_v56,
    val_main_v55, val_main_v54, val_main_v53, val_main_v52, val_main_v51, val_main_v50, val_main_v49, val_main_v48,
    val_main_v47, val_main_v46, val_main_v45, val_main_v44, val_main_v43, val_main_v34, val_main_v33, val_main_v32,
    val_main_v31, val_main_c_4, val_main_c_6, val_main_c_7, val_main_c_8, val_main_c_9]
  revert n k
  decide +kernel

end Cert.Attn
-- ==== Proof.AttnRef.lean ====
/-
The reference attention read at an index: the same 129 keys, placed in a window of 192.
-/
module
public import proofs.«01_k».proof.Proof.AttnRefKeys
public import proofs.«01_k».proof.Proof.AttnRefMask
public import Idealize.ShloMosaic.Lib.KernelVsHost

@[expose] public section

set_option maxRecDepth 16384
noncomputable section

open Idealize.ShloMosaic Idealize.ShloMosaic.TcCoe Idealize.SL.Sem

namespace Cert.Attn
open Cert.ReferenceIdeal Cert.ReferenceIdeal.Gen Cert.ReferenceIdeal.Read

/-- A one-bit conjunction. -/
theorem andi_one (x y : BitVec 1) : IntOp.andi x y = 1#1 ↔ x = 1#1 ∧ y = 1#1 := by
  revert x y; decide

/-- A select on a bit, as a choice. -/
theorem select_bit {α : Type _} (b : BitVec 1) (x y : α) : Scalar.select b x y = if b = 1#1 then x else y := by
  rcases (by revert b; decide : ∀ b : BitVec 1, b = 0#1 ∨ b = 1#1) b with rfl | rfl <;> rfl

/-- The reference's masked scores of one query. -/
def rsc (x0 : FVec Ideal S32768x3072 .bf16) (b : Fin 2) (n : Fin 256) (h : Fin 4) (q : Fin 64) (k : Fin 192) : EReal :=
  val_main_v70 (F := Ideal) x0 (ix6 b 0 n h q k)

/-- A masked score. -/
theorem rsc_apply (x0 : FVec Ideal S32768x3072 .bf16) (b : Fin 2) (n : Fin 256) (h : Fin 4) (q : Fin 64) (k : Fin 192) :
    rsc x0 b n h q k = if (q.val ≤ k.val ∧ k.val ≤ q.val + 128) ∧ (64 ≤ n.val * 64 + k.val ∧ n.val * 64 + k.val < 16384 + 64)
      then ∑ d : Fin 128, val_main_v11 (F := Ideal) x0 (ix6 b 0 n q h d) * val_main_v20 (F := Ideal) x0 (ix6 b 0 n k h d)
      else ⊥ := by
  unfold rsc
  pointwise [val_main_v70, val_main_call5_v2, val_main_call5_v1, val_main_call5_v0, val_main_v30, val_main_v69, val_main_v68,
    val_main_v67, val_main_v66, val_main_v65, val_main_v64]
  rw [select_bit]
  refine if_congr ((andi_one _ _).trans (and_congr (ref_band q k) (ref_inSeq n k))) rfl ?_
  show Ideal.ofBits FTy.f32 4286578688#32 = ⊥
  simp [Ideal.ofBits, Ideal.ieee]

/-- Where a query's 129 keys lie in its window of 192. -/
def inRef (q : Fin 64) (x : Fin 129) : Fin 192 := ⟨q.val + x.val, by omega⟩

/-- The reference's scores are those of the 129 keys, placed in the window. -/
theorem rsc_placed (x0 : FVec Ideal S32768x3072 .bf16) (b : Fin 2) (n : Fin 256) (h : Fin 4) (q : Fin 64) :
    Placed (inRef q) (rsc x0 b n h q) (sc x0 (b.val * 16384 + n.val * 64 + q.val) h.val) := by
  have hR : (b.val * 16384 + n.val * 64 + q.val) % 16384 = n.val * 64 + q.val := by omega
  refine ⟨fun a c hac => ?_, fun x => ?_, fun j hj => ?_⟩
  · have := congrArg Fin.val hac
    simp only [inRef] at this
    exact Fin.ext (by omega)
  · rw [rsc_apply]
    unfold sc
    rw [hR]
    refine ite_congr (propext ?_) (fun hx => ?_) fun _ => rfl
    · simp only [inRef]; omega
    · refine Finset.sum_congr rfl fun d _ => ?_
      rw [ref_q, ref_kw x0 b n _ h d (by simp only [inRef]; omega)]
      exact congrArg _ (congrArg₂ (at2 _) (by simp only [inRef]; omega) rfl)
  · rw [rsc_apply, if_neg]
    rintro ⟨⟨h1, h2⟩, -⟩
    exact hj ⟨⟨j.val - q.val, by omega⟩, Fin.ext (by simp only [inRef]; omega)⟩

/-- The greatest score. -/
theorem ref_max (x0 : FVec Ideal S32768x3072 .bf16) (b : Fin 2) (n : Fin 256) (h : Fin 4) (q : Fin 64) :
    val_main_v71 (F := Ideal) x0 (ix5 b 0 n h q) = topOf (rsc x0 b n h q) := by
  refine (congrFun (hostReduce_maximumf_eq_multiReduction (F := Ideal) (u := S_) (φ := .f32) (val_main_v70 (F := Ideal) x0)
    0xFF800000#32 reducesTo_S2x1x256x4x64x192_S2x1x256x4x64_d5 h_S_ (by decide) (.inl rfl) rfl) (ix5 b 0 n h q)).trans ?_
  refine (Ideal.multiReduction_maximumf_single _ _ _ _ _ _).trans ?_
  rw [show (FloatOps.ofBits FTy.f32 4286578688#32 : Ideal .f32) = (⊥ : EReal) by
    show Ideal.ofBits FTy.f32 4286578688#32 = ⊥
    simp [Ideal.ofBits, Ideal.ieee]]
  refine Finset.fold_congr fun k _ => congrArg (val_main_v70 (F := Ideal) x0) (funext fun a => Fin.ext ?_)
  match a with
  | ⟨0, _⟩ => rfl
  | ⟨1, _⟩ => rfl
  | ⟨2, _⟩ => rfl
  | ⟨3, _⟩ => rfl
  | ⟨4, _⟩ => rfl
  | ⟨5, _⟩ => rfl

/-- A weight. -/
theorem ref_wt (x0 : FVec Ideal S32768x3072 .bf16) (b : Fin 2) (n : Fin 256) (h : Fin 4) (q : Fin 64) (k : Fin 192) :
    val_main_v75 (F := Ideal) x0 (ix6 b 0 n h q k) = wt (rsc x0 b n h q) k := by
  pointwise [val_main_v75, val_main_v74, val_main_v73, val_main_v72]
  rw [ref_max]
  rfl

/-- The sum of the weights. -/
theorem ref_den (x0 : FVec Ideal S32768x3072 .bf16) (b : Fin 2) (n : Fin 256) (h : Fin 4) (q : Fin 64) :
    val_main_v76 (F := Ideal) x0 (ix5 b 0 n h q) = den (rsc x0 b n h q) := by
  rw [val_main_v76_apply]
  rw [show (val_main_cst_11 (F := Ideal)) (Shape.Idx.first h_S_) = (0 : EReal) by
    show Ideal.ofBits FTy.f32 0#32 = 0
    simp [Ideal.ofBits, Ideal.ieee], zero_add]
  refine Finset.sum_congr rfl fun k _ => ?_
  refine (congrArg (val_main_v75 (F := Ideal) x0) ?_).trans (ref_wt x0 b n h q k)
  funext a
  match a with
  | ⟨0, _⟩ => rfl
  | ⟨1, _⟩ => rfl
  | ⟨2, _⟩ => rfl
  | ⟨3, _⟩ => rfl
  | ⟨4, _⟩ => rfl
  | ⟨5, _⟩ => rfl

/-- The values the weighted scores meet are those at the sequence's keys. -/
theorem ref_value (x0 : FVec Ideal S32768x3072 .bf16) (x1 : FVec Ideal S32768x1536 .bf16) (b : Fin 2) (n : Fin 256)
    (h : Fin 4) (q : Fin 64) (d : Fin 128) (x : Fin 129)
    (hx : sc x0 (b.val * 16384 + n.val * 64 + q.val) h.val x ≠ ⊥) :
    val_main_v29 (F := Ideal) x1 (ix6 b 0 n (inRef q x) h d)
      = vl x1 (b.val * 16384 + n.val * 64 + q.val) (128 * h.val + d.val) x := by
  have hs := sc_inSeq hx
  have hR : (b.val * 16384 + n.val * 64 + q.val) % 16384 = n.val * 64 + q.val := by omega
  rw [hR] at hs
  rw [ref_vw x1 b n _ h d (by simp only [inRef]; omega)]
  exact congrArg₂ (at2 _) (by simp only [inRef]; omega) rfl

/-- The reference's output at block coordinates. -/
theorem ref_out (x0 : FVec Ideal S32768x3072 .bf16) (x1 : FVec Ideal S32768x1536 .bf16) (b : Fin 2) (n : Fin 256)
    (h : Fin 4) (q : Fin 64) (d : Fin 128) (ht : Tame (sc x0 (b.val * 16384 + n.val * 64 + q.val) h.val)) :
    ∑ k : Fin 192, val_main_v29 (F := Ideal) x1 (ix6 b 0 n k h d)
        * Ideal.div (val_main_v75 (F := Ideal) x0 (ix6 b 0 n h q k)) (val_main_v76 (F := Ideal) x0 (ix5 b 0 n h q))
      = attn x0 x1 (b.val * 16384 + n.val * 64 + q.val) (128 * h.val + d.val) := by
  have hp := (rsc_placed x0 b n h q).softmax ht (fun k => val_main_v29 (F := Ideal) x1 (ix6 b 0 n k h d)) _
    (fun x hx => ref_value x0 x1 b n h q d x hx)
  unfold attn
  rw [show (128 * h.val + d.val) / 128 = h.val by omega, ← hp]
  refine Finset.sum_congr rfl fun k _ => ?_
  rw [ref_wt, ref_den]

/-- The reference's output array. -/
theorem ref_out_array (x0 : FVec Ideal S32768x3072 .bf16) (x1 : FVec Ideal S32768x1536 .bf16)
    (ht : ∀ R h, Tame (sc x0 R h)) (i : S32768x512.Idx) :
    val_main_v94 (F := Ideal) x0 x1 i = attn x0 x1 (i 0).val (i 1).val := by
  obtain ⟨r, c, rfl⟩ : ∃ (r : Fin 32768) (c : Fin 512), i = ix2 r c := ⟨i 0, i 1, eq_ix2 i⟩
  pointwise [val_main_v94, val_main_v93, val_main_v88, val_main_v87, val_main_v86, val_main_v82, val_main_v81, val_main_v80,
    val_main_v79, val_main_v78, val_main_v77]
  refine (ref_out x0 x1 _ _ _ _ _ (ht _ _)).trans (congrArg₂ (attn _ _) ?_ ?_)
  · simp; omega
  · simp; omega

/-- The reference's logarithms at block coordinates, before the unit axis is dropped. -/
theorem ref_lse6 (x0 : FVec Ideal S32768x3072 .bf16) (b : Fin 2) (n : Fin 256) (h : Fin 4) (q : Fin 64) :
    val_main_v84 (F := Ideal) x0 (ix6 b 0 n h q 0) = lse x0 (b.val * 16384 + n.val * 64 + q.val) h.val := by
  have hp := rsc_placed x0 b n h q
  have e2 : idx_main_v72 (ix6 b 0 n h q 0) = ix5 b 0 n h q := by
    funext a
    match a with
    | ⟨0, _⟩ => rfl
    | ⟨1, _⟩ => rfl
    | ⟨2, _⟩ => rfl
    | ⟨3, _⟩ => rfl
    | ⟨4, _⟩ => rfl
  have e7 : idx_main_v77 (ix6 b 0 n h q 0) = ix5 b 0 n h q := by
    funext a
    match a with
    | ⟨0, _⟩ => rfl
    | ⟨1, _⟩ => rfl
    | ⟨2, _⟩ => rfl
    | ⟨3, _⟩ => rfl
    | ⟨4, _⟩ => rfl
  rw [val_main_v84_apply, val_main_v83_apply, val_main_v77_apply, val_main_v72_apply, e2, e7, ref_max, ref_den, hp.top, hp.den]
  unfold lse
  rw [if_pos h.isLt]
  generalize topOf _ = u
  generalize Attn.den _ = w
  rfl

/-- The reference's logarithms at block coordinates. -/
theorem ref_lse (x0 : FVec Ideal S32768x3072 .bf16) (b : Fin 2) (n : Fin 256) (h : Fin 4) (q : Fin 64) :
    val_main_v85 (F := Ideal) x0 (ix5 b 0 n h q) = lse x0 (b.val * 16384 + n.val * 64 + q.val) h.val := by
  unfold val_main_v85
  refine Eq.trans ?_ (ref_lse6 x0 b n h q)
  generalize val_main_v84 (F := Ideal) x0 = y
  refine shapeCast_apply y shapeCasts_S2x1x256x4x64x1_S2x1x256x4x64 (ix5 b 0 n h q) (ix6 b 0 n h q 0) ?_
  rw [Shape.rowMajor_val_six, Shape.rowMajor_val_five]
  simp

/-- The reference's logarithms before the padding lanes. -/
theorem ref_lse_heads (x0 : FVec Ideal S32768x3072 .bf16) (r : Fin 32768) (c : Fin 4) :
    val_main_v95 (F := Ideal) x0 (ix2 r c) = lse x0 r.val c.val := by
  have hb : r.val / 16384 < 2 := by omega
  have hn : r.val % 16384 / 64 < 256 := by omega
  have hq : r.val % 64 < 64 := by omega
  rw [val_main_v95_apply, val_main_v92_apply, val_main_v91_apply, val_main_v90_apply, val_main_v89_apply]
  refine (congrArg (val_main_v85 (F := Ideal) x0) ?_).trans
    ((ref_lse x0 ⟨r.val / 16384, hb⟩ ⟨r.val % 16384 / 64, hn⟩ c ⟨r.val % 64, hq⟩).trans (congrArg₂ (lse x0) ?_ rfl))
  · funext a
    match a with
    | ⟨0, _⟩ => exact Fin.ext (by simp; omega)
    | ⟨1, _⟩ => exact Fin.ext (by simp)
    | ⟨2, _⟩ => exact Fin.ext (by simp; omega)
    | ⟨3, _⟩ => exact Fin.ext (by simp <;> omega)
    | ⟨4, _⟩ => exact Fin.ext (by simp <;> omega)
  · dsimp only
    omega

/-- The reference's array of logarithms. -/
theorem ref_lse_array (x0 : FVec Ideal S32768x3072 .bf16) (i : S32768x128.Idx) :
    val_main_v96 (F := Ideal) x0 i = lse x0 (i 0).val (i 1).val := by
  obtain ⟨r, c, rfl⟩ : ∃ (r : Fin 32768) (c : Fin 128), i = ix2 r c := ⟨i 0, i 1, eq_ix2 i⟩
  by_cases hc : c.val < 4
  · unfold val_main_v96
    rw [pad_apply_of_inside _ _ _ _ _ _ _ _ (ix2 r ⟨c.val, hc⟩) (Fin.forall_fin_two.2 ⟨by simp, by simp⟩)]
    exact ref_lse_heads x0 r ⟨c.val, hc⟩
  · unfold val_main_v96
    rw [pad_apply_of_not_inside _ _ _ _ _ _ _ _ 1 (by simp; omega)]
    refine Eq.trans ?_ (if_neg hc).symm
    show (((0#32 : BitVec 32).toInt : ℝ) : EReal) = 0
    simp

end Cert.Attn
-- ==== Proof.AttnClaim.lean ====
/-
The kernel's arrays are the reference's when queries and keys are finite.
-/
module
public import proofs.«01_k».proof.Defs
public import proofs.«01_k».proof.Proof.AttnValue
public import proofs.«01_k».proof.Proof.AttnRef

@[expose] public section

noncomputable section

open Idealize.ShloMosaic Idealize.ShloMosaic.TcCoe Idealize.SL.Sem

namespace Cert.Attn

/-- The side conditions of the precondition's operations. -/
theorem preFacts : Cert.Pre_finite_scores.Facts where
  bitsLt_bf16_f32 := by decide
  bcast_S_S32768x3072 := by decide

/-- Under the precondition each query and key is a real number. -/
theorem finite_entries (A : FVec Ideal Cert.KernelIdeal.S32768x3072 .bf16) (B : FVec Ideal Cert.KernelIdeal.S32768x1536 .bf16)
    (h : @Cert.Pre_finite_scores.fn preFacts Ideal _ A B = fun _ => 1#1) (i : Cert.KernelIdeal.S32768x3072.Idx) :
    ∃ r : ℝ, A i = (r : EReal) := by
  have hi := congrFun h i
  have key : ∀ x : EReal, x ≠ ⊥ → x ≠ ⊤ → ∃ r : ℝ, x = (r : EReal) := fun x h1 h2 => ⟨x.toReal, (EReal.coe_toReal h2 h1).symm⟩
  have ht : Ideal.ofBits .f32 0x7F800000#32 = (⊤ : EReal) := by simp [Ideal.ofBits, Ideal.ieee]
  unfold Cert.Pre_finite_scores.fn at hi
  pointwise at hi
  rw [ht] at hi
  have hlt : max (A i) (-(A i)) < (⊤ : EReal) := by
    by_contra hc
    have : decide (max (A i) (-(A i)) < (⊤ : EReal)) = false := decide_eq_false hc
    have hi' : BitVec.ofBool (decide (max (A i) (-(A i)) < (⊤ : EReal))) = 1#1 := hi
    rw [this] at hi'
    exact absurd hi' (by decide)
  refine key _ (fun hb => ?_) fun hb => ?_
  · rw [hb] at hlt; simp at hlt
  · rw [hb] at hlt; simp at hlt

/-- So are the entries at natural coordinates. -/
theorem at2_real {n k : ℕ} (A : (⟨2, ![n, k]⟩ : Shape).Idx → EReal) (h : ∀ i, ∃ r : ℝ, A i = (r : EReal)) (r c : ℕ) :
    ∃ x : ℝ, at2 A r c = (x : EReal) := by
  unfold at2
  split
  · exact h _
  · exact ⟨0, rfl⟩

/-- A sum of products of real numbers is real. -/
theorem sum_mul_coe {n : ℕ} (f g : Fin n → EReal) (hf : ∀ i, ∃ r : ℝ, f i = r) (hg : ∀ i, ∃ r : ℝ, g i = r) :
    ∃ r : ℝ, ∑ i, f i * g i = (r : EReal) := by
  choose u hu using hf
  choose w hw using hg
  refine ⟨∑ i, u i * w i, ?_⟩
  simp only [hu, hw, ← EReal.coe_mul]
  exact (map_sum (⟨⟨fun r : ℝ => (r : EReal), rfl⟩, EReal.coe_add⟩ : ℝ →+ EReal) _ _).symm

/-- Each query's scores are real or masked, its own key's real. -/
theorem sc_tame (A : Cert.KernelIdeal.S32768x3072.Idx → EReal) (h : ∀ i, ∃ r : ℝ, A i = (r : EReal)) (R H : ℕ) : Tame (sc A R H) where
  each x := by
    unfold sc
    split
    · exact .inr (sum_mul_coe _ _ (fun _ => at2_real A h _ _) fun _ => at2_real A h _ _)
    · exact .inl rfl
  some := by
    refine ⟨⟨64, by decide⟩, ?_⟩
    unfold sc
    rw [if_pos (by dsimp only; omega)]
    exact sum_mul_coe _ _ (fun _ => at2_real A h _ _) fun _ => at2_real A h _ _

open Cert.KernelIdeal Cert.KernelIdeal.Gen in
/-- The kernel's output array is the reference's. -/
theorem out_eq (m : (ℓ : Loc Cert.KernelIdeal.nD Cert.KernelIdeal.τ Cert.KernelIdeal.sig) → Buf (Elt Ideal) ℓ)
    (c : Dev Cert.KernelIdeal.nD) (h : ∀ i, ∃ r : ℝ, arrQK m c i = (r : EReal)) :
    Cert.ReferenceIdeal.Read.val_main_v94 (F := Ideal) (arrQK m c) (arrV m c) = (dats m 0 c).arrAt 7 cfg0.N := by
  rw [out_array]
  exact funext fun i => ref_out_array _ _ (sc_tame _ h) i

open Cert.KernelIdeal Cert.KernelIdeal.Gen in
/-- The kernel's array of logarithms is the reference's. -/
theorem lse_eq (m : (ℓ : Loc Cert.KernelIdeal.nD Cert.KernelIdeal.τ Cert.KernelIdeal.sig) → Buf (Elt Ideal) ℓ)
    (c : Dev Cert.KernelIdeal.nD) :
    Cert.ReferenceIdeal.Read.val_main_v96 (F := Ideal) (arrQK m c) = (dats m 0 c).arrAt 8 cfg0.N := by
  rw [lse_array]
  exact funext fun i => ref_lse_array _ i

end Cert.Attn
-- ==== Proof.FfnArray.lean ====
/-
The blocks the feed-forward kernel reads, at coordinates of its argument arrays.
-/
module
public import proofs.«01_k».proof.Proof.Gen.Kernel2Ideal.Value
public import proofs.«01_k».proof.Proof.Coord
public import Idealize.ShloMosaic.Lib.Pointwise
public import Idealize.ShloMosaic.Lib.Pipeline.ValueKit

@[expose] public section

set_option maxRecDepth 16384
noncomputable section

open Idealize.ShloMosaic Idealize.ShloMosaic.TcCoe Idealize.SL.Sem
open Idealize.ShloMosaic.Pipeline (Dat)

namespace Cert.Ffn
open Cert.Kernel2Ideal Cert.Kernel2Ideal.Gen Cert.Kernel2Ideal.Value
open Cert.Attn (at2 at2_eq at2_ix)

/-- The block of each window at each grid point: eleven steps for each block of rows. -/
theorem idx : ∀ t : Fin cfg0.N,
    win0_0.index t = ![t.val / 11, 0]
    ∧ win0_1.index t = ![t.val / 11, 0]
    ∧ win0_3.index t = ![0, 0]
    ∧ win0_4.index t = ![0, t.val % 11]
    ∧ win0_5.index t = ![0, t.val % 11]
    ∧ win0_6.index t = ![t.val % 11, 0]
    ∧ win0_7.index t = ![t.val / 11, 0]
    ∧ win0_2.index t = ![0, 0] :=
  (by decide +kernel : ∀ t : Fin grid0.N, _)

variable (m : (ℓ : Loc nD τ sig) → Buf (Elt Ideal) ℓ)

/-- The tokens. -/
def arrX (c : Dev nD) : FVec Ideal S32768x2048 .f32 := m ((c.tc : Thread nD τ).loc main_arg0)

/-- The tokens the products take. -/
def arrU (c : Dev nD) : FVec Ideal S32768x2048 .bf16 := m ((c.tc : Thread nD τ).loc main_arg1)

/-- The gain. -/
def arrG (c : Dev nD) : FVec Ideal S1x2048 .f32 := m ((c.tc : Thread nD τ).loc main_arg2)

/-- The first weight matrix. -/
def arrWg (c : Dev nD) : FVec Ideal S2048x5632 .f32 :=
  shapeCast S2048x5632 (m ((c.tc : Thread nD τ).loc main_arg3)) shapeCasts_S1x2048x5632_S2048x5632

/-- The second weight matrix. -/
def arrWu (c : Dev nD) : FVec Ideal S2048x5632 .f32 :=
  shapeCast S2048x5632 (m ((c.tc : Thread nD τ).loc main_arg4)) shapeCasts_S1x2048x5632_S2048x5632

/-- The last weight matrix. -/
def arrWd (c : Dev nD) : FVec Ideal S5632x2048 .f32 :=
  shapeCast S5632x2048 (m ((c.tc : Thread nD τ).loc main_arg5)) shapeCasts_S1x5632x2048_S5632x2048

/-- The first weights at the launch of the call. -/
theorem V_wg (c : Dev nD) : V m c main_v1 = arrWg m c := by
  unfold V
  after_results
  try rfl

theorem V_wu (c : Dev nD) : V m c main_v3 = arrWu m c := by
  unfold V
  after_results
  try rfl

theorem V_wd (c : Dev nD) : V m c main_v5 = arrWd m c := by
  unfold V
  after_results
  try rfl

/-- The token block. -/
theorem iblk0 (c : Dev nD) (t : Fin cfg0.N) (y : S512x2048.Idx) :
    iblk m c 0 t y = at2 (arrX m c) (t.val / 11 * 512 + (y 0).val) (y 1).val := by
  refine (show iblk m c 0 t y = arrX m c ((win0_0.blk t).view.emb y) from rfl).trans (at2_eq _ _ _ _ ?_ ?_)
  · blk_simp [idx t]
  · blk_simp [idx t]

/-- The block the products take. -/
theorem iblk1 (c : Dev nD) (t : Fin cfg0.N) (y : S512x2048.Idx) :
    iblk m c 1 t y = at2 (arrU m c) (t.val / 11 * 512 + (y 0).val) (y 1).val := by
  refine (show iblk m c 1 t y = arrU m c ((win0_1.blk t).view.emb y) from rfl).trans (at2_eq _ _ _ _ ?_ ?_)
  · blk_simp [idx t]
  · blk_simp [idx t]

/-- The gain's block. -/
theorem iblk2 (c : Dev nD) (t : Fin cfg0.N) (y : S1x2048.Idx) :
    iblk m c 2 t y = at2 (arrG m c) (y 0).val (y 1).val := by
  refine (show iblk m c 2 t y = arrG m c ((win0_2.blk t).view.emb y) from rfl).trans (at2_eq _ _ _ _ ?_ ?_)
  · blk_simp [idx t]
  · blk_simp [idx t]

/-- The first weights' block. -/
theorem iblk4 (c : Dev nD) (t : Fin cfg0.N) (y : S2048x512.Idx) :
    iblk m c 4 t y = at2 (arrWg m c) (y 0).val (t.val % 11 * 512 + (y 1).val) := by
  refine ((show iblk m c 4 t y = V m c main_v1 ((win0_4.blk t).view.emb y) from rfl).trans
    (congrFun (V_wg m c) _)).trans (at2_eq _ _ _ _ ?_ ?_)
  · blk_simp [idx t]
  · blk_simp [idx t]

/-- The second weights' block. -/
theorem iblk5 (c : Dev nD) (t : Fin cfg0.N) (y : S2048x512.Idx) :
    iblk m c 5 t y = at2 (arrWu m c) (y 0).val (t.val % 11 * 512 + (y 1).val) := by
  refine ((show iblk m c 5 t y = V m c main_v3 ((win0_5.blk t).view.emb y) from rfl).trans
    (congrFun (V_wu m c) _)).trans (at2_eq _ _ _ _ ?_ ?_)
  · blk_simp [idx t]
  · blk_simp [idx t]

/-- The last weights' block. -/
theorem iblk6 (c : Dev nD) (t : Fin cfg0.N) (y : S512x2048.Idx) :
    iblk m c 6 t y = at2 (arrWd m c) (t.val % 11 * 512 + (y 0).val) (y 1).val := by
  refine ((show iblk m c 6 t y = V m c main_v5 ((win0_6.blk t).view.emb y) from rfl).trans
    (congrFun (V_wd m c) _)).trans (at2_eq _ _ _ _ ?_ ?_)
  · blk_simp [idx t]
  · blk_simp [idx t]

end Cert.Ffn
-- ==== Proof.FfnSpec.lean ====
/-
The feed-forward block of one token, over the extended reals.
-/
module
public import Idealize.ShloMosaic.PureOps.Ideal

@[expose] public section

noncomputable section

open Idealize.ShloMosaic

namespace Cert.Ffn

/-- The product of a token's 2048 features with column `f` of a weight matrix. -/
def proj (u : ℕ → EReal) (w : ℕ → ℕ → EReal) (f : ℕ) : EReal := ∑ k : Fin 2048, u k.val * w k.val f

/-- The gated hidden feature `f`: the gate times its sigmoid, times the other product. -/
def hid (u : ℕ → EReal) (wg wu : ℕ → ℕ → EReal) (f : ℕ) : EReal :=
  proj u wg f * Ideal.logistic (proj u wg f) * proj u wu f

/-- The product of the first `n` hidden features with column `d` of the last weight matrix. -/
def part (u : ℕ → EReal) (wg wu wd : ℕ → ℕ → EReal) (n d : ℕ) : EReal :=
  ∑ f ∈ Finset.range n, hid u wg wu f * wd f d

/-- The features of a token over their root mean square, times a gain. -/
def rms (v g : ℕ → EReal) (d : ℕ) : EReal :=
  v d * Ideal.rsqrt (Ideal.div (∑ k : Fin 2048, v k.val * v k.val) (Ideal.ofBits .f32 0x45000000#32)
    + Ideal.ofBits .f32 0x358637BD#32) * g d

/-- The block: the token plus half the normalised product. -/
def ffn (x u : ℕ → EReal) (wg wu wd : ℕ → ℕ → EReal) (g : ℕ → EReal) (d : ℕ) : EReal :=
  x d + Ideal.ofBits .f32 0x3F000000#32 * rms (part u wg wu wd 5632) g d

/-- No hidden feature yet. -/
theorem part_zero (u : ℕ → EReal) (wg wu wd : ℕ → ℕ → EReal) (d : ℕ) : part u wg wu wd 0 d = 0 := rfl

/-- The next 512 hidden features added. -/
theorem part_step (u : ℕ → EReal) (wg wu wd : ℕ → ℕ → EReal) (j d : ℕ) :
    part u wg wu wd (512 * (j + 1)) d
      = part u wg wu wd (512 * j) d + ∑ f : Fin 512, hid u wg wu (512 * j + f.val) * wd (512 * j + f.val) d := by
  unfold part
  rw [show 512 * (j + 1) = 512 * j + 512 by omega, Finset.sum_range_add]
  exact congrArg _ (Finset.sum_range fun f => hid u wg wu (512 * j + f) * wd (512 * j + f) d)

/-- All the hidden features. -/
theorem part_all (u : ℕ → EReal) (wg wu wd : ℕ → ℕ → EReal) (d : ℕ) :
    part u wg wu wd 5632 d = ∑ f : Fin 5632, hid u wg wu f.val * wd f.val d :=
  Finset.sum_range fun f => hid u wg wu f * wd f d

/-- The normalised features depend on the 2048 features and the gain alone. -/
theorem rms_congr {v v' g g' : ℕ → EReal} {d : ℕ} (hd : d < 2048) (hv : ∀ k < 2048, v k = v' k) (hg : g d = g' d) :
    rms v g d = rms v' g' d := by
  unfold rms
  rw [hv d hd, hg, Finset.sum_congr rfl fun (k : Fin 2048) _ => by rw [hv k.val k.isLt]]

end Cert.Ffn
-- ==== Proof.FfnPay.lean ====
/-
One step of the feed-forward kernel, read at an index.
-/
module
public import proofs.«01_k».proof.Proof.Gen.Kernel2Ideal.Skeleton
public import proofs.«01_k».proof.Proof.FfnSpec
public import Idealize.ShloMosaic.Lib.Pointwise

@[expose] public section

set_option maxRecDepth 16384
noncomputable section

open Idealize.ShloMosaic Idealize.ShloMosaic.TcCoe

namespace Cert.Ffn
open Cert.Kernel2Ideal Cert.Kernel2Ideal.Gen

/-- The gated hidden features of a block of tokens, for 256 columns of the two weight matrices. -/
def gated (u : FVec Ideal S512x2048 .bf16) (wg wu : FVec Ideal S2048x256 .bf16) : FVec Ideal S512x256 .bf16 :=
  truncf .bf16 (mulf (mulf (matmul (F := Ideal) dot_S512x2048_S2048x256_S512x256_1_0_0_1_n_n none u wg (constant S512x256 .f32 0x00000000#32))
    (logistic (matmul (F := Ideal) dot_S512x2048_S2048x256_S512x256_1_0_0_1_n_n none u wg (constant S512x256 .f32 0x00000000#32))))
    (matmul (F := Ideal) dot_S512x2048_S2048x256_S512x256_1_0_0_1_n_n none u wu (constant S512x256 .f32 0x00000000#32))) bitsLt_bf16_f32

/-- One gated feature. -/
theorem gated_apply (u : FVec Ideal S512x2048 .bf16) (wg wu : FVec Ideal S2048x256 .bf16) (r : Fin 512) (f : Fin 256) :
    gated u wg wu (ix2 r f) = (∑ k : Fin 2048, u (ix2 r k) * wg (ix2 k f))
      * Ideal.logistic (∑ k : Fin 2048, u (ix2 r k) * wg (ix2 k f)) * ∑ k : Fin 2048, u (ix2 r k) * wu (ix2 k f) := by
  pointwise [gated]

/-- The step: what the block held plus the product of the gated features with the rows of the last matrix. -/
def step (h0 h1 : FVec Ideal S512x256 .bf16) (acc : FVec Ideal S512x2048 .f32) (wd : FVec Ideal S512x2048 .bf16) :
    FVec Ideal S512x2048 .f32 :=
  addf acc (matmul (F := Ideal) dot_S512x512_S512x2048_S512x2048_1_0_0_1_n_n none
    (concatenate S512x512 1 [⟨S512x256, h0⟩, ⟨S512x256, h1⟩] concatenates_S512x256_S512x256_S512x512_d1) wd
    (constant S512x2048 .f32 0x00000000#32))

/-- The printed step is that one. -/
theorem pay3_eq (u : FVec Ideal S512x2048 .bf16) (wg0 wu0 wg1 wu1 : FVec Ideal S2048x256 .bf16)
    (acc : FVec Ideal S512x2048 .f32) (wd : FVec Ideal S512x2048 .bf16) :
    k0_pay3 u wg0 wu0 wg1 wu1 acc wd = step (gated u wg0 wu0) (gated u wg1 wu1) acc wd := by
  unfold k0_pay3 step gated
  rw [shapeCast_self wg0, shapeCast_self wu0, shapeCast_self wg1, shapeCast_self wu1, shapeCast_self acc, shapeCast_self wd]

/-- The step at an index, for hidden features given by one function. -/
theorem step_apply (h0 h1 : FVec Ideal S512x256 .bf16) (acc : FVec Ideal S512x2048 .f32) (wd : FVec Ideal S512x2048 .bf16)
    (r : Fin 512) (d : Fin 2048) (H : ℕ → EReal) (e0 : ∀ f : Fin 256, h0 (ix2 r f) = H f.val)
    (e1 : ∀ f : Fin 256, h1 (ix2 r f) = H (256 + f.val)) :
    step h0 h1 acc wd (ix2 r d) = acc (ix2 r d) + ∑ f : Fin 512, H f.val * wd (ix2 f d) := by
  pointwise [step]
  rw [show (∑ f : Fin 512, H f.val * wd (ix2 f d)) = (∑ x : Fin 256, H x.val * wd (ix2 ⟨x.val, by omega⟩ d))
    + ∑ x : Fin 256, H (256 + x.val) * wd (ix2 ⟨256 + x.val, by omega⟩ d) from
      Fin.sum_univ_add (a := 256) (b := 256) fun f => H f.val * wd (ix2 f d)]
  exact congrArg _ (congrArg₂ (· + ·) (Finset.sum_congr rfl fun f _ => by rw [e0 f])
    (Finset.sum_congr rfl fun f _ => by rw [e1 f]))

/-- The first step starts from nought. -/
theorem pay2_apply (y : S512x2048.Idx) : k0_pay2 (F := Ideal) y = (0 : EReal) := by
  simp [k0_pay2, broadcast, Scalar.ofBits, Ideal.ofBits, Ideal.ieee]

/-- The end: the token plus half its normalised product. -/
theorem pay1_apply (x acc : FVec Ideal S512x2048 .f32) (g : FVec Ideal S1x2048 .f32) (r : Fin 512) (d : Fin 2048) (V G : ℕ → EReal)
    (hV : ∀ k : Fin 2048, acc (ix2 r k) = V k.val) (hG : g (ix2 0 d) = G d.val) :
    k0_pay1 x acc g (ix2 r d) = x (ix2 r d) + Ideal.ofBits .f32 0x3F000000#32 * rms V G d.val := by
  pointwise [k0_pay1]
  simp only [hV, hG]
  rfl

end Cert.Ffn
-- ==== Proof.FfnRef.lean ====
/-
The reference's feed-forward block at an index.
-/
module
public import proofs.«01_k».proof.Proof.Gen.Reference2Ideal.Run
public import proofs.«01_k».proof.Proof.FfnSpec
public import proofs.«01_k».proof.Proof.Coord
public import Idealize.ShloMosaic.Lib.Pointwise

@[expose] public section

set_option maxRecDepth 16384
noncomputable section

open Idealize.ShloMosaic Idealize.ShloMosaic.TcCoe Idealize.SL.Sem

namespace Cert.Ffn
open Cert.Reference2Ideal Cert.Reference2Ideal.Gen
open Cert.Attn (at2 at2_ix)

/-- The reference's product with a weight matrix. -/
def rProj (u : FVec Ideal S32768x2048 .f32) (w : FVec Ideal S2048x5632 .f32) : FVec Ideal S32768x5632 .f32 :=
  Host.dotGeneral (F := Ideal) dot_S32768x2048_S2048x5632_S32768x5632_1_0_0_1_n_n none u w

/-- The reference's hidden features. -/
def rHid (u : FVec Ideal S32768x2048 .f32) (wg wu : FVec Ideal S2048x5632 .f32) : FVec Ideal S32768x5632 .f32 :=
  mulf (mulf (rProj u wg) (Host.divf (broadcastInDim S32768x5632 ![] bcast_S_S32768x5632 (constant S_ .f32 0x3F800000#32))
    (addf (broadcastInDim S32768x5632 ![] bcast_S_S32768x5632 (constant S_ .f32 0x3F800000#32)) (Host.exp (Host.negf (rProj u wg))))))
    (rProj u wu)

/-- The reference's product with the last weight matrix. -/
def rDown (h : FVec Ideal S32768x5632 .f32) (w : FVec Ideal S5632x2048 .f32) : FVec Ideal S32768x2048 .f32 :=
  Host.dotGeneral (F := Ideal) dot_S32768x5632_S5632x2048_S32768x2048_1_0_0_1_n_n none h w

/-- The reference's normalisation. -/
def rNorm (v : FVec Ideal S32768x2048 .f32) (g : FVec Ideal S2048 .f32) : FVec Ideal S32768x2048 .f32 :=
  mulf (mulf v (broadcastInDim S32768x2048 ![0, 1] bcast_S32768x1_S32768x2048_0_1 (Host.rsqrt (addf (Host.divf
    (broadcastInDim S32768x1 ![0] bcast_S32768_S32768x1_0 (Host.reduceAdd (mulf v v) (constant S_ .f32 0x00000000#32)
      reducesTo_S32768x2048_S32768_d1 h_S_))
    (broadcastInDim S32768x1 ![] bcast_S_S32768x1 (constant S_ .f32 0x45000000#32)))
    (broadcastInDim S32768x1 ![] bcast_S_S32768x1 (constant S_ .f32 0x358637BD#32))))))
    (broadcastInDim S32768x2048 ![0, 1] bcast_S1x2048_S32768x2048_0_1 (broadcastInDim S1x2048 ![1] bcast_S2048_S1x2048_1 g))

/-- The reference's block: a token plus half a vector. -/
def rRes (x v : FVec Ideal S32768x2048 .f32) : FVec Ideal S32768x2048 .f32 :=
  addf x (mulf (broadcastInDim S32768x2048 ![] bcast_S_S32768x2048 (constant S_ .f32 0x3F000000#32)) v)

theorem rProj_apply (u : FVec Ideal S32768x2048 .f32) (w : FVec Ideal S2048x5632 .f32) (r : Fin 32768) (f : Fin 5632) :
    rProj u w (ix2 r f) = proj (at2 u r.val) (at2 w) f.val := by
  pointwise [rProj]
  exact Finset.sum_congr rfl fun k _ => by rw [at2_ix, at2_ix]

theorem rHid_apply (u : FVec Ideal S32768x2048 .f32) (wg wu : FVec Ideal S2048x5632 .f32) (r : Fin 32768) (f : Fin 5632) :
    rHid u wg wu (ix2 r f) = hid (at2 u r.val) (at2 wg) (at2 wu) f.val := by
  pointwise [rHid]
  rw [rProj_apply, rProj_apply]
  rfl

theorem rDown_apply (u : FVec Ideal S32768x2048 .f32) (wg wu : FVec Ideal S2048x5632 .f32) (wd : FVec Ideal S5632x2048 .f32)
    (r : Fin 32768) (d : Fin 2048) :
    rDown (rHid u wg wu) wd (ix2 r d) = part (at2 u r.val) (at2 wg) (at2 wu) (at2 wd) 5632 d.val := by
  rw [part_all]
  pointwise [rDown]
  exact Finset.sum_congr rfl fun f _ => by rw [at2_ix wd, rHid_apply]

theorem rNorm_apply (v : FVec Ideal S32768x2048 .f32) (g : FVec Ideal S1x2048 .f32) (V : ℕ → EReal) (r : Fin 32768) (d : Fin 2048)
    (h : ∀ k : Fin 2048, v (ix2 r k) = V k.val) :
    rNorm v (shapeCast S2048 g shapeCasts_S1x2048_S2048) (ix2 r d) = rms V (at2 g 0) d.val := by
  pointwise [rNorm]
  simp only [h]
  unfold rms
  rw [show at2 g 0 d.val = g (ix2 0 d) from at2_ix g 0 d]

/-- The reference's array: each token's block. -/
theorem rFfn_apply (x u : FVec Ideal S32768x2048 .f32) (wg wu : FVec Ideal S2048x5632 .f32) (wd : FVec Ideal S5632x2048 .f32)
    (g : FVec Ideal S1x2048 .f32) :
    rRes x (rNorm (rDown (rHid u wg wu) wd) (shapeCast S2048 g shapeCasts_S1x2048_S2048))
      = fun i => ffn (at2 x (i 0).val) (at2 u (i 0).val) (at2 wg) (at2 wu) (at2 wd) (at2 g 0) (i 1).val := by
  funext i
  obtain ⟨r, d, rfl⟩ : ∃ (r : Fin 32768) (d : Fin 2048), i = ix2 r d := ⟨i 0, i 1, eq_ix2 i⟩
  pointwise [rRes]
  rw [rNorm_apply _ g _ r d (rDown_apply u wg wu wd r)]
  exact congrArg (· + _) (at2_ix x r d).symm

/-- The reference's result is that array. -/
theorem res_eq (m : (ℓ : Loc nD τ sig) → Buf (Elt Ideal) ℓ) (c : Dev nD) :
    Cert.Reference2Ideal.Value.res_main_v25 (F := Ideal) m c
      = rRes (m ((c.tc : Thread nD τ).loc main_arg0)) (rNorm (rDown (rHid (extf .f32 (m ((c.tc : Thread nD τ).loc main_arg1)) bitsLt_bf16_f32)
          (shapeCast _ (m ((c.tc : Thread nD τ).loc main_arg3)) shapeCasts_S1x2048x5632_S2048x5632)
          (shapeCast _ (m ((c.tc : Thread nD τ).loc main_arg4)) shapeCasts_S1x2048x5632_S2048x5632))
          (shapeCast _ (m ((c.tc : Thread nD τ).loc main_arg5)) shapeCasts_S1x5632x2048_S5632x2048))
          (shapeCast S2048 (m ((c.tc : Thread nD τ).loc main_arg2)) shapeCasts_S1x2048_S2048)) := rfl

end Cert.Ffn
-- ==== Proof.FfnClaim.lean ====
/-
The second feed-forward call's array is its reference's.
-/
module
public import proofs.«01_k».proof.Proof.FfnValue
public import proofs.«01_k».proof.Proof.FfnRef

@[expose] public section

noncomputable section

open Idealize.ShloMosaic Idealize.ShloMosaic.TcCoe Idealize.SL.Sem

namespace Cert.Ffn

open Cert.Kernel2Ideal Cert.Kernel2Ideal.Gen in
/-- From equal arguments the two arrays are equal. -/
theorem out_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (c : Dev Cert.Kernel2Ideal.nD)
    (a0 : m' ((c.tc : Thread Cert.Reference2Ideal.nD Cert.Reference2Ideal.τ).loc Cert.Reference2Ideal.main_arg0) = arrX m c)
    (a1 : m' ((c.tc : Thread Cert.Reference2Ideal.nD Cert.Reference2Ideal.τ).loc Cert.Reference2Ideal.main_arg1) = arrU m c)
    (a2 : m' ((c.tc : Thread Cert.Reference2Ideal.nD Cert.Reference2Ideal.τ).loc Cert.Reference2Ideal.main_arg2) = arrG m c)
    (a3 : m' ((c.tc : Thread Cert.Reference2Ideal.nD Cert.Reference2Ideal.τ).loc Cert.Reference2Ideal.main_arg3)
      = m ((c.tc : Thread Cert.Kernel2Ideal.nD Cert.Kernel2Ideal.τ).loc Cert.Kernel2Ideal.main_arg3))
    (a4 : m' ((c.tc : Thread Cert.Reference2Ideal.nD Cert.Reference2Ideal.τ).loc Cert.Reference2Ideal.main_arg4)
      = m ((c.tc : Thread Cert.Kernel2Ideal.nD Cert.Kernel2Ideal.τ).loc Cert.Kernel2Ideal.main_arg4))
    (a5 : m' ((c.tc : Thread Cert.Reference2Ideal.nD Cert.Reference2Ideal.τ).loc Cert.Reference2Ideal.main_arg5)
      = m ((c.tc : Thread Cert.Kernel2Ideal.nD Cert.Kernel2Ideal.τ).loc Cert.Kernel2Ideal.main_arg5)) :
    Cert.Reference2Ideal.Value.res_main_v25 (F := Ideal) m' c = (dats m 0 c).arrAt 7 cfg0.N := by
  rw [ffn_array, res_eq, a0, a1, a2, a3, a4, a5]
  exact rFfn_apply (arrX m c) (arrU m c) (arrWg m c) (arrWu m c) (arrWd m c) (arrG m c)

end Cert.Ffn
-- ==== Proof.Ffn1Array.lean ====
/-
The blocks the feed-forward kernel reads in the first call, at coordinates of its argument arrays.
-/
module
public import proofs.«01_k».proof.Proof.Gen.Kernel3Ideal.Value
public import proofs.«01_k».proof.Proof.Coord
public import Idealize.ShloMosaic.Lib.Pointwise
public import Idealize.ShloMosaic.Lib.Pipeline.ValueKit

@[expose] public section

set_option maxRecDepth 16384
noncomputable section

open Idealize.ShloMosaic Idealize.ShloMosaic.TcCoe Idealize.SL.Sem
open Idealize.ShloMosaic.Pipeline (Dat)

namespace Cert.Ffn1
open Cert.Kernel3Ideal Cert.Kernel3Ideal.Gen Cert.Kernel3Ideal.Value
open Cert.Attn (at2 at2_eq at2_ix)

/-- The block of each window at each grid point: eleven steps for each block of rows. -/
theorem idx : ∀ t : Fin cfg0.N,
    win0_0.index t = ![t.val / 11, 0]
    ∧ win0_1.index t = ![0, 0]
    ∧ win0_3.index t = ![0, 0]
    ∧ win0_4.index t = ![0, t.val % 11]
    ∧ win0_5.index t = ![0, t.val % 11]
    ∧ win0_6.index t = ![t.val % 11, 0]
    ∧ win0_7.index t = ![t.val / 11, 0]
    ∧ win0_8.index t = ![t.val / 11, 0]
    ∧ win0_2.index t = ![0, 0] :=
  (by decide +kernel : ∀ t : Fin grid0.N, _)

variable (m : (ℓ : Loc nD τ sig) → Buf (Elt Ideal) ℓ)

/-- The tokens, one row each. -/
def arrX (c : Dev nD) : FVec Ideal S32768x2048 .f32 :=
  shapeCast S32768x2048 (m ((c.tc : Thread nD τ).loc main_arg0)) shapeCasts_S2x16384x2048_S32768x2048

/-- The gain before the block. -/
def arrG0 (c : Dev nD) : FVec Ideal S1x2048 .f32 := m ((c.tc : Thread nD τ).loc main_arg1)

/-- The gain after it. -/
def arrG (c : Dev nD) : FVec Ideal S1x2048 .f32 := m ((c.tc : Thread nD τ).loc main_arg2)

/-- The gain of the mixer's tokens. -/
def arrG' (c : Dev nD) : FVec Ideal S1x2048 .f32 := m ((c.tc : Thread nD τ).loc main_arg6)

/-- The first weight matrix. -/
def arrWg (c : Dev nD) : FVec Ideal S2048x5632 .f32 :=
  shapeCast S2048x5632 (m ((c.tc : Thread nD τ).loc main_arg3)) shapeCasts_S1x2048x5632_S2048x5632

/-- The second weight matrix. -/
def arrWu (c : Dev nD) : FVec Ideal S2048x5632 .f32 :=
  shapeCast S2048x5632 (m ((c.tc : Thread nD τ).loc main_arg4)) shapeCasts_S1x2048x5632_S2048x5632

/-- The last weight matrix. -/
def arrWd (c : Dev nD) : FVec Ideal S5632x2048 .f32 :=
  shapeCast S5632x2048 (m ((c.tc : Thread nD τ).loc main_arg5)) shapeCasts_S1x5632x2048_S5632x2048

/-- The tokens at the launch of the call. -/
theorem V_x (c : Dev nD) : V m c main_v0 = arrX m c := by
  unfold V
  after_results
  try rfl

/-- The first weights at the launch of the call. -/
theorem V_wg (c : Dev nD) : V m c main_v2 = arrWg m c := by
  unfold V
  after_results
  try rfl

theorem V_wu (c : Dev nD) : V m c main_v4 = arrWu m c := by
  unfold V
  after_results
  try rfl

theorem V_wd (c : Dev nD) : V m c main_v6 = arrWd m c := by
  unfold V
  after_results
  try rfl

/-- The token block. -/
theorem iblk0 (c : Dev nD) (t : Fin cfg0.N) (y : S512x2048.Idx) :
    iblk m c 0 t y = at2 (arrX m c) (t.val / 11 * 512 + (y 0).val) (y 1).val := by
  refine ((show iblk m c 0 t y = V m c main_v0 ((win0_0.blk t).view.emb y) from rfl).trans
    (congrFun (V_x m c) _)).trans (at2_eq _ _ _ _ ?_ ?_)
  · blk_simp [idx t]
  · blk_simp [idx t]

/-- The first gain's block. -/
theorem iblk1 (c : Dev nD) (t : Fin cfg0.N) (y : S1x2048.Idx) :
    iblk m c 1 t y = at2 (arrG0 m c) (y 0).val (y 1).val := by
  refine (show iblk m c 1 t y = arrG0 m c ((win0_1.blk t).view.emb y) from rfl).trans (at2_eq _ _ _ _ ?_ ?_)
  · blk_simp [idx t]
  · blk_simp [idx t]

/-- The second gain's block. -/
theorem iblk2 (c : Dev nD) (t : Fin cfg0.N) (y : S1x2048.Idx) :
    iblk m c 2 t y = at2 (arrG m c) (y 0).val (y 1).val := by
  refine (show iblk m c 2 t y = arrG m c ((win0_2.blk t).view.emb y) from rfl).trans (at2_eq _ _ _ _ ?_ ?_)
  · blk_simp [idx t]
  · blk_simp [idx t]

/-- The third gain's block. -/
theorem iblk3 (c : Dev nD) (t : Fin cfg0.N) (y : S1x2048.Idx) :
    iblk m c 3 t y = at2 (arrG' m c) (y 0).val (y 1).val := by
  refine (show iblk m c 3 t y = arrG' m c ((win0_3.blk t).view.emb y) from rfl).trans (at2_eq _ _ _ _ ?_ ?_)
  · blk_simp [idx t]
  · blk_simp [idx t]

/-- The first weights' block. -/
theorem iblk4 (c : Dev nD) (t : Fin cfg0.N) (y : S2048x512.Idx) :
    iblk m c 4 t y = at2 (arrWg m c) (y 0).val (t.val % 11 * 512 + (y 1).val) := by
  refine ((show iblk m c 4 t y = V m c main_v2 ((win0_4.blk t).view.emb y) from rfl).trans
    (congrFun (V_wg m c) _)).trans (at2_eq _ _ _ _ ?_ ?_)
  · blk_simp [idx t]
  · blk_simp [idx t]

/-- The second weights' block. -/
theorem iblk5 (c : Dev nD) (t : Fin cfg0.N) (y : S2048x512.Idx) :
    iblk m c 5 t y = at2 (arrWu m c) (y 0).val (t.val % 11 * 512 + (y 1).val) := by
  refine ((show iblk m c 5 t y = V m c main_v4 ((win0_5.blk t).view.emb y) from rfl).trans
    (congrFun (V_wu m c) _)).trans (at2_eq _ _ _ _ ?_ ?_)
  · blk_simp [idx t]
  · blk_simp [idx t]

/-- The last weights' block. -/
theorem iblk6 (c : Dev nD) (t : Fin cfg0.N) (y : S512x2048.Idx) :
    iblk m c 6 t y = at2 (arrWd m c) (t.val % 11 * 512 + (y 0).val) (y 1).val := by
  refine ((show iblk m c 6 t y = V m c main_v6 ((win0_6.blk t).view.emb y) from rfl).trans
    (congrFun (V_wd m c) _)).trans (at2_eq _ _ _ _ ?_ ?_)
  · blk_simp [idx t]
  · blk_simp [idx t]

end Cert.Ffn1
-- ==== Proof.Ffn1Pay.lean ====
/-
One step of the first feed-forward call, read at an index.
-/
module
public import proofs.«01_k».proof.Proof.Gen.Kernel3Ideal.Skeleton
public import proofs.«01_k».proof.Proof.FfnPay

@[expose] public section

set_option maxRecDepth 16384
noncomputable section

open Idealize.ShloMosaic Idealize.ShloMosaic.TcCoe

namespace Cert.Ffn1
open Cert.Kernel3Ideal Cert.Kernel3Ideal.Gen
open Cert.Ffn (rms)

/-- The accumulation step is the second call's. -/
theorem pay5_eq (u : FVec Ideal S512x2048 .bf16) (wg0 wu0 wg1 wu1 : FVec Ideal S2048x256 .bf16)
    (acc : FVec Ideal S512x2048 .f32) (wd : FVec Ideal S512x2048 .bf16) :
    k0_pay5 (F := Ideal) u wg0 wu0 wg1 wu1 acc wd
      = Cert.Ffn.step (Cert.Ffn.gated u wg0 wu0) (Cert.Ffn.gated u wg1 wu1) acc wd :=
  (show k0_pay5 (F := Ideal) u wg0 wu0 wg1 wu1 acc wd = Cert.Kernel2Ideal.Gen.k0_pay3 u wg0 wu0 wg1 wu1 acc wd from rfl).trans (Cert.Ffn.pay3_eq u wg0 wu0 wg1 wu1 acc wd)

/-- The sum starts from nought. -/
theorem pay4_apply (y : S512x2048.Idx) : k0_pay4 (F := Ideal) y = (0 : EReal) :=
  Cert.Ffn.pay2_apply y

/-- The normalised tokens. -/
theorem pay3_apply (x : FVec Ideal S512x2048 .f32) (g : FVec Ideal S1x2048 .f32) (r : Fin 512) (d : Fin 2048) (V G : ℕ → EReal)
    (hV : ∀ k : Fin 2048, x (ix2 r k) = V k.val) (hG : g (ix2 0 d) = G d.val) :
    (k0_pay3 (F := Ideal) x g (ix2 r d) : EReal) = rms V G d.val := by
  pointwise [k0_pay3]
  simp only [hV, hG]
  rfl

/-- The token plus half its normalised product. -/
theorem pay1_apply (x acc : FVec Ideal S512x2048 .f32) (g : FVec Ideal S1x2048 .f32) (r : Fin 512) (d : Fin 2048) (V G : ℕ → EReal)
    (hV : ∀ k : Fin 2048, acc (ix2 r k) = V k.val) (hG : g (ix2 0 d) = G d.val) :
    k0_pay1 (F := Ideal) x acc g (ix2 r d) = x (ix2 r d) + Ideal.ofBits .f32 0x3F000000#32 * rms V G d.val := by
  pointwise [k0_pay1]
  simp only [hV, hG]
  rfl

/-- The same, normalised. -/
theorem pay2_apply (x acc : FVec Ideal S512x2048 .f32) (g g' : FVec Ideal S1x2048 .f32) (r : Fin 512) (d : Fin 2048) (V G : ℕ → EReal)
    (hV : ∀ k : Fin 2048, k0_pay1 (F := Ideal) x acc g (ix2 r k) = V k.val) (hG : g' (ix2 0 d) = G d.val) :
    (k0_pay2 (F := Ideal) x acc g g' (ix2 r d) : EReal) = rms V G d.val := by
  pointwise [k0_pay2]
  simp only [hV, hG]
  rfl

end Cert.Ffn1
-- ==== Proof.Ffn1Value.lean ====
/-
The first feed-forward call's two result arrays.
-/
module
public import proofs.«01_k».proof.Proof.Ffn1Array
public import proofs.«01_k».proof.Proof.Ffn1Pay
public import Idealize.ShloMosaic.Lib.Pipeline.ReadBack

@[expose] public section

set_option maxRecDepth 16384
noncomputable section

open Idealize.ShloMosaic Idealize.ShloMosaic.TcCoe Idealize.SL.Sem
open Idealize.ShloMosaic.Pipeline (Dat)

namespace Cert.Ffn1
open Cert.Kernel3Ideal Cert.Kernel3Ideal.Gen Cert.Kernel3Ideal.Value
open Cert.Ffn (hid part rms ffn proj part_step step_apply gated_apply)
open Cert.Attn (at2 at2_eq at2_ix)

/-- The left half of a block of columns. -/
def colsL (w : Vec Ideal S2048x512 .bf16) : Vec Ideal S2048x256 .bf16 :=
  View.ld w (Rect.unit ![0, 0] ![2048, 256] inb_S2048x512_S2048x256_0_0)

/-- The right half. -/
def colsR (w : Vec Ideal S2048x512 .bf16) : Vec Ideal S2048x256 .bf16 :=
  View.ld w (Rect.unit ![0, 256] ![2048, 256] inb_S2048x512_S2048x256_0_256)

theorem colsL_apply (w : Vec Ideal S2048x512 .bf16) (k : Fin 2048) (f : Fin 256) :
    colsL w (ix2 k f) = w (ix2 k (⟨f.val, by omega⟩ : Fin 512)) :=
  congrArg w (funext (Fin.forall_fin_two.2 ⟨Fin.ext (by rw [Rect.idx_unit_val]; simp), Fin.ext (by rw [Rect.idx_unit_val]; simp)⟩))

theorem colsR_apply (w : Vec Ideal S2048x512 .bf16) (k : Fin 2048) (f : Fin 256) :
    colsR w (ix2 k f) = w (ix2 k (⟨256 + f.val, by omega⟩ : Fin 512)) :=
  congrArg w (funext (Fin.forall_fin_two.2 ⟨Fin.ext (by rw [Rect.idx_unit_val]; simp), Fin.ext (by rw [Rect.idx_unit_val]; simp)⟩))

variable (m : (ℓ : Loc nD τ sig) → Buf (Elt Ideal) ℓ)

/-- One point's step over what the block held. -/
def stp (c : Dev nD) (t : Fin cfg0.N) (u : FVec Ideal S512x2048 .bf16) (acc : FVec Ideal S512x2048 .f32) : FVec Ideal S512x2048 .f32 :=
  k0_pay5 u (colsL (iblk m c 4 t)) (colsL (iblk m c 5 t)) (colsR (iblk m c 4 t)) (colsR (iblk m c 5 t)) acc
    (iblk m c 6 t)

/-- What the point before left. -/
abbrev prev (c : Dev nD) (t : Fin cfg0.N) := outsAt0 m c (t.val - 1) (Nat.lt_of_le_of_lt (Nat.sub_le _ _) t.isLt)

theorem out_A (c : Dev nD) (t : Fin cfg0.N) (h0 : t.val % 11 = 0) (h1 : ¬t.val % 11 = 10) :
    (outsAt0 m c t.val t.isLt).1 = stp m c t (k0_pay3 (iblk m c 0 t) (iblk m c 1 t)) (k0_pay4 (F := Ideal)) := by
  rw [outsAt0_A m c t h0 h1]
  frame_out
  rfl

theorem scr_A (c : Dev nD) (t : Fin cfg0.N) (h0 : t.val % 11 = 0) (h1 : ¬t.val % 11 = 10) :
    (outsAt0 m c t.val t.isLt).2.2 = k0_pay3 (iblk m c 0 t) (iblk m c 1 t) := by
  rw [outsAt0_A m c t h0 h1]
  frame_out
  try rfl

theorem out_B (c : Dev nD) (t : Fin cfg0.N) (h0 : ¬t.val % 11 = 0) (h1 : ¬t.val % 11 = 10) :
    (outsAt0 m c t.val t.isLt).1 = stp m c t (prev m c t).2.2 (prev m c t).1 := by
  rw [outsAt0_B m c t h0 h1]
  frame_out
  rw [read_unread_whole]
  rfl

theorem scr_B (c : Dev nD) (t : Fin cfg0.N) (h0 : ¬t.val % 11 = 0) (h1 : ¬t.val % 11 = 10) :
    (outsAt0 m c t.val t.isLt).2.2 = (prev m c t).2.2 := by
  rw [outsAt0_B m c t h0 h1]
  rfl

theorem out_C (c : Dev nD) (t : Fin cfg0.N) (h0 : ¬t.val % 11 = 0) (h1 : t.val % 11 = 10) :
    (outsAt0 m c t.val t.isLt).1 = k0_pay1 (iblk m c 0 t) (stp m c t (prev m c t).2.2 (prev m c t).1) (iblk m c 2 t) := by
  rw [outsAt0_C m c t h0 h1]
  frame_out
  rw [read_unread_whole]
  rfl

theorem out2_C (c : Dev nD) (t : Fin cfg0.N) (h0 : ¬t.val % 11 = 0) (h1 : t.val % 11 = 10) :
    (outsAt0 m c t.val t.isLt).2.1
      = k0_pay2 (iblk m c 0 t) (stp m c t (prev m c t).2.2 (prev m c t).1) (iblk m c 2 t) (iblk m c 3 t) := by
  rw [outsAt0_C m c t h0 h1]
  frame_out
  rw [read_unread_whole]
  rfl

theorem scr_C (c : Dev nD) (t : Fin cfg0.N) (h0 : ¬t.val % 11 = 0) (h1 : t.val % 11 = 10) :
    (outsAt0 m c t.val t.isLt).2.2 = (prev m c t).2.2 := by
  rw [outsAt0_C m c t h0 h1]
  rfl

/-- The normalised features of a row of a block of tokens. -/
def nrm (c : Dev nD) (i : ℕ) (r : Fin 512) : ℕ → EReal :=
  rms (at2 (arrX m c) (512 * i + r.val)) (at2 (arrG0 m c) 0)

/-- The normalised tokens of a block, as its first step computes them. -/
theorem first_nrm (c : Dev nD) (t : Fin cfg0.N) (r : Fin 512) (k : Fin 2048) :
    k0_pay3 (iblk m c 0 t) (iblk m c 1 t) (ix2 r k) = nrm m c (t.val / 11) r k.val := by
  refine pay3_apply _ _ r k _ _ (fun k => ?_) (iblk1 m c t _)
  rw [iblk0, Nat.mul_comm _ 512]
  rfl

/-- The carried buffer holds the normalised tokens of the block. -/
theorem scr_nrm (c : Dev nD) (n : ℕ) : ∀ hn : n < cfg0.N, ∀ (r : Fin 512) (k : Fin 2048),
    (outsAt0 m c n hn).2.2 (ix2 r k) = nrm m c (n / 11) r k.val := by
  induction n with
  | zero =>
    intro hn r k
    rw [scr_A m c ⟨0, hn⟩ rfl (by dsimp only; omega)]
    exact first_nrm m c ⟨0, hn⟩ r k
  | succ n ih =>
    intro hn r k
    by_cases h0 : (n + 1) % 11 = 0
    · rw [scr_A m c ⟨n + 1, hn⟩ h0 (by dsimp only; omega)]
      exact first_nrm m c ⟨n + 1, hn⟩ r k
    · have e : (n + 1) / 11 = n / 11 := by omega
      rw [e, ← ih (by omega) r k]
      by_cases h1 : (n + 1) % 11 = 10
      · rw [scr_C m c ⟨n + 1, hn⟩ h0 h1]; rfl
      · rw [scr_B m c ⟨n + 1, hn⟩ h0 h1]; rfl

/-- A point's step adds the products of its 512 hidden features. -/
theorem stp_apply (c : Dev nD) (t : Fin cfg0.N) (u : FVec Ideal S512x2048 .bf16) (acc : FVec Ideal S512x2048 .f32)
    (r : Fin 512) (d : Fin 2048) (U : ℕ → EReal) (hU : ∀ k : Fin 2048, u (ix2 r k) = U k.val) :
    stp m c t u acc (ix2 r d) = acc (ix2 r d) + ∑ f : Fin 512,
      hid U (at2 (arrWg m c)) (at2 (arrWu m c)) (512 * (t.val % 11) + f.val)
        * at2 (arrWd m c) (512 * (t.val % 11) + f.val) d.val := by
  unfold stp
  rw [pay5_eq]
  refine (step_apply _ _ acc _ r d (fun f => hid U (at2 (arrWg m c))
    (at2 (arrWu m c)) (512 * (t.val % 11) + f)) (fun f => ?_) (fun f => ?_)).trans ?_
  · refine (gated_apply _ _ _ r f).trans ?_
    simp only [colsL_apply, hU, iblk4, iblk5]
    unfold hid proj
    simp only [Nat.mul_comm 512]
    rfl
  · refine (gated_apply _ _ _ r f).trans ?_
    simp only [colsR_apply, hU, iblk4, iblk5]
    unfold hid proj
    simp only [Nat.mul_comm 512]
    rfl
  · refine congrArg _ (Finset.sum_congr rfl fun f _ => congrArg _ ?_)
    rw [iblk6]
    simp only [Nat.mul_comm 512]
    rfl

/-- The hidden features so far, for a row of the block of tokens. -/
def sofar (c : Dev nD) (i n : ℕ) (r : Fin 512) : ℕ → EReal :=
  part (nrm m c i r) (at2 (arrWg m c)) (at2 (arrWu m c)) (at2 (arrWd m c)) n

/-- The step from one multiple of 512 to the next. -/
theorem stp_sofar (c : Dev nD) (t : Fin cfg0.N) (u : FVec Ideal S512x2048 .bf16) (acc : FVec Ideal S512x2048 .f32) (r : Fin 512)
    (d : Fin 2048) (hU : ∀ k : Fin 2048, u (ix2 r k) = nrm m c (t.val / 11) r k.val)
    (h : acc (ix2 r d) = sofar m c (t.val / 11) (512 * (t.val % 11)) r d.val) :
    stp m c t u acc (ix2 r d) = sofar m c (t.val / 11) (512 * (t.val % 11 + 1)) r d.val := by
  rw [stp_apply m c t u acc r d _ hU, h]
  exact (part_step _ _ _ _ _ _).symm

/-- What the point before left, at a later point of the same block. -/
theorem prev_nrm (c : Dev nD) (t : Fin cfg0.N) (h0 : ¬t.val % 11 = 0) (r : Fin 512) (k : Fin 2048) :
    (prev m c t).2.2 (ix2 r k) = nrm m c (t.val / 11) r k.val := by
  refine (scr_nrm m c (t.val - 1) _ r k).trans ?_
  rw [show (t.val - 1) / 11 = t.val / 11 by omega]

/-- The block before the last step of its rows holds the products so far. -/
theorem out_sofar (c : Dev nD) (n : ℕ) : ∀ hn : n < cfg0.N, n % 11 ≠ 10 → ∀ (r : Fin 512) (d : Fin 2048),
    (outsAt0 m c n hn).1 (ix2 r d) = sofar m c (n / 11) (512 * (n % 11 + 1)) r d.val := by
  induction n with
  | zero =>
    intro hn h1 r d
    rw [out_A m c ⟨0, hn⟩ rfl h1]
    exact stp_sofar m c ⟨0, hn⟩ _ _ r d (first_nrm m c ⟨0, hn⟩ r) (pay4_apply _)
  | succ n ih =>
    intro hn h1 r d
    by_cases h0 : (n + 1) % 11 = 0
    · rw [out_A m c ⟨n + 1, hn⟩ h0 h1]
      refine stp_sofar m c ⟨n + 1, hn⟩ _ _ r d (first_nrm m c ⟨n + 1, hn⟩ r) ?_
      dsimp only
      rw [h0]
      exact pay4_apply _
    · rw [out_B m c ⟨n + 1, hn⟩ h0 h1]
      refine stp_sofar m c ⟨n + 1, hn⟩ _ _ r d (prev_nrm m c ⟨n + 1, hn⟩ h0 r) ?_
      refine (ih _ (by omega) r d).trans ?_
      dsimp only
      rw [show (n + 1) / 11 = n / 11 by omega, show (n + 1) % 11 = n % 11 + 1 by omega]

/-- A token's block. -/
def tok (c : Dev nD) (R : ℕ) : ℕ → EReal :=
  ffn (at2 (arrX m c) R) (rms (at2 (arrX m c) R) (at2 (arrG0 m c) 0)) (at2 (arrWg m c)) (at2 (arrWu m c)) (at2 (arrWd m c))
    (at2 (arrG m c) 0)

/-- The block after the last step of its rows. -/
theorem pay_last (c : Dev nD) (t : Fin cfg0.N) (h1 : t.val % 11 = 10) (r : Fin 512) (d : Fin 2048) :
    k0_pay1 (iblk m c 0 t) (stp m c t (prev m c t).2.2 (prev m c t).1) (iblk m c 2 t) (ix2 r d)
      = tok m c (512 * (t.val / 11) + r.val) d.val := by
  refine (pay1_apply _ _ _ r d (sofar m c (t.val / 11) (512 * (t.val % 11 + 1)) r) (at2 (arrG m c) 0) (fun k => ?_) ?_).trans ?_
  · refine stp_sofar m c t _ _ r k (prev_nrm m c t (by omega) r) ?_
    refine (out_sofar m c (t.val - 1) _ (by omega) r k).trans ?_
    rw [show (t.val - 1) / 11 = t.val / 11 by omega, show (t.val - 1) % 11 + 1 = t.val % 11 by omega]
  · exact iblk2 m c t _
  · rw [h1, iblk0, Nat.mul_comm _ 512]
    rfl

/-- The first result: each token's block. -/
theorem ffn_array (c : Dev nD) : (dats m 0 c).arrAt 7 cfg0.N
    = fun i : S32768x2048.Idx => (tok m c (i 0).val (i 1).val : Elt Ideal .f32) := by
  refine (dats m 0 c).arrAt_eq_of_covers 7 _ (by decide +kernel) fun t hf y => ?_
  rw [after0_7]
  obtain ⟨r, d, rfl⟩ : ∃ (r : Fin 512) (d : Fin 2048), y = ix2 r d := ⟨y 0, y 1, eq_ix2 y⟩
  have e0 : ((((cfg0.win 7).blk t).view.emb (ix2 r d)) 0 : ℕ) = 512 * (t.val / 11) + r.val := by
    blk_simp [idx t]; omega
  have e1 : ((((cfg0.win 7).blk t).view.emb (ix2 r d)) 1 : ℕ) = d.val := by
    blk_simp [idx t]
  have h1 := (flush0_7 t).mp hf
  rw [out_C m c t (by omega) h1]
  refine (pay_last m c t h1 r d).trans ?_
  dsimp only
  rw [e0, e1]

/-- The second result: the same, normalised for the mixer. -/
theorem nrm_array (c : Dev nD) : (dats m 0 c).arrAt 8 cfg0.N
    = fun i : S32768x2048.Idx => (rms (tok m c (i 0).val) (at2 (arrG' m c) 0) (i 1).val : Elt Ideal .bf16) := by
  refine (dats m 0 c).arrAt_eq_of_covers 8 _ (by decide +kernel) fun t hf y => ?_
  rw [after0_8]
  obtain ⟨r, d, rfl⟩ : ∃ (r : Fin 512) (d : Fin 2048), y = ix2 r d := ⟨y 0, y 1, eq_ix2 y⟩
  have e0 : ((((cfg0.win 8).blk t).view.emb (ix2 r d)) 0 : ℕ) = 512 * (t.val / 11) + r.val := by
    blk_simp [idx t]; omega
  have e1 : ((((cfg0.win 8).blk t).view.emb (ix2 r d)) 1 : ℕ) = d.val := by
    blk_simp [idx t]
  have h1 := (flush0_8 t).mp hf
  rw [out2_C m c t (by omega) h1]
  refine (pay2_apply _ _ _ _ r d (tok m c (512 * (t.val / 11) + r.val)) (at2 (arrG' m c) 0) (pay_last m c t h1 r)
    (iblk3 m c t _)).trans ?_
  dsimp only
  rw [e0, e1]

end Cert.Ffn1
-- ==== Proof.Ffn1Ref.lean ====
/-
The reference's first feed-forward block at an index.
-/
module
public import proofs.«01_k».proof.Proof.Gen.Reference3Ideal.Run
public import proofs.«01_k».proof.Proof.FfnRef

@[expose] public section

set_option maxRecDepth 16384
noncomputable section

open Idealize.ShloMosaic Idealize.ShloMosaic.TcCoe Idealize.SL.Sem

namespace Cert.Ffn1
open Cert.Reference3Ideal Cert.Reference3Ideal.Gen
open Cert.Attn (at2 at2_ix)
open Cert.Ffn (proj hid part rms ffn rNorm rDown rHid rRes rNorm_apply rDown_apply rms_congr)

/-- The products depend on a token's 2048 features alone. -/
theorem part_congr {u u' : ℕ → EReal} (wg wu wd : ℕ → ℕ → EReal) (n : ℕ) (h : ∀ k : Fin 2048, u k.val = u' k.val) :
    part u wg wu wd n = part u' wg wu wd n := by
  have hp : ∀ w f, proj u w f = proj u' w f := fun w f => Finset.sum_congr rfl fun k _ => by rw [h k]
  funext d
  unfold part hid
  simp only [hp]

/-- The reference's tokens after the block. -/
def rTok (x : FVec Ideal S32768x2048 .f32) (g0 g : FVec Ideal S1x2048 .f32) (wg wu : FVec Ideal S2048x5632 .f32)
    (wd : FVec Ideal S5632x2048 .f32) : FVec Ideal S32768x2048 .f32 :=
  rRes x (rNorm (rDown (rHid (rNorm x (shapeCast S2048 g0 shapeCasts_S1x2048_S2048)) wg wu) wd)
    (shapeCast S2048 g shapeCasts_S1x2048_S2048))

/-- An entry of them. -/
theorem rTok_apply (x : FVec Ideal S32768x2048 .f32) (g0 g : FVec Ideal S1x2048 .f32) (wg wu : FVec Ideal S2048x5632 .f32)
    (wd : FVec Ideal S5632x2048 .f32) (r : Fin 32768) (d : Fin 2048) :
    rTok x g0 g wg wu wd (ix2 r d)
      = ffn (at2 x r.val) (rms (at2 x r.val) (at2 g0 0)) (at2 wg) (at2 wu) (at2 wd) (at2 g 0) d.val := by
  refine (congrFun (Cert.Ffn.rFfn_apply x (rNorm x (shapeCast S2048 g0 shapeCasts_S1x2048_S2048)) wg wu wd g) (ix2 r d)).trans ?_
  show ffn (at2 x r.val) (at2 (rNorm x _) r.val) (at2 wg) (at2 wu) (at2 wd) (at2 g 0) d.val = _
  unfold ffn
  rw [part_congr (u' := rms (at2 x r.val) (at2 g0 0)) _ _ _ _ fun k =>
    (at2_ix _ r k).trans (rNorm_apply x g0 (at2 x r.val) r k fun k => (at2_ix x r k).symm)]

/-- The reference's tokens normalised for the mixer. -/
theorem rNext_apply (x : FVec Ideal S32768x2048 .f32) (g0 g g' : FVec Ideal S1x2048 .f32) (wg wu : FVec Ideal S2048x5632 .f32)
    (wd : FVec Ideal S5632x2048 .f32) (r : Fin 32768) (d : Fin 2048) :
    rNorm (rTok x g0 g wg wu wd) (shapeCast S2048 g' shapeCasts_S1x2048_S2048) (ix2 r d)
      = rms (ffn (at2 x r.val) (rms (at2 x r.val) (at2 g0 0)) (at2 wg) (at2 wu) (at2 wd) (at2 g 0)) (at2 g' 0) d.val :=
  rNorm_apply _ g' _ r d (rTok_apply x g0 g wg wu wd r)

variable (m : (ℓ : Loc nD τ sig) → Buf (Elt Ideal) ℓ) (c : Dev nD)

/-- The reference's tokens after the block, from its arguments. -/
def rArr : FVec Ideal S32768x2048 .f32 :=
  rTok (shapeCast S32768x2048 (m ((c.tc : Thread nD τ).loc main_arg0)) shapeCasts_S2x16384x2048_S32768x2048)
    (m ((c.tc : Thread nD τ).loc main_arg1)) (m ((c.tc : Thread nD τ).loc main_arg2))
    (shapeCast S2048x5632 (m ((c.tc : Thread nD τ).loc main_arg3)) shapeCasts_S1x2048x5632_S2048x5632)
    (shapeCast S2048x5632 (m ((c.tc : Thread nD τ).loc main_arg4)) shapeCasts_S1x2048x5632_S2048x5632)
    (shapeCast S5632x2048 (m ((c.tc : Thread nD τ).loc main_arg5)) shapeCasts_S1x5632x2048_S5632x2048)

theorem res0_eq : Cert.Reference3Ideal.Value.res_out0 (F := Ideal) m c = rArr m c := rfl

theorem res1_eq : Cert.Reference3Ideal.Value.res_out1 (F := Ideal) m c
    = truncf .bf16 (rNorm (rArr m c) (shapeCast S2048 (m ((c.tc : Thread nD τ).loc main_arg6)) shapeCasts_S1x2048_S2048))
      bitsLt_bf16_f32 := rfl

end Cert.Ffn1
-- ==== Proof.Ffn1Claim.lean ====
/-
The first feed-forward call's two arrays are its reference's.
-/
module
public import proofs.«01_k».proof.Proof.Ffn1Value
public import proofs.«01_k».proof.Proof.Ffn1Ref

@[expose] public section

noncomputable section

open Idealize.ShloMosaic Idealize.ShloMosaic.TcCoe Idealize.SL.Sem

namespace Cert.Ffn1
open Cert.Attn (at2)
open Cert.Ffn (rNorm)

variable (m : (ℓ : Loc Cert.Kernel3Ideal.nD Cert.Kernel3Ideal.τ Cert.Kernel3Ideal.sig) → Buf (Elt Ideal) ℓ)
  (m' : (ℓ : Loc Cert.Reference3Ideal.nD Cert.Reference3Ideal.τ Cert.Reference3Ideal.sig) → Buf (Elt Ideal) ℓ)
  (c : Dev Cert.Kernel3Ideal.nD)
  (a0 : m' ((c.tc : Thread Cert.Reference3Ideal.nD Cert.Reference3Ideal.τ).loc Cert.Reference3Ideal.main_arg0)
    = m ((c.tc : Thread Cert.Kernel3Ideal.nD Cert.Kernel3Ideal.τ).loc Cert.Kernel3Ideal.main_arg0))
  (a1 : m' ((c.tc : Thread Cert.Reference3Ideal.nD Cert.Reference3Ideal.τ).loc Cert.Reference3Ideal.main_arg1)
    = m ((c.tc : Thread Cert.Kernel3Ideal.nD Cert.Kernel3Ideal.τ).loc Cert.Kernel3Ideal.main_arg1))
  (a2 : m' ((c.tc : Thread Cert.Reference3Ideal.nD Cert.Reference3Ideal.τ).loc Cert.Reference3Ideal.main_arg2)
    = m ((c.tc : Thread Cert.Kernel3Ideal.nD Cert.Kernel3Ideal.τ).loc Cert.Kernel3Ideal.main_arg2))
  (a3 : m' ((c.tc : Thread Cert.Reference3Ideal.nD Cert.Reference3Ideal.τ).loc Cert.Reference3Ideal.main_arg3)
    = m ((c.tc : Thread Cert.Kernel3Ideal.nD Cert.Kernel3Ideal.τ).loc Cert.Kernel3Ideal.main_arg3))
  (a4 : m' ((c.tc : Thread Cert.Reference3Ideal.nD Cert.Reference3Ideal.τ).loc Cert.Reference3Ideal.main_arg4)
    = m ((c.tc : Thread Cert.Kernel3Ideal.nD Cert.Kernel3Ideal.τ).loc Cert.Kernel3Ideal.main_arg4))
  (a5 : m' ((c.tc : Thread Cert.Reference3Ideal.nD Cert.Reference3Ideal.τ).loc Cert.Reference3Ideal.main_arg5)
    = m ((c.tc : Thread Cert.Kernel3Ideal.nD Cert.Kernel3Ideal.τ).loc Cert.Kernel3Ideal.main_arg5))
  (a6 : m' ((c.tc : Thread Cert.Reference3Ideal.nD Cert.Reference3Ideal.τ).loc Cert.Reference3Ideal.main_arg6)
    = m ((c.tc : Thread Cert.Kernel3Ideal.nD Cert.Kernel3Ideal.τ).loc Cert.Kernel3Ideal.main_arg6))

include a0 a1 a2 a3 a4 a5 in
/-- From equal arguments the reference's tokens are those of the kernel's arrays. -/
theorem rArr_eq : rArr m' c = rTok (arrX m c) (arrG0 m c) (arrG m c) (arrWg m c) (arrWu m c) (arrWd m c) := by
  unfold rArr
  rw [a0, a1, a2, a3, a4, a5]
  rfl

open Cert.Kernel3Ideal Cert.Kernel3Ideal.Gen in
include a0 a1 a2 a3 a4 a5 in
/-- The first results are equal. -/
theorem tok_eq : Cert.Reference3Ideal.Value.res_out0 (F := Ideal) m' c = (dats m 0 c).arrAt 7 cfg0.N := by
  rw [ffn_array]
  refine (res0_eq m' c).trans ((rArr_eq m m' c a0 a1 a2 a3 a4 a5).trans ?_)
  funext i
  obtain ⟨r, d, rfl⟩ : ∃ (r : Fin 32768) (d : Fin 2048), i = ix2 r d := ⟨i 0, i 1, eq_ix2 i⟩
  exact rTok_apply _ _ _ _ _ _ r d

open Cert.Kernel3Ideal Cert.Kernel3Ideal.Gen in
include a0 a1 a2 a3 a4 a5 a6 in
/-- So are the second. -/
theorem nrm_eq : Cert.Reference3Ideal.Value.res_out1 (F := Ideal) m' c = (dats m 0 c).arrAt 8 cfg0.N := by
  rw [nrm_array]
  refine (res1_eq m' c).trans ?_
  rw [rArr_eq m m' c a0 a1 a2 a3 a4 a5, a6]
  funext i
  obtain ⟨r, d, rfl⟩ : ∃ (r : Fin 32768) (d : Fin 2048), i = ix2 r d := ⟨i 0, i 1, eq_ix2 i⟩
  exact rNext_apply _ _ _ (arrG' m c) _ _ _ r d

end Cert.Ffn1
-- ==== Proof.FfnSArray.lean ====
/-
The blocks the feed-forward kernel reads, at coordinates of its argument arrays.
-/
module
public import proofs.«01_k».proof.Proof.Gen.Kernel4Ideal.Value
public import proofs.«01_k».proof.Proof.Coord
public import Idealize.ShloMosaic.Lib.Pointwise
public import Idealize.ShloMosaic.Lib.Pipeline.ValueKit

@[expose] public section

set_option maxRecDepth 16384
noncomputable section

open Idealize.ShloMosaic Idealize.ShloMosaic.TcCoe Idealize.SL.Sem
open Idealize.ShloMosaic.Pipeline (Dat)

namespace Cert.FfnS
open Cert.Kernel4Ideal Cert.Kernel4Ideal.Gen Cert.Kernel4Ideal.Value
open Cert.Attn (at2 at2_eq at2_ix)

/-- The block of each window at each grid point: eleven steps for each block of rows. -/
theorem idx : ∀ t : Fin cfg0.N,
    win0_0.index t = ![t.val / 11, 0]
    ∧ win0_1.index t = ![t.val / 11, 0]
    ∧ win0_3.index t = ![0, 0]
    ∧ win0_4.index t = ![0, t.val % 11]
    ∧ win0_5.index t = ![0, t.val % 11]
    ∧ win0_6.index t = ![t.val % 11, 0]
    ∧ win0_7.index t = ![t.val / 11, 0]
    ∧ win0_2.index t = ![0, 0] :=
  (by decide +kernel : ∀ t : Fin grid0.N, _)

variable (m : (ℓ : Loc nD τ sig) → Buf (Elt Ideal) ℓ)

/-- The tokens. -/
def arrX (c : Dev nD) : FVec Ideal S16384x2048 .f32 := m ((c.tc : Thread nD τ).loc main_arg0)

/-- The tokens the products take. -/
def arrU (c : Dev nD) : FVec Ideal S16384x2048 .bf16 := m ((c.tc : Thread nD τ).loc main_arg1)

/-- The gain. -/
def arrG (c : Dev nD) : FVec Ideal S1x2048 .f32 := m ((c.tc : Thread nD τ).loc main_arg2)

/-- The first weight matrix. -/
def arrWg (c : Dev nD) : FVec Ideal S2048x5632 .f32 :=
  shapeCast S2048x5632 (m ((c.tc : Thread nD τ).loc main_arg3)) shapeCasts_S1x2048x5632_S2048x5632

/-- The second weight matrix. -/
def arrWu (c : Dev nD) : FVec Ideal S2048x5632 .f32 :=
  shapeCast S2048x5632 (m ((c.tc : Thread nD τ).loc main_arg4)) shapeCasts_S1x2048x5632_S2048x5632

/-- The last weight matrix. -/
def arrWd (c : Dev nD) : FVec Ideal S5632x2048 .f32 :=
  shapeCast S5632x2048 (m ((c.tc : Thread nD τ).loc main_arg5)) shapeCasts_S1x5632x2048_S5632x2048

/-- The first weights at the launch of the call. -/
theorem V_wg (c : Dev nD) : V m c main_v1 = arrWg m c := by
  unfold V
  after_results
  try rfl

theorem V_wu (c : Dev nD) : V m c main_v3 = arrWu m c := by
  unfold V
  after_results
  try rfl

theorem V_wd (c : Dev nD) : V m c main_v5 = arrWd m c := by
  unfold V
  after_results
  try rfl

/-- The token block. -/
theorem iblk0 (c : Dev nD) (t : Fin cfg0.N) (y : S512x2048.Idx) :
    iblk m c 0 t y = at2 (arrX m c) (t.val / 11 * 512 + (y 0).val) (y 1).val := by
  refine (show iblk m c 0 t y = arrX m c ((win0_0.blk t).view.emb y) from rfl).trans (at2_eq _ _ _ _ ?_ ?_)
  · blk_simp [idx t]
  · blk_simp [idx t]

/-- The block the products take. -/
theorem iblk1 (c : Dev nD) (t : Fin cfg0.N) (y : S512x2048.Idx) :
    iblk m c 1 t y = at2 (arrU m c) (t.val / 11 * 512 + (y 0).val) (y 1).val := by
  refine (show iblk m c 1 t y = arrU m c ((win0_1.blk t).view.emb y) from rfl).trans (at2_eq _ _ _ _ ?_ ?_)
  · blk_simp [idx t]
  · blk_simp [idx t]

/-- The gain's block. -/
theorem iblk2 (c : Dev nD) (t : Fin cfg0.N) (y : S1x2048.Idx) :
    iblk m c 2 t y = at2 (arrG m c) (y 0).val (y 1).val := by
  refine (show iblk m c 2 t y = arrG m c ((win0_2.blk t).view.emb y) from rfl).trans (at2_eq _ _ _ _ ?_ ?_)
  · blk_simp [idx t]
  · blk_simp [idx t]

/-- The first weights' block. -/
theorem iblk4 (c : Dev nD) (t : Fin cfg0.N) (y : S2048x512.Idx) :
    iblk m c 4 t y = at2 (arrWg m c) (y 0).val (t.val % 11 * 512 + (y 1).val) := by
  refine ((show iblk m c 4 t y = V m c main_v1 ((win0_4.blk t).view.emb y) from rfl).trans
    (congrFun (V_wg m c) _)).trans (at2_eq _ _ _ _ ?_ ?_)
  · blk_simp [idx t]
  · blk_simp [idx t]

/-- The second weights' block. -/
theorem iblk5 (c : Dev nD) (t : Fin cfg0.N) (y : S2048x512.Idx) :
    iblk m c 5 t y = at2 (arrWu m c) (y 0).val (t.val % 11 * 512 + (y 1).val) := by
  refine ((show iblk m c 5 t y = V m c main_v3 ((win0_5.blk t).view.emb y) from rfl).trans
    (congrFun (V_wu m c) _)).trans (at2_eq _ _ _ _ ?_ ?_)
  · blk_simp [idx t]
  · blk_simp [idx t]

/-- The last weights' block. -/
theorem iblk6 (c : Dev nD) (t : Fin cfg0.N) (y : S512x2048.Idx) :
    iblk m c 6 t y = at2 (arrWd m c) (t.val % 11 * 512 + (y 0).val) (y 1).val := by
  refine ((show iblk m c 6 t y = V m c main_v5 ((win0_6.blk t).view.emb y) from rfl).trans
    (congrFun (V_wd m c) _)).trans (at2_eq _ _ _ _ ?_ ?_)
  · blk_simp [idx t]
  · blk_simp [idx t]

end Cert.FfnS
-- ==== Proof.FfnSValue.lean ====
/-
The feed-forward kernel's result array.
-/
module
public import proofs.«01_k».proof.Proof.FfnSArray
public import proofs.«01_k».proof.Proof.FfnPay
public import Idealize.ShloMosaic.Lib.Pipeline.ReadBack

@[expose] public section

set_option maxRecDepth 16384
noncomputable section

open Idealize.ShloMosaic Idealize.ShloMosaic.TcCoe Idealize.SL.Sem
open Idealize.ShloMosaic.Pipeline (Dat)

namespace Cert.FfnS
open Cert.Kernel4Ideal Cert.Kernel4Ideal.Gen Cert.Kernel4Ideal.Value
open Cert.Ffn (hid part rms ffn proj part_step step gated step_apply gated_apply)
open Cert.Attn (at2 at2_eq at2_ix)

/-- The printed step is that of the larger batch. -/
theorem pay3_eq (u : FVec Ideal S512x2048 .bf16) (wg0 wu0 wg1 wu1 : FVec Ideal S2048x256 .bf16)
    (acc : FVec Ideal S512x2048 .f32) (wd : FVec Ideal S512x2048 .bf16) :
    k0_pay3 (F := Ideal) u wg0 wu0 wg1 wu1 acc wd = step (gated u wg0 wu0) (gated u wg1 wu1) acc wd :=
  (show k0_pay3 (F := Ideal) u wg0 wu0 wg1 wu1 acc wd = Cert.Kernel2Ideal.Gen.k0_pay3 u wg0 wu0 wg1 wu1 acc wd from rfl).trans
    (Cert.Ffn.pay3_eq u wg0 wu0 wg1 wu1 acc wd)

/-- The first step starts from nought. -/
theorem pay2_apply (y : S512x2048.Idx) : k0_pay2 (F := Ideal) y = (0 : EReal) :=
  Cert.Ffn.pay2_apply y

/-- The end: the token plus half its normalised product. -/
theorem pay1_apply (x acc : FVec Ideal S512x2048 .f32) (g : FVec Ideal S1x2048 .f32) (r : Fin 512) (d : Fin 2048) (V G : ℕ → EReal)
    (hV : ∀ k : Fin 2048, acc (ix2 r k) = V k.val) (hG : g (ix2 0 d) = G d.val) :
    k0_pay1 (F := Ideal) x acc g (ix2 r d) = x (ix2 r d) + Ideal.ofBits .f32 0x3F000000#32 * rms V G d.val :=
  Cert.Ffn.pay1_apply x acc g r d V G hV hG

/-- The left half of a block of columns. -/
def colsL (w : Vec Ideal S2048x512 .bf16) : Vec Ideal S2048x256 .bf16 :=
  View.ld w (Rect.unit ![0, 0] ![2048, 256] inb_S2048x512_S2048x256_0_0)

/-- The right half. -/
def colsR (w : Vec Ideal S2048x512 .bf16) : Vec Ideal S2048x256 .bf16 :=
  View.ld w (Rect.unit ![0, 256] ![2048, 256] inb_S2048x512_S2048x256_0_256)

theorem colsL_apply (w : Vec Ideal S2048x512 .bf16) (k : Fin 2048) (f : Fin 256) :
    colsL w (ix2 k f) = w (ix2 k (⟨f.val, by omega⟩ : Fin 512)) :=
  congrArg w (funext (Fin.forall_fin_two.2 ⟨Fin.ext (by rw [Rect.idx_unit_val]; simp), Fin.ext (by rw [Rect.idx_unit_val]; simp)⟩))

theorem colsR_apply (w : Vec Ideal S2048x512 .bf16) (k : Fin 2048) (f : Fin 256) :
    colsR w (ix2 k f) = w (ix2 k (⟨256 + f.val, by omega⟩ : Fin 512)) :=
  congrArg w (funext (Fin.forall_fin_two.2 ⟨Fin.ext (by rw [Rect.idx_unit_val]; simp), Fin.ext (by rw [Rect.idx_unit_val]; simp)⟩))

variable (m : (ℓ : Loc nD τ sig) → Buf (Elt Ideal) ℓ)

/-- One point's step over what the block held. -/
def stp (c : Dev nD) (t : Fin cfg0.N) (acc : FVec Ideal S512x2048 .f32) : FVec Ideal S512x2048 .f32 :=
  k0_pay3 (iblk m c 1 t) (colsL (iblk m c 4 t)) (colsL (iblk m c 5 t)) (colsR (iblk m c 4 t)) (colsR (iblk m c 5 t)) acc
    (iblk m c 6 t)

theorem out_A (c : Dev nD) (t : Fin cfg0.N) (h0 : t.val % 11 = 0) (h1 : ¬t.val % 11 = 10) :
    outsAt0 m c t.val t.isLt = stp m c t (k0_pay2 (F := Ideal)) := by
  rw [outsAt0_A m c t h0 h1]
  frame_out
  rfl

theorem out_B (c : Dev nD) (t : Fin cfg0.N) (h0 : ¬t.val % 11 = 0) (h1 : ¬t.val % 11 = 10) :
    outsAt0 m c t.val t.isLt = stp m c t (outsAt0 m c (t.val - 1) (Nat.lt_of_le_of_lt (Nat.sub_le _ _) t.isLt)) := by
  rw [outsAt0_B m c t h0 h1]
  frame_out
  rfl

theorem out_C (c : Dev nD) (t : Fin cfg0.N) (h0 : ¬t.val % 11 = 0) (h1 : t.val % 11 = 10) :
    outsAt0 m c t.val t.isLt = k0_pay1 (iblk m c 0 t)
      (stp m c t (outsAt0 m c (t.val - 1) (Nat.lt_of_le_of_lt (Nat.sub_le _ _) t.isLt))) (iblk m c 2 t) := by
  rw [outsAt0_C m c t h0 h1]
  frame_out
  rfl

/-- A point's step adds the products of its 512 hidden features. -/
theorem stp_apply (c : Dev nD) (t : Fin cfg0.N) (acc : FVec Ideal S512x2048 .f32) (r : Fin 512) (d : Fin 2048) :
    stp m c t acc (ix2 r d) = acc (ix2 r d) + ∑ f : Fin 512,
      hid (at2 (arrU m c) (512 * (t.val / 11) + r.val)) (at2 (arrWg m c)) (at2 (arrWu m c)) (512 * (t.val % 11) + f.val)
        * at2 (arrWd m c) (512 * (t.val % 11) + f.val) d.val := by
  unfold stp
  rw [pay3_eq]
  refine (step_apply _ _ acc _ r d (fun f => hid (at2 (arrU m c) (512 * (t.val / 11) + r.val)) (at2 (arrWg m c))
    (at2 (arrWu m c)) (512 * (t.val % 11) + f)) (fun f => ?_) (fun f => ?_)).trans ?_
  · refine (gated_apply _ _ _ r f).trans ?_
    simp only [colsL_apply, iblk1, iblk4, iblk5]
    unfold hid proj
    simp only [Nat.mul_comm 512]
    rfl
  · refine (gated_apply _ _ _ r f).trans ?_
    simp only [colsR_apply, iblk1, iblk4, iblk5]
    unfold hid proj
    simp only [Nat.mul_comm 512]
    rfl
  · refine congrArg _ (Finset.sum_congr rfl fun f _ => congrArg _ ?_)
    rw [iblk6]
    simp only [Nat.mul_comm 512]
    rfl

/-- The hidden features so far, for a row of the block of tokens. -/
def sofar (c : Dev nD) (i n : ℕ) (r : Fin 512) : ℕ → EReal :=
  part (at2 (arrU m c) (512 * i + r.val)) (at2 (arrWg m c)) (at2 (arrWu m c)) (at2 (arrWd m c)) n

/-- The step from one multiple of 512 to the next. -/
theorem stp_sofar (c : Dev nD) (t : Fin cfg0.N) (acc : FVec Ideal S512x2048 .f32) (r : Fin 512) (d : Fin 2048)
    (h : acc (ix2 r d) = sofar m c (t.val / 11) (512 * (t.val % 11)) r d.val) :
    stp m c t acc (ix2 r d) = sofar m c (t.val / 11) (512 * (t.val % 11 + 1)) r d.val := by
  rw [stp_apply, h]
  exact (part_step _ _ _ _ _ _).symm

/-- The block before the last step of its rows holds the products so far. -/
theorem out_sofar (c : Dev nD) (n : ℕ) : ∀ hn : n < cfg0.N, n % 11 ≠ 10 → ∀ (r : Fin 512) (d : Fin 2048),
    outsAt0 m c n hn (ix2 r d) = sofar m c (n / 11) (512 * (n % 11 + 1)) r d.val := by
  induction n with
  | zero =>
    intro hn h1 r d
    rw [out_A m c ⟨0, hn⟩ rfl h1]
    exact stp_sofar m c ⟨0, hn⟩ _ r d (pay2_apply _)
  | succ n ih =>
    intro hn h1 r d
    by_cases h0 : (n + 1) % 11 = 0
    · rw [out_A m c ⟨n + 1, hn⟩ h0 h1]
      refine stp_sofar m c ⟨n + 1, hn⟩ _ r d ?_
      dsimp only
      rw [h0]
      exact pay2_apply _
    · rw [out_B m c ⟨n + 1, hn⟩ h0 h1]
      refine stp_sofar m c ⟨n + 1, hn⟩ _ r d ?_
      refine (ih _ (by omega) r d).trans ?_
      dsimp only
      rw [show (n + 1) / 11 = n / 11 by omega, show (n + 1) % 11 = n % 11 + 1 by omega]

/-- The block after the last step of its rows. -/
theorem out_last (c : Dev nD) (t : Fin cfg0.N) (h1 : t.val % 11 = 10) (r : Fin 512) (d : Fin 2048) :
    outsAt0 m c t.val t.isLt (ix2 r d) = ffn (at2 (arrX m c) (512 * (t.val / 11) + r.val))
      (at2 (arrU m c) (512 * (t.val / 11) + r.val)) (at2 (arrWg m c)) (at2 (arrWu m c)) (at2 (arrWd m c)) (at2 (arrG m c) 0) d.val := by
  rw [out_C m c t (by omega) h1]
  refine (pay1_apply _ _ _ r d (sofar m c (t.val / 11) (512 * (t.val % 11 + 1)) r) (at2 (arrG m c) 0) (fun k => ?_) ?_).trans ?_
  · refine stp_sofar m c t _ r k ?_
    refine (out_sofar m c (t.val - 1) _ (by omega) r k).trans ?_
    rw [show (t.val - 1) / 11 = t.val / 11 by omega, show (t.val - 1) % 11 + 1 = t.val % 11 by omega]
  · exact iblk2 m c t _
  · rw [h1, iblk0, Nat.mul_comm _ 512]
    rfl

/-- The kernel's array: each token's block. -/
theorem ffn_array (c : Dev nD) : (dats m 0 c).arrAt 7 cfg0.N
    = fun i : S16384x2048.Idx => (ffn (at2 (arrX m c) (i 0).val) (at2 (arrU m c) (i 0).val) (at2 (arrWg m c)) (at2 (arrWu m c))
      (at2 (arrWd m c)) (at2 (arrG m c) 0) (i 1).val : Elt Ideal .f32) := by
  refine (dats m 0 c).arrAt_eq_of_covers 7 _ (by decide +kernel) fun t hf y => ?_
  rw [after0_7]
  obtain ⟨r, d, rfl⟩ : ∃ (r : Fin 512) (d : Fin 2048), y = ix2 r d := ⟨y 0, y 1, eq_ix2 y⟩
  have e0 : ((((cfg0.win 7).blk t).view.emb (ix2 r d)) 0 : ℕ) = 512 * (t.val / 11) + r.val := by
    blk_simp [idx t]; omega
  have e1 : ((((cfg0.win 7).blk t).view.emb (ix2 r d)) 1 : ℕ) = d.val := by
    blk_simp [idx t]
  refine (out_last m c t ((flush0_7 t).mp hf) r d).trans ?_
  dsimp only
  rw [e0, e1]

end Cert.FfnS
-- ==== Proof.FfnSRef.lean ====
/-
The reference's feed-forward block at an index, for the second batch.
-/
module
public import proofs.«01_k».proof.Proof.Gen.Reference4Ideal.Run
public import proofs.«01_k».proof.Proof.FfnSpec
public import proofs.«01_k».proof.Proof.Coord
public import Idealize.ShloMosaic.Lib.Pointwise

@[expose] public section

set_option maxRecDepth 16384
noncomputable section

open Idealize.ShloMosaic Idealize.ShloMosaic.TcCoe Idealize.SL.Sem

namespace Cert.FfnS
open Cert.Reference4Ideal Cert.Reference4Ideal.Gen
open Cert.Attn (at2 at2_ix)
open Cert.Ffn (proj hid part rms ffn part_all)

/-- The reference's product with a weight matrix. -/
def rProj (u : FVec Ideal S16384x2048 .f32) (w : FVec Ideal S2048x5632 .f32) : FVec Ideal S16384x5632 .f32 :=
  Host.dotGeneral (F := Ideal) dot_S16384x2048_S2048x5632_S16384x5632_1_0_0_1_n_n none u w

/-- The reference's hidden features. -/
def rHid (u : FVec Ideal S16384x2048 .f32) (wg wu : FVec Ideal S2048x5632 .f32) : FVec Ideal S16384x5632 .f32 :=
  mulf (mulf (rProj u wg) (Host.divf (broadcastInDim S16384x5632 ![] bcast_S_S16384x5632 (constant S_ .f32 0x3F800000#32))
    (addf (broadcastInDim S16384x5632 ![] bcast_S_S16384x5632 (constant S_ .f32 0x3F800000#32)) (Host.exp (Host.negf (rProj u wg))))))
    (rProj u wu)

/-- The reference's product with the last weight matrix. -/
def rDown (h : FVec Ideal S16384x5632 .f32) (w : FVec Ideal S5632x2048 .f32) : FVec Ideal S16384x2048 .f32 :=
  Host.dotGeneral (F := Ideal) dot_S16384x5632_S5632x2048_S16384x2048_1_0_0_1_n_n none h w

/-- The reference's normalisation. -/
def rNorm (v : FVec Ideal S16384x2048 .f32) (g : FVec Ideal S2048 .f32) : FVec Ideal S16384x2048 .f32 :=
  mulf (mulf v (broadcastInDim S16384x2048 ![0, 1] bcast_S16384x1_S16384x2048_0_1 (Host.rsqrt (addf (Host.divf
    (broadcastInDim S16384x1 ![0] bcast_S16384_S16384x1_0 (Host.reduceAdd (mulf v v) (constant S_ .f32 0x00000000#32)
      reducesTo_S16384x2048_S16384_d1 h_S_))
    (broadcastInDim S16384x1 ![] bcast_S_S16384x1 (constant S_ .f32 0x45000000#32)))
    (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1 g))

/-- The reference's block: a token plus half a vector. -/
def rRes (x v : FVec Ideal S16384x2048 .f32) : FVec Ideal S16384x2048 .f32 :=
  addf x (mulf (broadcastInDim S16384x2048 ![] bcast_S_S16384x2048 (constant S_ .f32 0x3F000000#32)) v)

theorem rProj_apply (u : FVec Ideal S16384x2048 .f32) (w : FVec Ideal S2048x5632 .f32) (r : Fin 16384) (f : Fin 5632) :
    rProj u w (ix2 r f) = proj (at2 u r.val) (at2 w) f.val := by
  pointwise [rProj]
  exact Finset.sum_congr rfl fun k _ => by rw [at2_ix, at2_ix]

theorem rHid_apply (u : FVec Ideal S16384x2048 .f32) (wg wu : FVec Ideal S2048x5632 .f32) (r : Fin 16384) (f : Fin 5632) :
    rHid u wg wu (ix2 r f) = hid (at2 u r.val) (at2 wg) (at2 wu) f.val := by
  pointwise [rHid]
  rw [rProj_apply, rProj_apply]
  rfl

theorem rDown_apply (u : FVec Ideal S16384x2048 .f32) (wg wu : FVec Ideal S2048x5632 .f32) (wd : FVec Ideal S5632x2048 .f32)
    (r : Fin 16384) (d : Fin 2048) :
    rDown (rHid u wg wu) wd (ix2 r d) = part (at2 u r.val) (at2 wg) (at2 wu) (at2 wd) 5632 d.val := by
  rw [part_all]
  pointwise [rDown]
  exact Finset.sum_congr rfl fun f _ => by rw [at2_ix wd, rHid_apply]

theorem rNorm_apply (v : FVec Ideal S16384x2048 .f32) (g : FVec Ideal S1x2048 .f32) (V : ℕ → EReal) (r : Fin 16384) (d : Fin 2048)
    (h : ∀ k : Fin 2048, v (ix2 r k) = V k.val) :
    rNorm v (shapeCast S2048 g shapeCasts_S1x2048_S2048) (ix2 r d) = rms V (at2 g 0) d.val := by
  pointwise [rNorm]
  simp only [h]
  unfold rms
  rw [show at2 g 0 d.val = g (ix2 0 d) from at2_ix g 0 d]

/-- The reference's array: each token's block. -/
theorem rFfn_apply (x u : FVec Ideal S16384x2048 .f32) (wg wu : FVec Ideal S2048x5632 .f32) (wd : FVec Ideal S5632x2048 .f32)
    (g : FVec Ideal S1x2048 .f32) :
    rRes x (rNorm (rDown (rHid u wg wu) wd) (shapeCast S2048 g shapeCasts_S1x2048_S2048))
      = fun i => ffn (at2 x (i 0).val) (at2 u (i 0).val) (at2 wg) (at2 wu) (at2 wd) (at2 g 0) (i 1).val := by
  funext i
  obtain ⟨r, d, rfl⟩ : ∃ (r : Fin 16384) (d : Fin 2048), i = ix2 r d := ⟨i 0, i 1, eq_ix2 i⟩
  pointwise [rRes]
  rw [rNorm_apply _ g _ r d (rDown_apply u wg wu wd r)]
  exact congrArg (· + _) (at2_ix x r d).symm

/-- The reference's result is that array. -/
theorem res_eq (m : (ℓ : Loc nD τ sig) → Buf (Elt Ideal) ℓ) (c : Dev nD) :
    Cert.Reference4Ideal.Value.res_main_v25 (F := Ideal) m c
      = rRes (m ((c.tc : Thread nD τ).loc main_arg0)) (rNorm (rDown (rHid (extf .f32 (m ((c.tc : Thread nD τ).loc main_arg1)) bitsLt_bf16_f32)
          (shapeCast _ (m ((c.tc : Thread nD τ).loc main_arg3)) shapeCasts_S1x2048x5632_S2048x5632)
          (shapeCast _ (m ((c.tc : Thread nD τ).loc main_arg4)) shapeCasts_S1x2048x5632_S2048x5632))
          (shapeCast _ (m ((c.tc : Thread nD τ).loc main_arg5)) shapeCasts_S1x5632x2048_S5632x2048))
          (shapeCast S2048 (m ((c.tc : Thread nD τ).loc main_arg2)) shapeCasts_S1x2048_S2048)) := rfl

end Cert.FfnS
-- ==== Proof.FfnSClaim.lean ====
/-
The second feed-forward call's array is its reference's.
-/
module
public import proofs.«01_k».proof.Proof.FfnSValue
public import proofs.«01_k».proof.Proof.FfnSRef

@[expose] public section

noncomputable section

open Idealize.ShloMosaic Idealize.ShloMosaic.TcCoe Idealize.SL.Sem

namespace Cert.FfnS

open Cert.Kernel4Ideal Cert.Kernel4Ideal.Gen in
/-- From equal arguments the two arrays are equal. -/
theorem out_eq (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ)
    (c : Dev Cert.Kernel4Ideal.nD)
    (a0 : m' ((c.tc : Thread Cert.Reference4Ideal.nD Cert.Reference4Ideal.τ).loc Cert.Reference4Ideal.main_arg0) = arrX m c)
    (a1 : m' ((c.tc : Thread Cert.Reference4Ideal.nD Cert.Reference4Ideal.τ).loc Cert.Reference4Ideal.main_arg1) = arrU m c)
    (a2 : m' ((c.tc : Thread Cert.Reference4Ideal.nD Cert.Reference4Ideal.τ).loc Cert.Reference4Ideal.main_arg2) = arrG m c)
    (a3 : m' ((c.tc : Thread Cert.Reference4Ideal.nD Cert.Reference4Ideal.τ).loc Cert.Reference4Ideal.main_arg3)
      = m ((c.tc : Thread Cert.Kernel4Ideal.nD Cert.Kernel4Ideal.τ).loc Cert.Kernel4Ideal.main_arg3))
    (a4 : m' ((c.tc : Thread Cert.Reference4Ideal.nD Cert.Reference4Ideal.τ).loc Cert.Reference4Ideal.main_arg4)
      = m ((c.tc : Thread Cert.Kernel4Ideal.nD Cert.Kernel4Ideal.τ).loc Cert.Kernel4Ideal.main_arg4))
    (a5 : m' ((c.tc : Thread Cert.Reference4Ideal.nD Cert.Reference4Ideal.τ).loc Cert.Reference4Ideal.main_arg5)
      = m ((c.tc : Thread Cert.Kernel4Ideal.nD Cert.Kernel4Ideal.τ).loc Cert.Kernel4Ideal.main_arg5)) :
    Cert.Reference4Ideal.Value.res_main_v25 (F := Ideal) m' c = (dats m 0 c).arrAt 7 cfg0.N := by
  rw [ffn_array, res_eq, a0, a1, a2, a3, a4, a5]
  exact rFfn_apply (arrX m c) (arrU m c) (arrWg m c) (arrWu m c) (arrWd m c) (arrG m c)

end Cert.FfnS
-- ==== Proof.GateValue.lean ====
/-
The projection to the branch gates: the call's array and its reference's.
-/
module
public import proofs.«01_k».proof.Proof.Gen.Kernel5Ideal.Value
public import proofs.«01_k».proof.Proof.Gen.Reference5Ideal.Run
public import proofs.«01_k».proof.Proof.Coord
public import proofs.«01_k».proof.Proof.FfnSpec
public import Idealize.ShloMosaic.Lib.Pointwise
public import Idealize.ShloMosaic.Lib.Pipeline.ValueKit

@[expose] public section

set_option maxRecDepth 16384
noncomputable section

open Idealize.ShloMosaic Idealize.ShloMosaic.TcCoe Idealize.SL.Sem
open Idealize.ShloMosaic.Pipeline (Dat)

namespace Cert.Gate
open Cert.Attn (at2 at2_eq at2_ix)
open Cert.Ffn (proj)

section Kernel
open Cert.Kernel5Ideal Cert.Kernel5Ideal.Gen Cert.Kernel5Ideal.Value

/-- The block of each window at each grid point: two blocks of columns for each block of rows. -/
theorem idx : ∀ t : Fin cfg0.N,
    win0_0.index t = ![t.val / 2, 0] ∧ win0_1.index t = ![0, t.val % 2] ∧ win0_2.index t = ![t.val / 2, t.val % 2] :=
  (by decide +kernel : ∀ t : Fin grid0.N, _)

variable (m : (ℓ : Loc nD τ sig) → Buf (Elt Ideal) ℓ)

/-- The tokens. -/
def arrU (c : Dev nD) : FVec Ideal S32768x2048 .bf16 := m ((c.tc : Thread nD τ).loc main_arg0)

/-- The weight matrix of all the projections. -/
def arrW (c : Dev nD) : FVec Ideal S2048x11776 .f32 :=
  shapeCast S2048x11776 (m ((c.tc : Thread nD τ).loc main_arg1)) shapeCasts_S1x2048x11776_S2048x11776

/-- The weights at the launch of the call: the columns from 7680 on. -/
theorem V_w (c : Dev nD) : V m c main_v8
    = truncf .bf16 (extractStridedSlice S2048x4096 ![0, 7680] (arrW m c) slices_S2048x11776_S2048x4096_0_7680) bitsLt_bf16_f32 := by
  unfold V
  after_results
  try rfl

theorem iblk0 (c : Dev nD) (t : Fin cfg0.N) (y : S1024x2048.Idx) :
    iblk m c 0 t y = at2 (arrU m c) (t.val / 2 * 1024 + (y 0).val) (y 1).val := by
  refine (show iblk m c 0 t y = arrU m c ((win0_0.blk t).view.emb y) from rfl).trans (at2_eq _ _ _ _ ?_ ?_)
  · blk_simp [idx t]
  · blk_simp [idx t]

/-- An entry of the weights' columns. -/
theorem cols_apply (W : FVec Ideal S2048x11776 .f32) (i : S2048x4096.Idx) :
    truncf .bf16 (extractStridedSlice S2048x4096 ![0, 7680] W slices_S2048x11776_S2048x4096_0_7680) bitsLt_bf16_f32 i
      = at2 W (i 0).val (7680 + (i 1).val) := by
  obtain ⟨r, d, rfl⟩ : ∃ (r : Fin 2048) (d : Fin 4096), i = ix2 r d := ⟨i 0, i 1, eq_ix2 i⟩
  pointwise []
  refine at2_eq _ _ _ _ ?_ ?_
  · simp
  · simp

theorem iblk1 (c : Dev nD) (t : Fin cfg0.N) (y : S2048x2048.Idx) :
    iblk m c 1 t y = at2 (arrW m c) (y 0).val (7680 + (t.val % 2 * 2048 + (y 1).val)) := by
  refine ((show iblk m c 1 t y = V m c main_v8 ((win0_1.blk t).view.emb y) from rfl).trans
    (congrFun (V_w m c) _)).trans ((cols_apply _ _).trans (congrArg₂ (at2 (arrW m c)) ?_ ?_))
  · blk_simp [idx t]
  · blk_simp [idx t]

/-- One block of products. -/
theorem pay_apply (u : FVec Ideal S1024x2048 .bf16) (w : FVec Ideal S2048x2048 .bf16) (r : Fin 1024) (d : Fin 2048) :
    (k0_pay1 (F := Ideal) u w (ix2 r d) : EReal) = ∑ k : Fin 2048, u (ix2 r k) * w (ix2 k d) := by
  pointwise [k0_pay1]

/-- What a grid point leaves in its block of the array. -/
theorem out_eq (u : FVec Ideal S1024x2048 .bf16) (w : FVec Ideal S2048x2048 .bf16) :
    out0_2 (F := Ideal) u w = k0_pay1 (F := Ideal) u w := by
  unfold out0_2
  frame_out

/-- The call's array: each token's products with the gates' columns. -/
theorem gate_array (c : Dev nD) : (dats m 0 c).arrAt 2 cfg0.N
    = fun i : S32768x4096.Idx => (proj (at2 (arrU m c) (i 0).val) (at2 (arrW m c)) (7680 + (i 1).val) : Elt Ideal .bf16) := by
  refine (dats m 0 c).arrAt_eq_of_covers 2 _ (by decide +kernel) fun t hf y => ?_
  rw [after0_2]
  obtain ⟨r, d, rfl⟩ : ∃ (r : Fin 1024) (d : Fin 2048), y = ix2 r d := ⟨y 0, y 1, eq_ix2 y⟩
  have e0 : ((((cfg0.win 2).blk t).view.emb (ix2 r d)) 0 : ℕ) = t.val / 2 * 1024 + r.val := by
    blk_simp [idx t]
  have e1 : ((((cfg0.win 2).blk t).view.emb (ix2 r d)) 1 : ℕ) = t.val % 2 * 2048 + d.val := by
    blk_simp [idx t]
  rw [out_eq]
  refine (pay_apply _ _ r d).trans ?_
  dsimp only
  rw [e0, e1]
  exact Finset.sum_congr rfl fun k _ => by rw [iblk0, iblk1]; rfl

end Kernel

section Ref
open Cert.Reference5Ideal Cert.Reference5Ideal.Gen

/-- The reference's array is the same. -/
theorem ref_array (u : FVec Ideal S32768x2048 .bf16) (w : FVec Ideal S2048x11776 .f32) :
    truncf .bf16 (extractStridedSlice S32768x4096 ![0, 7680] (Host.dotGeneral (F := Ideal) dot_S32768x2048_S2048x11776_S32768x11776_1_0_0_1_n_n none
      (extf .f32 u bitsLt_bf16_f32) w) slices_S32768x11776_S32768x4096_0_7680) bitsLt_bf16_f32
      = fun i : S32768x4096.Idx => (proj (at2 u (i 0).val) (at2 w) (7680 + (i 1).val) : Elt Ideal .bf16) := by
  funext i
  obtain ⟨r, d, rfl⟩ : ∃ (r : Fin 32768) (d : Fin 4096), i = ix2 r d := ⟨i 0, i 1, eq_ix2 i⟩
  pointwise []
  refine Finset.sum_congr rfl fun k _ => congrArg₂ (· * ·) (at2_ix u r k).symm (at2_eq w _ _ _ ?_ ?_)
  · simp
  · simp

end Ref

open Cert.Kernel5Ideal Cert.Kernel5Ideal.Gen in
/-- From equal arguments the two arrays are equal. -/
theorem claim_eq (m : (ℓ : Loc nD τ sig) → Buf (Elt Ideal) ℓ) (c : Dev nD) (u : FVec Ideal S32768x2048 .bf16)
    (w : FVec Ideal S1x2048x11776 .f32) (hu : u = arrU m c) (hw : w = m ((c.tc : Thread nD τ).loc main_arg1)) :
    truncf .bf16 (extractStridedSlice Cert.Reference5Ideal.S32768x4096 ![0, 7680]
      (Host.dotGeneral (F := Ideal) Cert.Reference5Ideal.dot_S32768x2048_S2048x11776_S32768x11776_1_0_0_1_n_n none
      (extf .f32 u Cert.Reference5Ideal.Gen.bitsLt_bf16_f32) (shapeCast _ w Cert.Reference5Ideal.Gen.shapeCasts_S1x2048x11776_S2048x11776))
      Cert.Reference5Ideal.Gen.slices_S32768x11776_S32768x4096_0_7680) Cert.Reference5Ideal.Gen.bitsLt_bf16_f32
      = (dats m 0 c).arrAt 2 cfg0.N := by
  subst hu hw
  rw [gate_array]
  exact ref_array (arrU m c) (arrW m c)

end Cert.Gate
-- ==== Proof.ValValue.lean ====
/-
The projection to the values of the attention: the call's array and its reference's.
-/
module
public import proofs.«01_k».proof.Proof.Gen.Kernel6Ideal.Value
public import proofs.«01_k».proof.Proof.Gen.Reference6Ideal.Run
public import proofs.«01_k».proof.Proof.Coord
public import proofs.«01_k».proof.Proof.FfnSpec
public import Idealize.ShloMosaic.Lib.Pointwise
public import Idealize.ShloMosaic.Lib.Pipeline.ValueKit

@[expose] public section

set_option maxRecDepth 16384
noncomputable section

open Idealize.ShloMosaic Idealize.ShloMosaic.TcCoe Idealize.SL.Sem
open Idealize.ShloMosaic.Pipeline (Dat)

namespace Cert.Val
open Cert.Attn (at2 at2_eq at2_ix)
open Cert.Ffn (proj)

section Kernel
open Cert.Kernel6Ideal Cert.Kernel6Ideal.Gen Cert.Kernel6Ideal.Value

/-- The block of each window at each grid point. -/
theorem idx : ∀ t : Fin cfg0.N,
    win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ)

/-- The tokens. -/
def arrU (c : Dev nD) : FVec Ideal S32768x2048 .bf16 := m ((c.tc : Thread nD τ).loc main_arg0)

/-- The weight matrix of all the projections. -/
def arrW (c : Dev nD) : FVec Ideal S2048x11776 .f32 :=
  shapeCast S2048x11776 (m ((c.tc : Thread nD τ).loc main_arg1)) shapeCasts_S1x2048x11776_S2048x11776

/-- The weights at the launch of the call: the 1536 columns from 6144 on. -/
theorem V_w (c : Dev nD) : V m c main_v6
    = truncf .bf16 (extractStridedSlice S2048x1536 ![0, 6144] (arrW m c) slices_S2048x11776_S2048x1536_0_6144) bitsLt_bf16_f32 := by
  unfold V
  after_results
  try rfl

theorem iblk0 (c : Dev nD) (t : Fin cfg0.N) (y : S1024x2048.Idx) :
    iblk m c 0 t y = at2 (arrU m c) (t.val * 1024 + (y 0).val) (y 1).val := by
  refine (show iblk m c 0 t y = arrU m c ((win0_0.blk t).view.emb y) from rfl).trans (at2_eq _ _ _ _ ?_ ?_)
  · blk_simp [idx t]
  · blk_simp [idx t]

/-- An entry of the weights' columns. -/
theorem cols_apply (W : FVec Ideal S2048x11776 .f32) (i : S2048x1536.Idx) :
    truncf .bf16 (extractStridedSlice S2048x1536 ![0, 6144] W slices_S2048x11776_S2048x1536_0_6144) bitsLt_bf16_f32 i
      = at2 W (i 0).val (6144 + (i 1).val) := by
  obtain ⟨r, d, rfl⟩ : ∃ (r : Fin 2048) (d : Fin 1536), i = ix2 r d := ⟨i 0, i 1, eq_ix2 i⟩
  pointwise []
  refine at2_eq _ _ _ _ ?_ ?_
  · simp
  · simp

theorem iblk1 (c : Dev nD) (t : Fin cfg0.N) (y : S2048x1536.Idx) :
    iblk m c 1 t y = at2 (arrW m c) (y 0).val (6144 + (y 1).val) := by
  refine ((show iblk m c 1 t y = V m c main_v6 ((win0_1.blk t).view.emb y) from rfl).trans
    (congrFun (V_w m c) _)).trans ((cols_apply _ _).trans (congrArg₂ (at2 (arrW m c)) ?_ ?_))
  · blk_simp [idx t]
  · blk_simp [idx t]

/-- One block of products. -/
theorem pay_apply (u : FVec Ideal S1024x2048 .bf16) (w : FVec Ideal S2048x1536 .bf16) (r : Fin 1024) (d : Fin 1536) :
    (k0_pay1 (F := Ideal) u w (ix2 r d) : EReal) = ∑ k : Fin 2048, u (ix2 r k) * w (ix2 k d) := by
  pointwise [k0_pay1]

/-- What a grid point leaves in its block of the array. -/
theorem out_eq (u : FVec Ideal S1024x2048 .bf16) (w : FVec Ideal S2048x1536 .bf16) :
    out0_2 (F := Ideal) u w = k0_pay1 (F := Ideal) u w := by
  unfold out0_2
  frame_out

/-- The call's array: each token's products with the values' columns. -/
theorem val_array (c : Dev nD) : (dats m 0 c).arrAt 2 cfg0.N
    = fun i : S32768x1536.Idx => (proj (at2 (arrU m c) (i 0).val) (at2 (arrW m c)) (6144 + (i 1).val) : Elt Ideal .bf16) := by
  refine (dats m 0 c).arrAt_eq_of_covers 2 _ (by decide +kernel) fun t hf y => ?_
  rw [after0_2]
  obtain ⟨r, d, rfl⟩ : ∃ (r : Fin 1024) (d : Fin 1536), y = ix2 r d := ⟨y 0, y 1, eq_ix2 y⟩
  have e0 : ((((cfg0.win 2).blk t).view.emb (ix2 r d)) 0 : ℕ) = t.val * 1024 + r.val := by
    blk_simp [idx t]
  have e1 : ((((cfg0.win 2).blk t).view.emb (ix2 r d)) 1 : ℕ) = d.val := by
    blk_simp [idx t]
  rw [out_eq]
  refine (pay_apply _ _ r d).trans ?_
  dsimp only
  rw [e0, e1]
  exact Finset.sum_congr rfl fun k _ => by rw [iblk0, iblk1]; rfl

end Kernel

section Ref
open Cert.Reference6Ideal Cert.Reference6Ideal.Gen

/-- The reference's array, from its arguments. -/
def refVal (u : FVec Ideal S32768x2048 .bf16) (w : FVec Ideal S2048x11776 .f32) : FVec Ideal S32768x1536 .bf16 :=
  truncf .bf16 (shapeCast _ (extractStridedSlice S32768x1x1536 ![0, 2, 0] (shapeCast _ (extractStridedSlice S32768x4608 ![0, 3072]
    (Host.dotGeneral (F := Ideal) dot_S32768x2048_S2048x11776_S32768x11776_1_0_0_1_n_n none (extf .f32 u bitsLt_bf16_f32) w)
    slices_S32768x11776_S32768x4608_0_3072) shapeCasts_S32768x4608_S32768x3x1536) slices_S32768x3x1536_S32768x1x1536_0_2_0)
    shapeCasts_S32768x1x1536_S32768x1536) bitsLt_bf16_f32

/-- It is the same. -/
theorem ref_array (u : FVec Ideal S32768x2048 .bf16) (w : FVec Ideal S2048x11776 .f32) :
    refVal u w = fun i : S32768x1536.Idx => (proj (at2 u (i 0).val) (at2 w) (6144 + (i 1).val) : Elt Ideal .bf16) := by
  funext i
  obtain ⟨r, d, rfl⟩ : ∃ (r : Fin 32768) (d : Fin 1536), i = ix2 r d := ⟨i 0, i 1, eq_ix2 i⟩
  unfold refVal
  pointwise []
  refine Finset.sum_congr rfl fun k _ => congrArg₂ (· * ·) (at2_ix u r k).symm (at2_eq w _ _ _ rfl ?_)
  dsimp only [ix2]
  exact (Nat.add_assoc 3072 3072 d.val).symm

end Ref

open Cert.Kernel6Ideal Cert.Kernel6Ideal.Gen in
/-- From equal arguments the two arrays are equal. -/
theorem claim_eq (m : (ℓ : Loc nD τ sig) → Buf (Elt Ideal) ℓ) (c : Dev nD) (u : FVec Ideal S32768x2048 .bf16)
    (w : FVec Ideal S1x2048x11776 .f32) (hu : u = arrU m c) (hw : w = m ((c.tc : Thread nD τ).loc main_arg1)) :
    refVal u (shapeCast _ w Cert.Reference6Ideal.Gen.shapeCasts_S1x2048x11776_S2048x11776) = (dats m 0 c).arrAt 2 cfg0.N := by
  subst hu hw
  rw [val_array]
  exact ref_array (arrU m c) (arrW m c)

end Cert.Val
-- ==== Proof.MergeSpec.lean ====
/-
Merging one token's two branches, over the extended reals.
-/
module
public import proofs.«01_k».proof.Proof.FfnSpec

@[expose] public section

noncomputable section

open Idealize.ShloMosaic

namespace Cert.Merge
open Cert.Ffn (proj rms)

/-- The greatest of three. -/
def top (a b c : EReal) : EReal := max (max a b) c

/-- The share of `x` among three: its exponential over the sum of theirs. -/
def share (x a b c : EReal) : EReal :=
  Ideal.div (Ideal.exp (x - top a b c)) (Ideal.exp (a - top a b c) + Ideal.exp (b - top a b c) + Ideal.exp (c - top a b c))

/-- Feature `f` of the three windows' outputs, each weighed by its share for the head of the feature. -/
def att (o0 o1 o2 l0 l1 l2 : ℕ → EReal) (f : ℕ) : EReal :=
  share (l0 (f / 128)) (l0 (f / 128)) (l1 (f / 128)) (l2 (f / 128)) * o0 f
    + share (l1 (f / 128)) (l0 (f / 128)) (l1 (f / 128)) (l2 (f / 128)) * o1 f
    + share (l2 (f / 128)) (l0 (f / 128)) (l1 (f / 128)) (l2 (f / 128)) * o2 f

/-- The two branches' projections, each times the sigmoid of its gate. -/
def merged (a b g : ℕ → EReal) (wh wa : ℕ → ℕ → EReal) (d : ℕ) : EReal :=
  Ideal.logistic (g d) * (∑ k : Fin 1024, a k.val * wh k.val d)
    + Ideal.logistic (g (2048 + d)) * (∑ k : Fin 512, b k.val * wa k.val d)

/-- The token plus the normalised product of the merged branches. -/
def tok (x a b g : ℕ → EReal) (wh wa wo : ℕ → ℕ → EReal) (p : ℕ → EReal) (d : ℕ) : EReal :=
  x d + rms (proj (merged a b g wh wa) wo) p d

end Cert.Merge
-- ==== Proof.MergeRef.lean ====
/-
The reference's merging of the two branches at an index.
-/
module
public import proofs.«01_k».proof.Proof.Gen.Reference7Ideal.Run
public import proofs.«01_k».proof.Proof.MergeSpec
public import proofs.«01_k».proof.Proof.FfnRef
public import Idealize.ShloMosaic.Lib.KernelVsHost

@[expose] public section

set_option maxRecDepth 16384
noncomputable section

open Idealize.ShloMosaic Idealize.ShloMosaic.TcCoe Idealize.SL.Sem

namespace Cert.Merge
open Cert.Reference7Ideal Cert.Reference7Ideal.Gen
open Cert.Attn (at2 at2_eq at2_ix)
open Cert.Ffn (rms proj)

/-- The reference's sigmoids of the gates. -/
def rSig (g : FVec Ideal S32768x4096 .bf16) : FVec Ideal S32768x4096 .f32 :=
  Host.divf (broadcastInDim S32768x4096 ![] bcast_S_S32768x4096 (constant S_ .f32 0x3F800000#32))
    (addf (broadcastInDim S32768x4096 ![] bcast_S_S32768x4096 (constant S_ .f32 0x3F800000#32)) (Host.exp (Host.negf (extf .f32 g bitsLt_bf16_f32))))

theorem rSig_apply (g : FVec Ideal S32768x4096 .bf16) (i : S32768x4096.Idx) : rSig g i = Ideal.logistic (g i) := by
  pointwise [rSig]
  rfl

/-- The first gate's. -/
def rGate0 (g : FVec Ideal S32768x4096 .bf16) : FVec Ideal S32768x2048 .f32 :=
  shapeCast _ (extractStridedSlice S32768x1x2048 ![0, 0, 0] (shapeCast _ (rSig g) shapeCasts_S32768x4096_S32768x2x2048)
    slices_S32768x2x2048_S32768x1x2048_0_0_0) shapeCasts_S32768x1x2048_S32768x2048

/-- The second gate's. -/
def rGate1 (g : FVec Ideal S32768x4096 .bf16) : FVec Ideal S32768x2048 .f32 :=
  shapeCast _ (extractStridedSlice S32768x1x2048 ![0, 1, 0] (shapeCast _ (rSig g) shapeCasts_S32768x4096_S32768x2x2048)
    slices_S32768x2x2048_S32768x1x2048_0_1_0) shapeCasts_S32768x1x2048_S32768x2048

theorem rGate0_apply (g : FVec Ideal S32768x4096 .bf16) (r : Fin 32768) (d : Fin 2048) :
    rGate0 g (ix2 r d) = Ideal.logistic (at2 g r.val d.val) := by
  unfold rGate0
  pointwise []
  rw [rSig_apply]
  exact congrArg _ (at2_eq g _ _ _ rfl (by simp))

theorem rGate1_apply (g : FVec Ideal S32768x4096 .bf16) (r : Fin 32768) (d : Fin 2048) :
    rGate1 g (ix2 r d) = Ideal.logistic (at2 g r.val (2048 + d.val)) := by
  unfold rGate1
  pointwise []
  rw [rSig_apply]
  exact congrArg _ (at2_eq g _ _ _ rfl (by simp))

/-- The windows' logarithms, stacked. -/
def rLse (l0 l1 l2 : FVec Ideal S32768x128 .f32) : FVec Ideal S3x32768x4 .f32 :=
  concatenate S3x32768x4 0 [⟨S1x32768x4, broadcastInDim S1x32768x4 ![1, 2] bcast_S32768x4_S1x32768x4_1_2
      (extractStridedSlice S32768x4 ![0, 0] l0 slices_S32768x128_S32768x4_0_0)⟩,
    ⟨S1x32768x4, broadcastInDim S1x32768x4 ![1, 2] bcast_S32768x4_S1x32768x4_1_2
      (extractStridedSlice S32768x4 ![0, 0] l1 slices_S32768x128_S32768x4_0_0)⟩,
    ⟨S1x32768x4, broadcastInDim S1x32768x4 ![1, 2] bcast_S32768x4_S1x32768x4_1_2
      (extractStridedSlice S32768x4 ![0, 0] l2 slices_S32768x128_S32768x4_0_0)⟩] concatenates_S1x32768x4_S1x32768x4_S1x32768x4_S3x32768x4_d0

theorem rLse0 (l0 l1 l2 : FVec Ideal S32768x128 .f32) (r : Fin 32768) (h : Fin 4) :
    rLse l0 l1 l2 (ix3 0 r h) = at2 l0 r.val h.val := by
  unfold rLse
  pointwise []
  exact at2_eq l0 _ _ _ (by simp) (by simp)

theorem rLse1 (l0 l1 l2 : FVec Ideal S32768x128 .f32) (r : Fin 32768) (h : Fin 4) :
    rLse l0 l1 l2 (ix3 1 r h) = at2 l1 r.val h.val := by
  unfold rLse
  pointwise []
  exact at2_eq l1 _ _ _ (by simp) (by simp)

theorem rLse2 (l0 l1 l2 : FVec Ideal S32768x128 .f32) (r : Fin 32768) (h : Fin 4) :
    rLse l0 l1 l2 (ix3 2 r h) = at2 l2 r.val h.val := by
  unfold rLse
  pointwise []
  exact at2_eq l2 _ _ _ (by simp) (by simp)

/-- The greatest of the three. -/
def rTop (v : FVec Ideal S3x32768x4 .f32) : FVec Ideal S32768x4 .f32 :=
  Host.reduce FloatOps.maximumf v (constant S_ .f32 0xFF800000#32) reducesTo_S3x32768x4_S32768x4_d0 h_S_

theorem rTop_apply (v : FVec Ideal S3x32768x4 .f32) (r : Fin 32768) (h : Fin 4) :
    rTop v (ix2 r h) = top (v (ix3 0 r h)) (v (ix3 1 r h)) (v (ix3 2 r h)) := by
  refine (congrFun (hostReduce_maximumf_eq_multiReduction (F := Ideal) (u := S_) (φ := .f32) v
    0xFF800000#32 reducesTo_S3x32768x4_S32768x4_d0 h_S_ (by decide) (.inl rfl) rfl) (ix2 r h)).trans ?_
  refine (Ideal.multiReduction_maximumf_single _ _ _ _ _ _).trans ?_
  rw [show (FloatOps.ofBits FTy.f32 4286578688#32 : Ideal .f32) = (⊥ : EReal) by
    show Ideal.ofBits FTy.f32 4286578688#32 = ⊥
    simp [Ideal.ofBits, Ideal.ieee]]
  refine (Finset.fold_congr (g := fun k : Fin 3 => v (ix3 k r h)) fun k _ => congrArg v (funext fun a => Fin.ext ?_)).trans ?_
  · match a with
    | ⟨0, _⟩ => rfl
    | ⟨1, _⟩ => rfl
    | ⟨2, _⟩ => rfl
  · show Finset.fold max ⊥ (fun k : Fin 3 => v (ix3 k r h)) {0, 1, 2} = _
    unfold top
    simp [max_assoc]

/-- The exponentials over the greatest. -/
def rExp (v : FVec Ideal S3x32768x4 .f32) : FVec Ideal S3x32768x4 .f32 :=
  Host.exp (subf v (broadcastInDim S3x32768x4 ![0, 1, 2] bcast_S1x32768x4_S3x32768x4_0_1_2
    (broadcastInDim S1x32768x4 ![1, 2] bcast_S32768x4_S1x32768x4_1_2
      (maximumf (broadcastInDim S32768x4 ![] bcast_S_S32768x4 (constant S_ .f32 0xFF800000#32)) (rTop v)))))

theorem rExp_apply (v : FVec Ideal S3x32768x4 .f32) (g : Fin 3) (r : Fin 32768) (h : Fin 4) :
    rExp v (ix3 g r h) = Ideal.exp (v (ix3 g r h) - top (v (ix3 0 r h)) (v (ix3 1 r h)) (v (ix3 2 r h))) := by
  pointwise [rExp]
  rw [rTop_apply, show Ideal.ofBits FTy.f32 4286578688#32 = (⊥ : EReal) by simp [Ideal.ofBits, Ideal.ieee], max_eq_right bot_le]

/-- The shares. -/
def rShare (v : FVec Ideal S3x32768x4 .f32) : FVec Ideal S3x32768x4 .f32 :=
  Host.divf (rExp v) (broadcastInDim S3x32768x4 ![0, 1, 2] bcast_S1x32768x4_S3x32768x4_0_1_2
    (broadcastInDim S1x32768x4 ![1, 2] bcast_S32768x4_S1x32768x4_1_2
      (Host.reduceAdd (rExp v) (constant S_ .f32 0x00000000#32) reducesTo_S3x32768x4_S32768x4_d0 h_S_)))

theorem rShare_apply (v : FVec Ideal S3x32768x4 .f32) (g : Fin 3) (r : Fin 32768) (h : Fin 4) :
    rShare v (ix3 g r h) = share (v (ix3 g r h)) (v (ix3 0 r h)) (v (ix3 1 r h)) (v (ix3 2 r h)) := by
  pointwise [rShare]
  rw [Fin.sum_univ_three, rExp_apply, rExp_apply, rExp_apply, rExp_apply]
  rfl

/-- The windows' outputs, stacked. -/
def rOut (o0 o1 o2 : FVec Ideal S32768x512 .bf16) : FVec Ideal S3x32768x4x128 .f32 :=
  concatenate S3x32768x4x128 0 [⟨S1x32768x4x128, broadcastInDim S1x32768x4x128 ![1, 2, 3] bcast_S32768x4x128_S1x32768x4x128_1_2_3
      (shapeCast _ (extf .f32 o0 bitsLt_bf16_f32) shapeCasts_S32768x512_S32768x4x128)⟩,
    ⟨S1x32768x4x128, broadcastInDim S1x32768x4x128 ![1, 2, 3] bcast_S32768x4x128_S1x32768x4x128_1_2_3
      (shapeCast _ (extf .f32 o1 bitsLt_bf16_f32) shapeCasts_S32768x512_S32768x4x128)⟩,
    ⟨S1x32768x4x128, broadcastInDim S1x32768x4x128 ![1, 2, 3] bcast_S32768x4x128_S1x32768x4x128_1_2_3
      (shapeCast _ (extf .f32 o2 bitsLt_bf16_f32) shapeCasts_S32768x512_S32768x4x128)⟩]
    concatenates_S1x32768x4x128_S1x32768x4x128_S1x32768x4x128_S3x32768x4x128_d0

theorem rOut0 (o0 o1 o2 : FVec Ideal S32768x512 .bf16) (r : Fin 32768) (h : Fin 4) (l : Fin 128) :
    rOut o0 o1 o2 (ix4 0 r h l) = at2 o0 r.val (h.val * 128 + l.val) := by
  unfold rOut
  pointwise []
  exact at2_eq o0 _ _ _ (by simp) (by simp)

theorem rOut1 (o0 o1 o2 : FVec Ideal S32768x512 .bf16) (r : Fin 32768) (h : Fin 4) (l : Fin 128) :
    rOut o0 o1 o2 (ix4 1 r h l) = at2 o1 r.val (h.val * 128 + l.val) := by
  unfold rOut
  pointwise []
  exact at2_eq o1 _ _ _ (by simp) (by simp)

theorem rOut2 (o0 o1 o2 : FVec Ideal S32768x512 .bf16) (r : Fin 32768) (h : Fin 4) (l : Fin 128) :
    rOut o0 o1 o2 (ix4 2 r h l) = at2 o2 r.val (h.val * 128 + l.val) := by
  unfold rOut
  pointwise []
  exact at2_eq o2 _ _ _ (by simp) (by simp)

theorem share_congr {x a b c x' a' b' c' : EReal} (hx : x = x') (ha : a = a') (hb : b = b') (hc : c = c') :
    share x a b c = share x' a' b' c' := by
  rw [hx, ha, hb, hc]

/-- Window 0's share for a head of a token. -/
theorem rShare_row0 (l0 l1 l2 : FVec Ideal S32768x128 .f32) (r : Fin 32768) (h : Fin 4) :
    rShare (rLse l0 l1 l2) (ix3 0 r h)
      = share (at2 l0 r.val h.val) (at2 l0 r.val h.val) (at2 l1 r.val h.val) (at2 l2 r.val h.val) :=
  (rShare_apply (rLse l0 l1 l2) 0 r h).trans
    (share_congr (rLse0 l0 l1 l2 r h) (rLse0 l0 l1 l2 r h) (rLse1 l0 l1 l2 r h) (rLse2 l0 l1 l2 r h))

/-- Window 1's share for a head of a token. -/
theorem rShare_row1 (l0 l1 l2 : FVec Ideal S32768x128 .f32) (r : Fin 32768) (h : Fin 4) :
    rShare (rLse l0 l1 l2) (ix3 1 r h)
      = share (at2 l1 r.val h.val) (at2 l0 r.val h.val) (at2 l1 r.val h.val) (at2 l2 r.val h.val) :=
  (rShare_apply (rLse l0 l1 l2) 1 r h).trans
    (share_congr (rLse1 l0 l1 l2 r h) (rLse0 l0 l1 l2 r h) (rLse1 l0 l1 l2 r h) (rLse2 l0 l1 l2 r h))

/-- Window 2's share for a head of a token. -/
theorem rShare_row2 (l0 l1 l2 : FVec Ideal S32768x128 .f32) (r : Fin 32768) (h : Fin 4) :
    rShare (rLse l0 l1 l2) (ix3 2 r h)
      = share (at2 l2 r.val h.val) (at2 l0 r.val h.val) (at2 l1 r.val h.val) (at2 l2 r.val h.val) :=
  (rShare_apply (rLse l0 l1 l2) 2 r h).trans
    (share_congr (rLse2 l0 l1 l2 r h) (rLse0 l0 l1 l2 r h) (rLse1 l0 l1 l2 r h) (rLse2 l0 l1 l2 r h))

/-- The weighed outputs. -/
def rAtt (w : FVec Ideal S3x32768x4 .f32) (o : FVec Ideal S3x32768x4x128 .f32) : FVec Ideal S32768x512 .f32 :=
  shapeCast _ (Host.reduceAdd (mulf (broadcastInDim S3x32768x4x128 ![0, 1, 2, 3] bcast_S3x32768x4x1_S3x32768x4x128_0_1_2_3
    (broadcastInDim S3x32768x4x1 ![0, 1, 2] bcast_S3x32768x4_S3x32768x4x1_0_1_2 w)) o)
    (constant S_ .f32 0x00000000#32) reducesTo_S3x32768x4x128_S32768x4x128_d0 h_S_) shapeCasts_S32768x4x128_S32768x512

theorem rAtt_apply (l0 l1 l2 : FVec Ideal S32768x128 .f32) (o0 o1 o2 : FVec Ideal S32768x512 .bf16) (r : Fin 32768) (f : Fin 512) :
    rAtt (rShare (rLse l0 l1 l2)) (rOut o0 o1 o2) (ix2 r f)
      = att (at2 o0 r.val) (at2 o1 r.val) (at2 o2 r.val) (at2 l0 r.val) (at2 l1 r.val) (at2 l2 r.val) f.val := by
  unfold rAtt
  pointwise []
  rw [Fin.sum_univ_three]
  have hf : f.val / 128 * 128 + f.val % 128 = f.val := Nat.div_add_mod' _ _
  unfold att
  refine congrArg₂ (· + ·) (congrArg₂ (· + ·) (congrArg₂ (· * ·) (rShare_row0 l0 l1 l2 r _) ?_)
    (congrArg₂ (· * ·) (rShare_row1 l0 l1 l2 r _) ?_)) (congrArg₂ (· * ·) (rShare_row2 l0 l1 l2 r _) ?_)
  · exact (rOut0 o0 o1 o2 r _ _).trans (congrArg (at2 o0 r.val) hf)
  · exact (rOut1 o0 o1 o2 r _ _).trans (congrArg (at2 o1 r.val) hf)
  · exact (rOut2 o0 o1 o2 r _ _).trans (congrArg (at2 o2 r.val) hf)

end Cert.Merge
-- ==== Proof.MergePay.lean ====
/-
One step of the merging call, read at an index.
-/
module
public import proofs.«01_k».proof.Proof.Gen.Kernel7Ideal.Frame
public import proofs.«01_k».proof.Proof.MergeSpec
public import Idealize.ShloMosaic.Lib.Pointwise

@[expose] public section

set_option maxRecDepth 16384
noncomputable section

open Idealize.ShloMosaic Idealize.ShloMosaic.TcCoe

namespace Cert.Merge
open Cert.Kernel7Ideal Cert.Kernel7Ideal.Gen
open Cert.Ffn (rms proj)

/-- The first window's share. -/
theorem pay8_apply (v0 v1 v2 : FVec Ideal S512x128 .f32) (r : Fin 512) (l : Fin 128) :
    k0_pay8 (F := Ideal) v0 v1 v2 (ix2 r l) = share (v0 (ix2 r l)) (v0 (ix2 r l)) (v1 (ix2 r l)) (v2 (ix2 r l)) := by
  pointwise [k0_pay8, k0_pay7, k0_pay6, k0_pay5, k0_pay4, k0_pay3]
  rfl

/-- The second window's share. -/
theorem pay9_apply (v0 v1 v2 : FVec Ideal S512x128 .f32) (r : Fin 512) (l : Fin 128) :
    k0_pay9 (F := Ideal) v0 v1 v2 (ix2 r l) = share (v1 (ix2 r l)) (v0 (ix2 r l)) (v1 (ix2 r l)) (v2 (ix2 r l)) := by
  pointwise [k0_pay9, k0_pay7, k0_pay6, k0_pay5, k0_pay4, k0_pay3]
  rfl

/-- The third window's share. -/
theorem pay10_apply (v0 v1 v2 : FVec Ideal S512x128 .f32) (r : Fin 512) (l : Fin 128) :
    k0_pay10 (F := Ideal) v0 v1 v2 (ix2 r l) = share (v2 (ix2 r l)) (v0 (ix2 r l)) (v1 (ix2 r l)) (v2 (ix2 r l)) := by
  pointwise [k0_pay10, k0_pay7, k0_pay6, k0_pay5, k0_pay4, k0_pay3]
  rfl

/-- A block of 128 features of the outputs, each weighed by its share. -/
def head (h : Fin 128) (w0 w1 w2 : FVec Ideal S512x128 .f32) (o0 o1 o2 : FVec Ideal S512x128 .bf16) (r : Fin 512) (l : Fin 128) : EReal :=
  w0 (ix2 r h) * o0 (ix2 r l) + w1 (ix2 r h) * o1 (ix2 r l) + w2 (ix2 r h) * o2 (ix2 r l)

/-- The first head's block. -/
theorem pay11_apply (v0 v1 v2 : FVec Ideal S512x128 .f32) (o0 o1 o2 : FVec Ideal S512x128 .bf16) (r : Fin 512) (l : Fin 128) :
    k0_pay11 (F := Ideal) v0 v1 v2 o0 o1 o2 (ix2 r l)
      = head 0 (k0_pay8 v0 v1 v2) (k0_pay9 v0 v1 v2) (k0_pay10 v0 v1 v2) o0 o1 o2 r l := by
  pointwise [k0_pay11]
  rfl

/-- The second head's block. -/
theorem pay14_apply (v0 v1 v2 : FVec Ideal S512x128 .f32) (o0 o1 o2 : FVec Ideal S512x128 .bf16) (r : Fin 512) (l : Fin 128) :
    k0_pay14 (F := Ideal) (k0_pay10 v0 v1 v2) (k0_pay12 v0 v1 v2 o0) (k0_pay13 v0 v1 v2) o1 o2 (ix2 r l)
      = head 1 (k0_pay8 v0 v1 v2) (k0_pay9 v0 v1 v2) (k0_pay10 v0 v1 v2) o0 o1 o2 r l := by
  pointwise [k0_pay14, k0_pay12, k0_pay13]
  rfl

/-- The third head's block. -/
theorem pay15_apply (w0 w1 w2 : FVec Ideal S512x128 .f32) (o0 o1 o2 : FVec Ideal S512x128 .bf16) (r : Fin 512) (l : Fin 128) :
    k0_pay15 (F := Ideal) w0 w1 w2 o0 o1 o2 (ix2 r l) = head 2 w0 w1 w2 o0 o1 o2 r l := by
  pointwise [k0_pay15]
  rfl

/-- The last head's block, as the product reads it. -/
def last (v85 : FVec Ideal S512x128 .f32) (v86 : FVec Ideal S512x1 .f32) (o2 : FVec Ideal S512x128 .bf16) : FVec Ideal S512x128 .f32 :=
  addf v85 (mulf (broadcastTo S512x128 v86 broadcasts_S512x1_S512x128) (extf .f32 o2 bitsLt_bf16_f32))

/-- The last head's block. -/
theorem last_apply (w0 w1 w2 : FVec Ideal S512x128 .f32) (o0 o1 o2 : FVec Ideal S512x128 .bf16) (r : Fin 512) (l : Fin 128) :
    last (k0_pay16 (F := Ideal) w0 w1 o0 o1) (k0_pay17 w2) o2 (ix2 r l) = head 3 w0 w1 w2 o0 o1 o2 r l := by
  pointwise [last, k0_pay16, k0_pay17]
  rfl

/-- Four blocks of 128 features side by side. -/
def four (a b c d : FVec Ideal S512x128 .f32) : FVec Ideal S512x512 .bf16 :=
  truncf .bf16 (concatenate S512x512 1 [⟨S512x128, a⟩, ⟨S512x128, b⟩, ⟨S512x128, c⟩, ⟨S512x128, d⟩]
    concatenates_S512x128_S512x128_S512x128_S512x128_S512x512_d1) bitsLt_bf16_f32

theorem four_apply (a b c d : FVec Ideal S512x128 .f32) (r : Fin 512) (f : Fin 512) (X : ℕ → EReal)
    (ha : ∀ l : Fin 128, a (ix2 r l) = X l.val) (hb : ∀ l : Fin 128, b (ix2 r l) = X (128 + l.val))
    (hc : ∀ l : Fin 128, c (ix2 r l) = X (256 + l.val)) (hd : ∀ l : Fin 128, d (ix2 r l) = X (384 + l.val)) :
    (four a b c d (ix2 r f) : EReal) = X f.val := by
  pointwise [four]
  split_ifs
  all_goals first
    | exact ha _
    | exact (hb _).trans (congrArg X (by dsimp only; omega))
    | exact (hc _).trans (congrArg X (by dsimp only; omega))
    | exact (hd _).trans (congrArg X (by dsimp only; omega))

/-- The merged branches, as the last product reads them. -/
def mrg (b : FVec Ideal S512x512 .bf16) (a : FVec Ideal S512x1024 .bf16) (wh : FVec Ideal S1024x2048 .bf16) (wa ga gb : FVec Ideal S512x2048 .bf16) :
    FVec Ideal S512x2048 .bf16 :=
  truncf .bf16 (addf (mulf (logistic (extf .f32 ga bitsLt_bf16_f32))
      (matmul dot_S512x1024_S1024x2048_S512x2048_1_0_0_1_n_n none a (shapeCast S1024x2048 wh shapeCasts_S1024x2048_S1024x2048)
        (constant S512x2048 .f32 0x00000000#32)))
    (mulf (logistic (extf .f32 gb bitsLt_bf16_f32))
      (matmul dot_S512x512_S512x2048_S512x2048_1_0_0_1_n_n none b (shapeCast S512x2048 wa shapeCasts_S512x2048_S512x2048)
        (constant S512x2048 .f32 0x00000000#32)))) bitsLt_bf16_f32

theorem mrg_apply (b : FVec Ideal S512x512 .bf16) (a : FVec Ideal S512x1024 .bf16) (wh : FVec Ideal S1024x2048 .bf16)
    (wa ga gb : FVec Ideal S512x2048 .bf16) (r : Fin 512) (d : Fin 2048) :
    (mrg b a wh wa ga gb (ix2 r d) : EReal) = Ideal.logistic (ga (ix2 r d)) * (∑ k : Fin 1024, a (ix2 r k) * wh (ix2 k d))
      + Ideal.logistic (gb (ix2 r d)) * (∑ k : Fin 512, b (ix2 r k) * wa (ix2 k d)) := by
  pointwise [mrg]

/-- The last product. -/
theorem pay18_apply (v34 v53 v72 v85 : FVec Ideal S512x128 .f32) (v86 : FVec Ideal S512x1 .f32) (v87 : FVec Ideal S512x128 .bf16)
    (a : FVec Ideal S512x1024 .bf16) (wh : FVec Ideal S1024x2048 .bf16) (wa ga gb : FVec Ideal S512x2048 .bf16)
    (wo : FVec Ideal S2048x2048 .bf16) (r : Fin 512) (d : Fin 2048) :
    k0_pay18 (F := Ideal) v34 v53 v72 v85 v86 v87 a wh wa ga gb wo (ix2 r d)
      = ∑ k : Fin 2048, (mrg (four v34 v53 v72 (last v85 v86 v87)) a wh wa ga gb (ix2 r k) : EReal) * wo (ix2 k d) := by
  refine (congrFun (show k0_pay18 (F := Ideal) v34 v53 v72 v85 v86 v87 a wh wa ga gb wo
    = matmul dot_S512x2048_S2048x2048_S512x2048_1_0_0_1_n_n none (mrg (four v34 v53 v72 (last v85 v86 v87)) a wh wa ga gb)
      (shapeCast S2048x2048 wo shapeCasts_S2048x2048_S2048x2048) (constant S512x2048 .f32 0x00000000#32) from rfl) _).trans ?_
  pointwise []

/-- The token plus a normalised vector. -/
theorem pay1_apply (v : FVec Ideal S512x2048 .f32) (x : FVec Ideal S512x2048 .f32) (g : FVec Ideal S1x2048 .f32) (s : FVec Ideal S512x1 .f32)
    (r : Fin 512) (d : Fin 2048) (V G : ℕ → EReal)
    (hV : ∀ k : Fin 2048, v (ix2 r k) = V k.val) (hG : g (ix2 0 d) = G d.val)
    (hs : s (ix2 r 0) = Ideal.div (∑ k : Fin 2048, V k.val * V k.val) (Ideal.ofBits .f32 0x45000000#32) + Ideal.ofBits .f32 0x358637BD#32) :
    k0_pay1 (F := Ideal) v x g s (ix2 r d) = x (ix2 r d) + rms V G d.val := by
  pointwise [k0_pay1]
  simp only [hV, hG, hs]
  rfl

/-- The mean square of the last product. -/
theorem pay19_apply (v34 v53 v72 v85 : FVec Ideal S512x128 .f32) (v86 : FVec Ideal S512x1 .f32) (v87 : FVec Ideal S512x128 .bf16)
    (a : FVec Ideal S512x1024 .bf16) (wh : FVec Ideal S1024x2048 .bf16) (wa ga gb : FVec Ideal S512x2048 .bf16)
    (wo : FVec Ideal S2048x2048 .bf16) (r : Fin 512) (V : ℕ → EReal)
    (hV : ∀ k : Fin 2048, k0_pay18 (F := Ideal) v34 v53 v72 v85 v86 v87 a wh wa ga gb wo (ix2 r k) = V k.val) :
    k0_pay19 (F := Ideal) v34 v53 v72 v85 v86 v87 a wh wa ga gb wo (ix2 r 0)
      = Ideal.div (∑ k : Fin 2048, V k.val * V k.val) (Ideal.ofBits .f32 0x45000000#32) + Ideal.ofBits .f32 0x358637BD#32 := by
  pointwise [k0_pay19]
  simp only [hV]
  try rfl

/-- The sum, normalised. -/
theorem pay2_apply (v : FVec Ideal S512x2048 .f32) (x : FVec Ideal S512x2048 .f32) (g g' : FVec Ideal S1x2048 .f32) (s : FVec Ideal S512x1 .f32)
    (r : Fin 512) (d : Fin 2048) (V G : ℕ → EReal)
    (hV : ∀ k : Fin 2048, k0_pay1 (F := Ideal) v x g s (ix2 r k) = V k.val) (hG : g' (ix2 0 d) = G d.val) :
    (k0_pay2 (F := Ideal) v x g s g' (ix2 r d) : EReal) = rms V G d.val := by
  pointwise [k0_pay2]
  simp only [hV, hG]
  rfl

end Cert.Merge
-- ==== Proof.MergeBlock.lean ====
/-
One step of the merging call from what its blocks hold.
-/
module
public import proofs.«01_k».proof.Proof.MergePay
public import Idealize.ShloMosaic.Lib.Pipeline.ValueKit

@[expose] public section

set_option maxRecDepth 16384
noncomputable section

open Idealize.ShloMosaic Idealize.ShloMosaic.TcCoe

namespace Cert.Merge
open Cert.Kernel7Ideal Cert.Kernel7Ideal.Gen
open Cert.Ffn (rms proj)

/-- Reading a whole block of logits. -/
theorem ld_lse (x : Vec Ideal S512x128 .f32) (r : Fin 512) (l : Fin 128) : View.ld x r0_0 (ix2 r l) = x (ix2 r l) :=
  congrArg x (funext (Fin.forall_fin_two.2 ⟨Fin.ext (by rw [Rect.idx_unit_val]; simp), Fin.ext (by rw [Rect.idx_unit_val]; simp)⟩))

/-- Reading the columns of head 0. -/
theorem ld_head0 (x : Vec Ideal S512x512 .bf16) (r : Fin 512) (l : Fin 128) :
    View.ld x r0_1 (ix2 r l) = x (ix2 r (⟨0 + l.val, by omega⟩ : Fin 512)) :=
  congrArg x (funext (Fin.forall_fin_two.2 ⟨Fin.ext (by rw [Rect.idx_unit_val]; simp), Fin.ext (by rw [Rect.idx_unit_val]; simp)⟩))

/-- Reading the columns of head 1. -/
theorem ld_head1 (x : Vec Ideal S512x512 .bf16) (r : Fin 512) (l : Fin 128) :
    View.ld x r0_2 (ix2 r l) = x (ix2 r (⟨128 + l.val, by omega⟩ : Fin 512)) :=
  congrArg x (funext (Fin.forall_fin_two.2 ⟨Fin.ext (by rw [Rect.idx_unit_val]; simp), Fin.ext (by rw [Rect.idx_unit_val]; simp)⟩))

/-- Reading the columns of head 2. -/
theorem ld_head2 (x : Vec Ideal S512x512 .bf16) (r : Fin 512) (l : Fin 128) :
    View.ld x r0_3 (ix2 r l) = x (ix2 r (⟨256 + l.val, by omega⟩ : Fin 512)) :=
  congrArg x (funext (Fin.forall_fin_two.2 ⟨Fin.ext (by rw [Rect.idx_unit_val]; simp), Fin.ext (by rw [Rect.idx_unit_val]; simp)⟩))

/-- Reading the columns of head 3. -/
theorem ld_head3 (x : Vec Ideal S512x512 .bf16) (r : Fin 512) (l : Fin 128) :
    View.ld x r0_4 (ix2 r l) = x (ix2 r (⟨384 + l.val, by omega⟩ : Fin 512)) :=
  congrArg x (funext (Fin.forall_fin_two.2 ⟨Fin.ext (by rw [Rect.idx_unit_val]; simp), Fin.ext (by rw [Rect.idx_unit_val]; simp)⟩))

/-- Reading other blocks whole. -/
theorem ld_a (x : Vec Ideal S512x1024 .bf16) : View.ld x r0_5 = x :=
  funext fun i => congrArg x (funext (Fin.forall_fin_two.2 ⟨Fin.ext (by rw [Rect.idx_unit_val]; simp), Fin.ext (by rw [Rect.idx_unit_val]; simp)⟩))

theorem ld_wh (x : Vec Ideal S1024x2048 .bf16) : View.ld x r0_6 = x :=
  funext fun i => congrArg x (funext (Fin.forall_fin_two.2 ⟨Fin.ext (by rw [Rect.idx_unit_val]; simp), Fin.ext (by rw [Rect.idx_unit_val]; simp)⟩))

theorem ld_row {φ : EltTy} (x : Vec Ideal S512x2048 φ) : View.ld x r0_7 = x :=
  funext fun i => congrArg x (funext (Fin.forall_fin_two.2 ⟨Fin.ext (by rw [Rect.idx_unit_val]; simp), Fin.ext (by rw [Rect.idx_unit_val]; simp)⟩))

theorem ld_wo (x : Vec Ideal S2048x2048 .bf16) : View.ld x r0_8 = x :=
  funext fun i => congrArg x (funext (Fin.forall_fin_two.2 ⟨Fin.ext (by rw [Rect.idx_unit_val]; simp), Fin.ext (by rw [Rect.idx_unit_val]; simp)⟩))

/-- A head's block of features is the weighed outputs' features of the head. -/
theorem head_att (h : Fin 128) (w0 w1 w2 : FVec Ideal S512x128 .f32) (o0 o1 o2 : FVec Ideal S512x128 .bf16) (r : Fin 512) (l : Fin 128)
    (O0 O1 O2 L0 L1 L2 : ℕ → EReal) (n : ℕ) (hn : n / 128 = h.val)
    (hw0 : w0 (ix2 r h) = share (L0 h.val) (L0 h.val) (L1 h.val) (L2 h.val))
    (hw1 : w1 (ix2 r h) = share (L1 h.val) (L0 h.val) (L1 h.val) (L2 h.val))
    (hw2 : w2 (ix2 r h) = share (L2 h.val) (L0 h.val) (L1 h.val) (L2 h.val))
    (h0 : o0 (ix2 r l) = O0 n) (h1 : o1 (ix2 r l) = O1 n) (h2 : o2 (ix2 r l) = O2 n) :
    head h w0 w1 w2 o0 o1 o2 r l = att O0 O1 O2 L0 L1 L2 n := by
  unfold head att
  rw [hn, hw0, hw1, hw2, h0, h1, h2]

/-- The shares of a row. -/
theorem pay20_spec (x0 : Vec Ideal S512x2048 .f32) (x1 : Vec Ideal S512x1024 .bf16) (x2 x3 x4 : Vec Ideal S512x512 .bf16)
    (x5 x6 x7 : Vec Ideal S512x128 .f32) (x8 x9 : Vec Ideal S512x2048 .bf16) (x10 x11 : Vec Ideal S1x2048 .f32)
    (x12 : Vec Ideal S1024x2048 .bf16) (x13 : Vec Ideal S512x2048 .bf16) (x14 : Vec Ideal S2048x2048 .bf16)
    (r : Fin 512) (L0 L1 L2 : ℕ → EReal)
    (h5 : ∀ l : Fin 128, x5 (ix2 r l) = L0 l.val) (h6 : ∀ l : Fin 128, x6 (ix2 r l) = L1 l.val) (h7 : ∀ l : Fin 128, x7 (ix2 r l) = L2 l.val)
    (h : Fin 128) :
    k0_pay20 (F := Ideal) x0 x1 x2 x3 x4 x5 x6 x7 x8 x9 x10 x11 x12 x13 x14 (ix2 r h) = share (L0 h.val) (L0 h.val) (L1 h.val) (L2 h.val) := by
  refine (pay8_apply (View.ld x5 r0_0) (View.ld x6 r0_0) (View.ld x7 r0_0) r h).trans ?_
  rw [ld_lse x5, ld_lse x6, ld_lse x7, h5, h6, h7]

/-- The shares of a row. -/
theorem pay21_spec (x0 : Vec Ideal S512x2048 .f32) (x1 : Vec Ideal S512x1024 .bf16) (x2 x3 x4 : Vec Ideal S512x512 .bf16)
    (x5 x6 x7 : Vec Ideal S512x128 .f32) (x8 x9 : Vec Ideal S512x2048 .bf16) (x10 x11 : Vec Ideal S1x2048 .f32)
    (x12 : Vec Ideal S1024x2048 .bf16) (x13 : Vec Ideal S512x2048 .bf16) (x14 : Vec Ideal S2048x2048 .bf16)
    (r : Fin 512) (L0 L1 L2 : ℕ → EReal)
    (h5 : ∀ l : Fin 128, x5 (ix2 r l) = L0 l.val) (h6 : ∀ l : Fin 128, x6 (ix2 r l) = L1 l.val) (h7 : ∀ l : Fin 128, x7 (ix2 r l) = L2 l.val)
    (h : Fin 128) :
    k0_pay21 (F := Ideal) x0 x1 x2 x3 x4 x5 x6 x7 x8 x9 x10 x11 x12 x13 x14 (ix2 r h) = share (L1 h.val) (L0 h.val) (L1 h.val) (L2 h.val) := by
  refine (pay9_apply (View.ld x5 r0_0) (View.ld x6 r0_0) (View.ld x7 r0_0) r h).trans ?_
  rw [ld_lse x5, ld_lse x6, ld_lse x7, h5, h6, h7]

/-- The shares of a row. -/
theorem pay22_spec (x0 : Vec Ideal S512x2048 .f32) (x1 : Vec Ideal S512x1024 .bf16) (x2 x3 x4 : Vec Ideal S512x512 .bf16)
    (x5 x6 x7 : Vec Ideal S512x128 .f32) (x8 x9 : Vec Ideal S512x2048 .bf16) (x10 x11 : Vec Ideal S1x2048 .f32)
    (x12 : Vec Ideal S1024x2048 .bf16) (x13 : Vec Ideal S512x2048 .bf16) (x14 : Vec Ideal S2048x2048 .bf16)
    (r : Fin 512) (L0 L1 L2 : ℕ → EReal)
    (h5 : ∀ l : Fin 128, x5 (ix2 r l) = L0 l.val) (h6 : ∀ l : Fin 128, x6 (ix2 r l) = L1 l.val) (h7 : ∀ l : Fin 128, x7 (ix2 r l) = L2 l.val)
    (h : Fin 128) :
    k0_pay22 (F := Ideal) x0 x1 x2 x3 x4 x5 x6 x7 x8 x9 x10 x11 x12 x13 x14 (ix2 r h) = share (L2 h.val) (L0 h.val) (L1 h.val) (L2 h.val) := by
  refine (pay10_apply (View.ld x5 r0_0) (View.ld x6 r0_0) (View.ld x7 r0_0) r h).trans ?_
  rw [ld_lse x5, ld_lse x6, ld_lse x7, h5, h6, h7]

/-- The weighed outputs of a row, as the product reads them. -/
theorem heads_spec (x0 : Vec Ideal S512x2048 .f32) (x1 : Vec Ideal S512x1024 .bf16) (x2 x3 x4 : Vec Ideal S512x512 .bf16)
    (x5 x6 x7 : Vec Ideal S512x128 .f32) (x8 x9 : Vec Ideal S512x2048 .bf16) (x10 x11 : Vec Ideal S1x2048 .f32)
    (x12 : Vec Ideal S1024x2048 .bf16) (x13 : Vec Ideal S512x2048 .bf16) (x14 : Vec Ideal S2048x2048 .bf16)
    (r : Fin 512) (O0 O1 O2 L0 L1 L2 : ℕ → EReal)
    (h2 : ∀ f : Fin 512, x2 (ix2 r f) = O0 f.val) (h3 : ∀ f : Fin 512, x3 (ix2 r f) = O1 f.val) (h4 : ∀ f : Fin 512, x4 (ix2 r f) = O2 f.val)
    (h5 : ∀ l : Fin 128, x5 (ix2 r l) = L0 l.val) (h6 : ∀ l : Fin 128, x6 (ix2 r l) = L1 l.val) (h7 : ∀ l : Fin 128, x7 (ix2 r l) = L2 l.val)
    (f : Fin 512) :
    (four (k0_pay23 (F := Ideal) x0 x1 x2 x3 x4 x5 x6 x7 x8 x9 x10 x11 x12 x13 x14) (k0_pay24 x0 x1 x2 x3 x4 x5 x6 x7 x8 x9 x10 x11 x12 x13 x14)
      (k0_pay25 x0 x1 x2 x3 x4 x5 x6 x7 x8 x9 x10 x11 x12 x13 x14)
      (last (k0_pay26 x0 x1 x2 x3 x4 x5 x6 x7 x8 x9 x10 x11 x12 x13 x14) (k0_pay27 x0 x1 x2 x3 x4 x5 x6 x7 x8 x9 x10 x11 x12 x13 x14) (View.ld x4 r0_4)) (ix2 r f) : EReal)
      = att O0 O1 O2 L0 L1 L2 f.val := by
  have w0 := pay20_spec x0 x1 x2 x3 x4 x5 x6 x7 x8 x9 x10 x11 x12 x13 x14 r L0 L1 L2 h5 h6 h7
  have w1 := pay21_spec x0 x1 x2 x3 x4 x5 x6 x7 x8 x9 x10 x11 x12 x13 x14 r L0 L1 L2 h5 h6 h7
  have w2 := pay22_spec x0 x1 x2 x3 x4 x5 x6 x7 x8 x9 x10 x11 x12 x13 x14 r L0 L1 L2 h5 h6 h7
  refine four_apply _ _ _ _ r f (att O0 O1 O2 L0 L1 L2) (fun l => ?_) (fun l => ?_) (fun l => ?_) (fun l => ?_)
  · refine (pay11_apply (View.ld x5 r0_0) (View.ld x6 r0_0) (View.ld x7 r0_0) (View.ld x2 r0_1) (View.ld x3 r0_1) (View.ld x4 r0_1) r l).trans ?_
    refine head_att 0 _ _ _ _ _ _ r l O0 O1 O2 L0 L1 L2 l.val (by simp) (w0 0) (w1 0) (w2 0) ?_ ?_ ?_
    · rw [ld_head0 x2, h2]; simp
    · rw [ld_head0 x3, h3]; simp
    · rw [ld_head0 x4, h4]; simp
  · refine (pay14_apply (View.ld x5 r0_0) (View.ld x6 r0_0) (View.ld x7 r0_0) (View.ld x2 r0_2) (View.ld x3 r0_2) (View.ld x4 r0_2) r l).trans ?_
    refine head_att 1 _ _ _ _ _ _ r l O0 O1 O2 L0 L1 L2 (128 + l.val) (by show _ = 1; omega) (w0 1) (w1 1) (w2 1) ?_ ?_ ?_
    · rw [ld_head1 x2, h2]
    · rw [ld_head1 x3, h3]
    · rw [ld_head1 x4, h4]
  · refine (pay15_apply _ _ _ (View.ld x2 r0_3) (View.ld x3 r0_3) (View.ld x4 r0_3) r l).trans ?_
    refine head_att 2 _ _ _ _ _ _ r l O0 O1 O2 L0 L1 L2 (256 + l.val) (by show _ = 2; omega) (w0 2) (w1 2) (w2 2) ?_ ?_ ?_
    · rw [ld_head2 x2, h2]
    · rw [ld_head2 x3, h3]
    · rw [ld_head2 x4, h4]
  · refine (last_apply _ _ _ (View.ld x2 r0_4) (View.ld x3 r0_4) (View.ld x4 r0_4) r l).trans ?_
    refine head_att 3 _ _ _ _ _ _ r l O0 O1 O2 L0 L1 L2 (384 + l.val) (by show _ = 3; omega) (w0 3) (w1 3) (w2 3) ?_ ?_ ?_
    · rw [ld_head3 x2, h2]
    · rw [ld_head3 x3, h3]
    · rw [ld_head3 x4, h4]

/-- The last product of a row. -/
theorem pay28_spec (x0 : Vec Ideal S512x2048 .f32) (x1 : Vec Ideal S512x1024 .bf16) (x2 x3 x4 : Vec Ideal S512x512 .bf16)
    (x5 x6 x7 : Vec Ideal S512x128 .f32) (x8 x9 : Vec Ideal S512x2048 .bf16) (x10 x11 : Vec Ideal S1x2048 .f32)
    (x12 : Vec Ideal S1024x2048 .bf16) (x13 : Vec Ideal S512x2048 .bf16) (x14 : Vec Ideal S2048x2048 .bf16)
    (r : Fin 512) (A O0 O1 O2 L0 L1 L2 G : ℕ → EReal) (WH WA WO : ℕ → ℕ → EReal)
    (h1 : ∀ k : Fin 1024, x1 (ix2 r k) = A k.val)
    (h2 : ∀ f : Fin 512, x2 (ix2 r f) = O0 f.val) (h3 : ∀ f : Fin 512, x3 (ix2 r f) = O1 f.val) (h4 : ∀ f : Fin 512, x4 (ix2 r f) = O2 f.val)
    (h5 : ∀ l : Fin 128, x5 (ix2 r l) = L0 l.val) (h6 : ∀ l : Fin 128, x6 (ix2 r l) = L1 l.val) (h7 : ∀ l : Fin 128, x7 (ix2 r l) = L2 l.val)
    (h8 : ∀ d : Fin 2048, x8 (ix2 r d) = G d.val) (h9 : ∀ d : Fin 2048, x9 (ix2 r d) = G (2048 + d.val))
    (h12 : ∀ (k : Fin 1024) (d : Fin 2048), x12 (ix2 k d) = WH k.val d.val)
    (h13 : ∀ (k : Fin 512) (d : Fin 2048), x13 (ix2 k d) = WA k.val d.val)
    (h14 : ∀ (k : Fin 2048) (d : Fin 2048), x14 (ix2 k d) = WO k.val d.val) (d : Fin 2048) :
    k0_pay28 (F := Ideal) x0 x1 x2 x3 x4 x5 x6 x7 x8 x9 x10 x11 x12 x13 x14 (ix2 r d)
      = proj (merged A (att O0 O1 O2 L0 L1 L2) G WH WA) WO d.val := by
  unfold k0_pay28
  rw [ld_a x1, ld_wh x12, ld_row x13, ld_row x8, ld_row x9, ld_wo x14]
  refine (pay18_apply _ _ _ _ _ (View.ld x4 r0_4) x1 x12 x13 x8 x9 x14 r d).trans ?_
  refine Finset.sum_congr rfl fun k _ => congrArg₂ (· * ·) ?_ (h14 k d)
  refine (mrg_apply _ x1 x12 x13 x8 x9 r k).trans ?_
  unfold merged
  rw [h8, h9]
  refine congrArg₂ (· + ·) (congrArg _ (Finset.sum_congr rfl fun j _ => ?_)) (congrArg _ (Finset.sum_congr rfl fun j _ => ?_))
  · rw [h1, h12]
  · rw [h13]
    exact congrArg (· * _) (heads_spec x0 x1 x2 x3 x4 x5 x6 x7 x8 x9 x10 x11 x12 x13 x14 r O0 O1 O2 L0 L1 L2 h2 h3 h4 h5 h6 h7 j)

/-- Its mean square. -/
theorem pay29_spec (x0 : Vec Ideal S512x2048 .f32) (x1 : Vec Ideal S512x1024 .bf16) (x2 x3 x4 : Vec Ideal S512x512 .bf16)
    (x5 x6 x7 : Vec Ideal S512x128 .f32) (x8 x9 : Vec Ideal S512x2048 .bf16) (x10 x11 : Vec Ideal S1x2048 .f32)
    (x12 : Vec Ideal S1024x2048 .bf16) (x13 : Vec Ideal S512x2048 .bf16) (x14 : Vec Ideal S2048x2048 .bf16)
    (r : Fin 512) (V : ℕ → EReal) (hV : ∀ k : Fin 2048, k0_pay28 (F := Ideal) x0 x1 x2 x3 x4 x5 x6 x7 x8 x9 x10 x11 x12 x13 x14 (ix2 r k) = V k.val) :
    k0_pay29 (F := Ideal) x0 x1 x2 x3 x4 x5 x6 x7 x8 x9 x10 x11 x12 x13 x14 (ix2 r 0)
      = Ideal.div (∑ k : Fin 2048, V k.val * V k.val) (Ideal.ofBits .f32 0x45000000#32) + Ideal.ofBits .f32 0x358637BD#32 := by
  unfold k0_pay28 at hV
  unfold k0_pay29
  exact pay19_apply _ _ _ _ _ (View.ld x4 r0_4) (View.ld x1 r0_5) (View.ld x12 r0_6) (View.ld x13 r0_7) (View.ld x8 r0_7) (View.ld x9 r0_7)
    (View.ld x14 r0_8) r V hV

/-- The first result's row. -/
theorem tok_spec (x0 : Vec Ideal S512x2048 .f32) (x1 : Vec Ideal S512x1024 .bf16) (x2 x3 x4 : Vec Ideal S512x512 .bf16)
    (x5 x6 x7 : Vec Ideal S512x128 .f32) (x8 x9 : Vec Ideal S512x2048 .bf16) (x10 x11 : Vec Ideal S1x2048 .f32)
    (x12 : Vec Ideal S1024x2048 .bf16) (x13 : Vec Ideal S512x2048 .bf16) (x14 : Vec Ideal S2048x2048 .bf16)
    (r : Fin 512) (A O0 O1 O2 L0 L1 L2 G : ℕ → EReal) (WH WA WO : ℕ → ℕ → EReal)
    (h1 : ∀ k : Fin 1024, x1 (ix2 r k) = A k.val)
    (h2 : ∀ f : Fin 512, x2 (ix2 r f) = O0 f.val) (h3 : ∀ f : Fin 512, x3 (ix2 r f) = O1 f.val) (h4 : ∀ f : Fin 512, x4 (ix2 r f) = O2 f.val)
    (h5 : ∀ l : Fin 128, x5 (ix2 r l) = L0 l.val) (h6 : ∀ l : Fin 128, x6 (ix2 r l) = L1 l.val) (h7 : ∀ l : Fin 128, x7 (ix2 r l) = L2 l.val)
    (h8 : ∀ d : Fin 2048, x8 (ix2 r d) = G d.val) (h9 : ∀ d : Fin 2048, x9 (ix2 r d) = G (2048 + d.val))
    (h12 : ∀ (k : Fin 1024) (d : Fin 2048), x12 (ix2 k d) = WH k.val d.val)
    (h13 : ∀ (k : Fin 512) (d : Fin 2048), x13 (ix2 k d) = WA k.val d.val)
    (h14 : ∀ (k : Fin 2048) (d : Fin 2048), x14 (ix2 k d) = WO k.val d.val) (X P : ℕ → EReal)
    (h0 : ∀ d : Fin 2048, x0 (ix2 r d) = X d.val) (h10 : ∀ d : Fin 2048, x10 (ix2 0 d) = P d.val) (d : Fin 2048) :
    k0_pay1 (F := Ideal) (k0_pay28 x0 x1 x2 x3 x4 x5 x6 x7 x8 x9 x10 x11 x12 x13 x14) x0 x10 (k0_pay29 x0 x1 x2 x3 x4 x5 x6 x7 x8 x9 x10 x11 x12 x13 x14) (ix2 r d)
      = tok X A (att O0 O1 O2 L0 L1 L2) G WH WA WO P d.val := by
  have hV := pay28_spec x0 x1 x2 x3 x4 x5 x6 x7 x8 x9 x10 x11 x12 x13 x14 r A O0 O1 O2 L0 L1 L2 G WH WA WO h1 h2 h3 h4 h5 h6 h7 h8 h9 h12 h13 h14
  refine (pay1_apply _ x0 x10 _ r d _ P hV (h10 d) (pay29_spec x0 x1 x2 x3 x4 x5 x6 x7 x8 x9 x10 x11 x12 x13 x14 r _ hV)).trans ?_
  rw [h0]
  rfl

/-- The second result's row. -/
theorem nrm_spec (x0 : Vec Ideal S512x2048 .f32) (x1 : Vec Ideal S512x1024 .bf16) (x2 x3 x4 : Vec Ideal S512x512 .bf16)
    (x5 x6 x7 : Vec Ideal S512x128 .f32) (x8 x9 : Vec Ideal S512x2048 .bf16) (x10 x11 : Vec Ideal S1x2048 .f32)
    (x12 : Vec Ideal S1024x2048 .bf16) (x13 : Vec Ideal S512x2048 .bf16) (x14 : Vec Ideal S2048x2048 .bf16)
    (r : Fin 512) (A O0 O1 O2 L0 L1 L2 G : ℕ → EReal) (WH WA WO : ℕ → ℕ → EReal)
    (h1 : ∀ k : Fin 1024, x1 (ix2 r k) = A k.val)
    (h2 : ∀ f : Fin 512, x2 (ix2 r f) = O0 f.val) (h3 : ∀ f : Fin 512, x3 (ix2 r f) = O1 f.val) (h4 : ∀ f : Fin 512, x4 (ix2 r f) = O2 f.val)
    (h5 : ∀ l : Fin 128, x5 (ix2 r l) = L0 l.val) (h6 : ∀ l : Fin 128, x6 (ix2 r l) = L1 l.val) (h7 : ∀ l : Fin 128, x7 (ix2 r l) = L2 l.val)
    (h8 : ∀ d : Fin 2048, x8 (ix2 r d) = G d.val) (h9 : ∀ d : Fin 2048, x9 (ix2 r d) = G (2048 + d.val))
    (h12 : ∀ (k : Fin 1024) (d : Fin 2048), x12 (ix2 k d) = WH k.val d.val)
    (h13 : ∀ (k : Fin 512) (d : Fin 2048), x13 (ix2 k d) = WA k.val d.val)
    (h14 : ∀ (k : Fin 2048) (d : Fin 2048), x14 (ix2 k d) = WO k.val d.val) (X P Q : ℕ → EReal)
    (h0 : ∀ d : Fin 2048, x0 (ix2 r d) = X d.val) (h10 : ∀ d : Fin 2048, x10 (ix2 0 d) = P d.val)
    (h11 : ∀ d : Fin 2048, x11 (ix2 0 d) = Q d.val) (d : Fin 2048) :
    (k0_pay2 (F := Ideal) (k0_pay28 x0 x1 x2 x3 x4 x5 x6 x7 x8 x9 x10 x11 x12 x13 x14) x0 x10 (k0_pay29 x0 x1 x2 x3 x4 x5 x6 x7 x8 x9 x10 x11 x12 x13 x14) x11 (ix2 r d) : EReal)
      = rms (tok X A (att O0 O1 O2 L0 L1 L2) G WH WA WO P) Q d.val :=
  pay2_apply _ x0 x10 x11 _ r d _ Q (tok_spec x0 x1 x2 x3 x4 x5 x6 x7 x8 x9 x10 x11 x12 x13 x14 r A O0 O1 O2 L0 L1 L2 G WH WA WO h1 h2 h3 h4 h5 h6 h7 h8 h9 h12 h13 h14 X P h0 h10) (h11 d)

/-- What a grid point leaves in its block of the first result. -/
theorem out15_eq (x0 : Vec Ideal S512x2048 .f32) (x1 : Vec Ideal S512x1024 .bf16) (x2 x3 x4 : Vec Ideal S512x512 .bf16)
    (x5 x6 x7 : Vec Ideal S512x128 .f32) (x8 x9 : Vec Ideal S512x2048 .bf16) (x10 x11 : Vec Ideal S1x2048 .f32)
    (x12 : Vec Ideal S1024x2048 .bf16) (x13 : Vec Ideal S512x2048 .bf16) (x14 : Vec Ideal S2048x2048 .bf16) :
    out0_15 (F := Ideal) x0 x1 x2 x3 x4 x5 x6 x7 x8 x9 x10 x11 x12 x13 x14 = k0_pay1 (k0_pay28 x0 x1 x2 x3 x4 x5 x6 x7 x8 x9 x10 x11 x12 x13 x14) x0 x10 (k0_pay29 x0 x1 x2 x3 x4 x5 x6 x7 x8 x9 x10 x11 x12 x13 x14) := by
  unfold out0_15
  frame_out

/-- What it leaves in its block of the second. -/
theorem out16_eq (x0 : Vec Ideal S512x2048 .f32) (x1 : Vec Ideal S512x1024 .bf16) (x2 x3 x4 : Vec Ideal S512x512 .bf16)
    (x5 x6 x7 : Vec Ideal S512x128 .f32) (x8 x9 : Vec Ideal S512x2048 .bf16) (x10 x11 : Vec Ideal S1x2048 .f32)
    (x12 : Vec Ideal S1024x2048 .bf16) (x13 : Vec Ideal S512x2048 .bf16) (x14 : Vec Ideal S2048x2048 .bf16) :
    out0_16 (F := Ideal) x0 x1 x2 x3 x4 x5 x6 x7 x8 x9 x10 x11 x12 x13 x14 = k0_pay2 (k0_pay28 x0 x1 x2 x3 x4 x5 x6 x7 x8 x9 x10 x11 x12 x13 x14) x0 x10 (k0_pay29 x0 x1 x2 x3 x4 x5 x6 x7 x8 x9 x10 x11 x12 x13 x14) x11 := by
  unfold out0_16
  frame_out

end Cert.Merge
-- ==== Proof.MergeValue.lean ====
/-
The merging call's two result arrays.
-/
module
public import proofs.«01_k».proof.Proof.MergeBlock
public import proofs.«01_k».proof.Proof.Coord

@[expose] public section

set_option maxRecDepth 16384
noncomputable section

open Idealize.ShloMosaic Idealize.ShloMosaic.TcCoe Idealize.SL.Sem
open Idealize.ShloMosaic.Pipeline (Dat)

namespace Cert.Merge
open Cert.Kernel7Ideal Cert.Kernel7Ideal.Gen
open Cert.Attn (at2 at2_eq at2_ix)
open Cert.Ffn (rms proj)

/-- The block of each window at each grid point. -/
theorem idx : ∀ t : Fin cfg0.N,
    win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0]
    ∧ win0_8.index t = ![t.val, 0] ∧ win0_9.index t = ![t.val, 1] ∧ win0_10.index t = ![0, 0] ∧ win0_11.index t = ![0, 0]
    ∧ win0_12.index t = ![0, 0] ∧ win0_13.index t = ![0, 0] ∧ win0_14.index t = ![0, 0]
    ∧ win0_15.index t = ![t.val, 0] ∧ win0_16.index t = ![t.val, 0] :=
  (by decide +kernel : ∀ t : Fin grid0.N, _)

variable (m : (ℓ : Loc nD τ sig) → Buf (Elt Ideal) ℓ)

/-- The tokens. -/
def arrX (c : Dev nD) : FVec Ideal S32768x2048 .f32 := m ((c.tc : Thread nD τ).loc main_arg0)

/-- The convolution branch. -/
def arrA (c : Dev nD) : FVec Ideal S32768x1024 .bf16 := m ((c.tc : Thread nD τ).loc main_arg1)

/-- The first window's outputs. -/
def arrO0 (c : Dev nD) : FVec Ideal S32768x512 .bf16 := m ((c.tc : Thread nD τ).loc main_arg2)

/-- The second window's outputs. -/
def arrO1 (c : Dev nD) : FVec Ideal S32768x512 .bf16 := m ((c.tc : Thread nD τ).loc main_arg3)

/-- The third window's outputs. -/
def arrO2 (c : Dev nD) : FVec Ideal S32768x512 .bf16 := m ((c.tc : Thread nD τ).loc main_arg4)

/-- The first window's logarithms. -/
def arrL0 (c : Dev nD) : FVec Ideal S32768x128 .f32 := m ((c.tc : Thread nD τ).loc main_arg5)

/-- The second window's logarithms. -/
def arrL1 (c : Dev nD) : FVec Ideal S32768x128 .f32 := m ((c.tc : Thread nD τ).loc main_arg6)

/-- The third window's logarithms. -/
def arrL2 (c : Dev nD) : FVec Ideal S32768x128 .f32 := m ((c.tc : Thread nD τ).loc main_arg7)

/-- The gates. -/
def arrG (c : Dev nD) : FVec Ideal S32768x4096 .bf16 := m ((c.tc : Thread nD τ).loc main_arg8)

/-- The gain after the product. -/
def arrP (c : Dev nD) : FVec Ideal S1x2048 .f32 := m ((c.tc : Thread nD τ).loc main_arg9)

/-- The next block's gain. -/
def arrQ (c : Dev nD) : FVec Ideal S1x2048 .f32 := m ((c.tc : Thread nD τ).loc main_arg10)

/-- The convolution branch's projection. -/
def arrWh (c : Dev nD) : FVec Ideal S1024x2048 .f32 :=
  shapeCast S1024x2048 (m ((c.tc : Thread nD τ).loc main_arg11)) shapeCasts_S1x1024x2048_S1024x2048

/-- It at the launch of the call. -/
theorem V_wh (c : Dev nD) : V m c main_v1 = truncf .bf16 (arrWh m c) bitsLt_bf16_f32 := by
  unfold V
  after_results
  try rfl

/-- The attention branch's projection. -/
def arrWa (c : Dev nD) : FVec Ideal S512x2048 .f32 :=
  shapeCast S512x2048 (m ((c.tc : Thread nD τ).loc main_arg12)) shapeCasts_S1x512x2048_S512x2048

/-- It at the launch of the call. -/
theorem V_wa (c : Dev nD) : V m c main_v3 = truncf .bf16 (arrWa m c) bitsLt_bf16_f32 := by
  unfold V
  after_results
  try rfl

/-- The last weight matrix. -/
def arrWo (c : Dev nD) : FVec Ideal S2048x2048 .f32 :=
  shapeCast S2048x2048 (m ((c.tc : Thread nD τ).loc main_arg13)) shapeCasts_S1x2048x2048_S2048x2048

/-- It at the launch of the call. -/
theorem V_wo (c : Dev nD) : V m c main_v5 = truncf .bf16 (arrWo m c) bitsLt_bf16_f32 := by
  unfold V
  after_results
  try rfl

theorem iblk0 (c : Dev nD) (t : Fin cfg0.N) (y : S512x2048.Idx) :
    iblk m c 0 t y = at2 (arrX m c) (t.val * 512 + (y 0).val) (y 1).val := by
  refine (show iblk m c 0 t y = arrX m c ((win0_0.blk t).view.emb y) from rfl).trans (at2_eq _ _ _ _ ?_ ?_)
  · blk_simp [idx t]
  · blk_simp [idx t]

theorem iblk1 (c : Dev nD) (t : Fin cfg0.N) (y : S512x1024.Idx) :
    iblk m c 1 t y = at2 (arrA m c) (t.val * 512 + (y 0).val) (y 1).val := by
  refine (show iblk m c 1 t y = arrA m c ((win0_1.blk t).view.emb y) from rfl).trans (at2_eq _ _ _ _ ?_ ?_)
  · blk_simp [idx t]
  · blk_simp [idx t]

theorem iblk2 (c : Dev nD) (t : Fin cfg0.N) (y : S512x512.Idx) :
    iblk m c 2 t y = at2 (arrO0 m c) (t.val * 512 + (y 0).val) (y 1).val := by
  refine (show iblk m c 2 t y = arrO0 m c ((win0_2.blk t).view.emb y) from rfl).trans (at2_eq _ _ _ _ ?_ ?_)
  · blk_simp [idx t]
  · blk_simp [idx t]

theorem iblk3 (c : Dev nD) (t : Fin cfg0.N) (y : S512x512.Idx) :
    iblk m c 3 t y = at2 (arrO1 m c) (t.val * 512 + (y 0).val) (y 1).val := by
  refine (show iblk m c 3 t y = arrO1 m c ((win0_3.blk t).view.emb y) from rfl).trans (at2_eq _ _ _ _ ?_ ?_)
  · blk_simp [idx t]
  · blk_simp [idx t]

theorem iblk4 (c : Dev nD) (t : Fin cfg0.N) (y : S512x512.Idx) :
    iblk m c 4 t y = at2 (arrO2 m c) (t.val * 512 + (y 0).val) (y 1).val := by
  refine (show iblk m c 4 t y = arrO2 m c ((win0_4.blk t).view.emb y) from rfl).trans (at2_eq _ _ _ _ ?_ ?_)
  · blk_simp [idx t]
  · blk_simp [idx t]

theorem iblk5 (c : Dev nD) (t : Fin cfg0.N) (y : S512x128.Idx) :
    iblk m c 5 t y = at2 (arrL0 m c) (t.val * 512 + (y 0).val) (y 1).val := by
  refine (show iblk m c 5 t y = arrL0 m c ((win0_5.blk t).view.emb y) from rfl).trans (at2_eq _ _ _ _ ?_ ?_)
  · blk_simp [idx t]
  · blk_simp [idx t]

theorem iblk6 (c : Dev nD) (t : Fin cfg0.N) (y : S512x128.Idx) :
    iblk m c 6 t y = at2 (arrL1 m c) (t.val * 512 + (y 0).val) (y 1).val := by
  refine (show iblk m c 6 t y = arrL1 m c ((win0_6.blk t).view.emb y) from rfl).trans (at2_eq _ _ _ _ ?_ ?_)
  · blk_simp [idx t]
  · blk_simp [idx t]

theorem iblk7 (c : Dev nD) (t : Fin cfg0.N) (y : S512x128.Idx) :
    iblk m c 7 t y = at2 (arrL2 m c) (t.val * 512 + (y 0).val) (y 1).val := by
  refine (show iblk m c 7 t y = arrL2 m c ((win0_7.blk t).view.emb y) from rfl).trans (at2_eq _ _ _ _ ?_ ?_)
  · blk_simp [idx t]
  · blk_simp [idx t]

theorem iblk8 (c : Dev nD) (t : Fin cfg0.N) (y : S512x2048.Idx) :
    iblk m c 8 t y = at2 (arrG m c) (t.val * 512 + (y 0).val) (y 1).val := by
  refine (show iblk m c 8 t y = arrG m c ((win0_8.blk t).view.emb y) from rfl).trans (at2_eq _ _ _ _ ?_ ?_)
  · blk_simp [idx t]
  · blk_simp [idx t]

theorem iblk9 (c : Dev nD) (t : Fin cfg0.N) (y : S512x2048.Idx) :
    iblk m c 9 t y = at2 (arrG m c) (t.val * 512 + (y 0).val) (2048 + (y 1).val) := by
  refine (show iblk m c 9 t y = arrG m c ((win0_9.blk t).view.emb y) from rfl).trans (at2_eq _ _ _ _ ?_ ?_)
  · blk_simp [idx t]
  · blk_simp [idx t]

theorem iblk10 (c : Dev nD) (t : Fin cfg0.N) (y : S1x2048.Idx) :
    iblk m c 10 t y = at2 (arrP m c) ((y 0).val) (y 1).val := by
  refine (show iblk m c 10 t y = arrP m c ((win0_10.blk t).view.emb y) from rfl).trans (at2_eq _ _ _ _ ?_ ?_)
  · blk_simp [idx t]; try rfl
  · blk_simp [idx t]

theorem iblk11 (c : Dev nD) (t : Fin cfg0.N) (y : S1x2048.Idx) :
    iblk m c 11 t y = at2 (arrQ m c) ((y 0).val) (y 1).val := by
  refine (show iblk m c 11 t y = arrQ m c ((win0_11.blk t).view.emb y) from rfl).trans (at2_eq _ _ _ _ ?_ ?_)
  · blk_simp [idx t]; try rfl
  · blk_simp [idx t]

theorem iblk12 (c : Dev nD) (t : Fin cfg0.N) (y : S1024x2048.Idx) :
    iblk m c 12 t y = at2 (arrWh m c) (y 0).val (y 1).val := by
  refine ((show iblk m c 12 t y = V m c main_v1 ((win0_12.blk t).view.emb y) from rfl).trans
    (congrFun (V_wh m c) _)).trans (at2_eq (arrWh m c) _ _ _ ?_ ?_)
  · blk_simp [idx t]
  · blk_simp [idx t]

theorem iblk13 (c : Dev nD) (t : Fin cfg0.N) (y : S512x2048.Idx) :
    iblk m c 13 t y = at2 (arrWa m c) (y 0).val (y 1).val := by
  refine ((show iblk m c 13 t y = V m c main_v3 ((win0_13.blk t).view.emb y) from rfl).trans
    (congrFun (V_wa m c) _)).trans (at2_eq (arrWa m c) _ _ _ ?_ ?_)
  · blk_simp [idx t]
  · blk_simp [idx t]

theorem iblk14 (c : Dev nD) (t : Fin cfg0.N) (y : S2048x2048.Idx) :
    iblk m c 14 t y = at2 (arrWo m c) (y 0).val (y 1).val := by
  refine ((show iblk m c 14 t y = V m c main_v5 ((win0_14.blk t).view.emb y) from rfl).trans
    (congrFun (V_wo m c) _)).trans (at2_eq (arrWo m c) _ _ _ ?_ ?_)
  · blk_simp [idx t]
  · blk_simp [idx t]

/-- A token's weighed outputs. -/
def rowB (c : Dev nD) (R : ℕ) : ℕ → EReal :=
  att (at2 (arrO0 m c) R) (at2 (arrO1 m c) R) (at2 (arrO2 m c) R) (at2 (arrL0 m c) R) (at2 (arrL1 m c) R) (at2 (arrL2 m c) R)

/-- A token of the first result. -/
def rowT (c : Dev nD) (R : ℕ) : ℕ → EReal :=
  tok (at2 (arrX m c) R) (at2 (arrA m c) R) (rowB m c R) (at2 (arrG m c) R) (at2 (arrWh m c)) (at2 (arrWa m c)) (at2 (arrWo m c)) (at2 (arrP m c) 0)

/-- A row of a grid point's block of the first result. -/
theorem row15 (c : Dev nD) (t : Fin cfg0.N) (r : Fin 512) (d : Fin 2048) :
    k0_pay1 (F := Ideal) (k0_pay28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t))
      (iblk m c 0 t) (iblk m c 10 t) (k0_pay29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (ix2 r d)
      = rowT m c (t.val * 512 + r.val) d.val :=
  tok_spec (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r
    (at2 (arrA m c) (t.val * 512 + r.val)) (at2 (arrO0 m c) (t.val * 512 + r.val)) (at2 (arrO1 m c) (t.val * 512 + r.val))
    (at2 (arrO2 m c) (t.val * 512 + r.val)) (at2 (arrL0 m c) (t.val * 512 + r.val)) (at2 (arrL1 m c) (t.val * 512 + r.val))
    (at2 (arrL2 m c) (t.val * 512 + r.val)) (at2 (arrG m c) (t.val * 512 + r.val)) (at2 (arrWh m c)) (at2 (arrWa m c)) (at2 (arrWo m c))
    (fun k => iblk1 m c t (ix2 r k)) (fun f => iblk2 m c t (ix2 r f)) (fun f => iblk3 m c t (ix2 r f)) (fun f => iblk4 m c t (ix2 r f))
    (fun l => iblk5 m c t (ix2 r l)) (fun l => iblk6 m c t (ix2 r l)) (fun l => iblk7 m c t (ix2 r l))
    (fun d => iblk8 m c t (ix2 r d)) (fun d => iblk9 m c t (ix2 r d))
    (fun k d => iblk12 m c t (ix2 k d)) (fun k d => iblk13 m c t (ix2 k d)) (fun k d => iblk14 m c t (ix2 k d))
    (at2 (arrX m c) (t.val * 512 + r.val)) (at2 (arrP m c) 0)
    (fun d => iblk0 m c t (ix2 r d)) (fun d => iblk10 m c t (ix2 0 d)) d

/-- A row of its block of the second. -/
theorem row16 (c : Dev nD) (t : Fin cfg0.N) (r : Fin 512) (d : Fin 2048) :
    (k0_pay2 (F := Ideal) (k0_pay28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t))
      (iblk m c 0 t) (iblk m c 10 t) (k0_pay29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (iblk m c 11 t) (ix2 r d) : EReal)
      = rms (rowT m c (t.val * 512 + r.val)) (at2 (arrQ m c) 0) d.val :=
  pay2_apply _ (iblk m c 0 t) (iblk m c 10 t) (iblk m c 11 t) _ r d (rowT m c (t.val * 512 + r.val)) (at2 (arrQ m c) 0)
    (row15 m c t r) (iblk11 m c t (ix2 0 d))

/-- The call's first array. -/
theorem array15 (c : Dev nD) : (dats m 0 c).arrAt 15 cfg0.N
    = fun i : S32768x2048.Idx => (rowT m c (i 0).val (i 1).val : Elt Ideal .f32) := by
  refine (dats m 0 c).arrAt_eq_of_covers 15 _ (by decide +kernel) fun t hf y => ?_
  rw [after0_15]
  obtain ⟨r, d, rfl⟩ : ∃ (r : Fin 512) (d : Fin 2048), y = ix2 r d := ⟨y 0, y 1, eq_ix2 y⟩
  have e0 : ((((cfg0.win 15).blk t).view.emb (ix2 r d)) 0 : ℕ) = t.val * 512 + r.val := by
    blk_simp [idx t]
  have e1 : ((((cfg0.win 15).blk t).view.emb (ix2 r d)) 1 : ℕ) = d.val := by
    blk_simp [idx t]
  rw [out15_eq]
  refine (row15 m c t r d).trans ?_
  dsimp only
  rw [e0, e1]

/-- The call's second array. -/
theorem array16 (c : Dev nD) : (dats m 0 c).arrAt 16 cfg0.N
    = fun i : S32768x2048.Idx => (rms (rowT m c (i 0).val) (at2 (arrQ m c) 0) (i 1).val : Elt Ideal .bf16) := by
  refine (dats m 0 c).arrAt_eq_of_covers 16 _ (by decide +kernel) fun t hf y => ?_
  rw [after0_16]
  obtain ⟨r, d, rfl⟩ : ∃ (r : Fin 512) (d : Fin 2048), y = ix2 r d := ⟨y 0, y 1, eq_ix2 y⟩
  have e0 : ((((cfg0.win 16).blk t).view.emb (ix2 r d)) 0 : ℕ) = t.val * 512 + r.val := by
    blk_simp [idx t]
  have e1 : ((((cfg0.win 16).blk t).view.emb (ix2 r d)) 1 : ℕ) = d.val := by
    blk_simp [idx t]
  rw [out16_eq]
  refine (row16 m c t r d).trans ?_
  dsimp only
  rw [e0, e1]

end Cert.Merge
-- ==== Proof.MergeClaim.lean ====
/-
The merging call's two arrays are its reference's.
-/
module
public import proofs.«01_k».proof.Proof.MergeRef
public import proofs.«01_k».proof.Proof.MergeValue

@[expose] public section

set_option maxRecDepth 16384
noncomputable section

open Idealize.ShloMosaic Idealize.ShloMosaic.TcCoe Idealize.SL.Sem

namespace Cert.Merge
open Cert.Attn (at2 at2_eq at2_ix)
open Cert.Ffn (rms proj rNorm rNorm_apply)

section Ref
open Cert.Reference7Ideal Cert.Reference7Ideal.Gen

/-- The reference's merged branches. -/
def rMerged (a : FVec Ideal S32768x1024 .bf16) (b : FVec Ideal S32768x512 .f32) (g : FVec Ideal S32768x4096 .bf16)
    (wh : FVec Ideal S1024x2048 .f32) (wa : FVec Ideal S512x2048 .f32) : FVec Ideal S32768x2048 .f32 :=
  addf (mulf (rGate0 g) (Host.dotGeneral (F := Ideal) dot_S32768x1024_S1024x2048_S32768x2048_1_0_0_1_n_n none (extf .f32 a bitsLt_bf16_f32) wh))
    (mulf (rGate1 g) (Host.dotGeneral (F := Ideal) dot_S32768x512_S512x2048_S32768x2048_1_0_0_1_n_n none b wa))

theorem rMerged_apply (a : FVec Ideal S32768x1024 .bf16) (b : FVec Ideal S32768x512 .f32) (g : FVec Ideal S32768x4096 .bf16)
    (wh : FVec Ideal S1024x2048 .f32) (wa : FVec Ideal S512x2048 .f32) (r : Fin 32768) (d : Fin 2048) (B : ℕ → EReal)
    (hB : ∀ f : Fin 512, b (ix2 r f) = B f.val) :
    rMerged a b g wh wa (ix2 r d) = merged (at2 a r.val) B (at2 g r.val) (at2 wh) (at2 wa) d.val := by
  unfold rMerged
  pointwise []
  rw [rGate0_apply, rGate1_apply]
  unfold merged
  refine congrArg₂ (· + ·) (congrArg _ (Finset.sum_congr rfl fun k _ => ?_)) (congrArg _ (Finset.sum_congr rfl fun k _ => ?_))
  · rw [at2_ix a r k, at2_ix wh k d]
  · rw [hB, at2_ix wa k d]

/-- The reference's last product. -/
def rMix (v : FVec Ideal S32768x2048 .f32) (wo : FVec Ideal S2048x2048 .f32) : FVec Ideal S32768x2048 .f32 :=
  Host.dotGeneral (F := Ideal) dot_S32768x2048_S2048x2048_S32768x2048_1_0_0_1_n_n none v wo

theorem rMix_apply (v : FVec Ideal S32768x2048 .f32) (wo : FVec Ideal S2048x2048 .f32) (r : Fin 32768) (d : Fin 2048) (V : ℕ → EReal)
    (hV : ∀ k : Fin 2048, v (ix2 r k) = V k.val) : rMix v wo (ix2 r d) = proj V (at2 wo) d.val := by
  unfold rMix
  pointwise []
  exact Finset.sum_congr rfl fun k _ => by rw [hV, at2_ix wo k d]

/-- The reference's first result. -/
def rTok (x : FVec Ideal S32768x2048 .f32) (a : FVec Ideal S32768x1024 .bf16) (o0 o1 o2 : FVec Ideal S32768x512 .bf16)
    (l0 l1 l2 : FVec Ideal S32768x128 .f32) (g : FVec Ideal S32768x4096 .bf16) (p : FVec Ideal S1x2048 .f32)
    (wh : FVec Ideal S1024x2048 .f32) (wa : FVec Ideal S512x2048 .f32) (wo : FVec Ideal S2048x2048 .f32) : FVec Ideal S32768x2048 .f32 :=
  addf x (rNorm (rMix (rMerged a (rAtt (rShare (rLse l0 l1 l2)) (rOut o0 o1 o2)) g wh wa) wo) (shapeCast S2048 p shapeCasts_S1x2048_S2048))

theorem rTok_apply (x : FVec Ideal S32768x2048 .f32) (a : FVec Ideal S32768x1024 .bf16) (o0 o1 o2 : FVec Ideal S32768x512 .bf16)
    (l0 l1 l2 : FVec Ideal S32768x128 .f32) (g : FVec Ideal S32768x4096 .bf16) (p : FVec Ideal S1x2048 .f32)
    (wh : FVec Ideal S1024x2048 .f32) (wa : FVec Ideal S512x2048 .f32) (wo : FVec Ideal S2048x2048 .f32) (r : Fin 32768) (d : Fin 2048) :
    rTok x a o0 o1 o2 l0 l1 l2 g p wh wa wo (ix2 r d)
      = tok (at2 x r.val) (at2 a r.val)
          (att (at2 o0 r.val) (at2 o1 r.val) (at2 o2 r.val) (at2 l0 r.val) (at2 l1 r.val) (at2 l2 r.val))
          (at2 g r.val) (at2 wh) (at2 wa) (at2 wo) (at2 p 0) d.val := by
  unfold rTok tok
  refine congrArg₂ (· + ·) (at2_ix x r d).symm (rNorm_apply _ p _ r d fun k => rMix_apply _ wo r k _ fun j =>
    rMerged_apply a _ g wh wa r j _ fun f => rAtt_apply l0 l1 l2 o0 o1 o2 r f)

end Ref

section Claim
variable (m : (ℓ : Loc Cert.Kernel7Ideal.nD Cert.Kernel7Ideal.τ Cert.Kernel7Ideal.sig) → Buf (Elt Ideal) ℓ)
  (m' : (ℓ : Loc Cert.Reference7Ideal.nD Cert.Reference7Ideal.τ Cert.Reference7Ideal.sig) → Buf (Elt Ideal) ℓ)
  (c : Dev Cert.Kernel7Ideal.nD)

open Cert.Reference7Ideal Cert.Reference7Ideal.Gen in
/-- The reference's tokens, from its arguments. -/
def rArr : FVec Ideal S32768x2048 .f32 :=
  rTok (m' ((c.tc : Thread nD τ).loc main_arg0)) (m' ((c.tc : Thread nD τ).loc main_arg1)) (m' ((c.tc : Thread nD τ).loc main_arg2))
    (m' ((c.tc : Thread nD τ).loc main_arg3)) (m' ((c.tc : Thread nD τ).loc main_arg4)) (m' ((c.tc : Thread nD τ).loc main_arg5))
    (m' ((c.tc : Thread nD τ).loc main_arg6)) (m' ((c.tc : Thread nD τ).loc main_arg7)) (m' ((c.tc : Thread nD τ).loc main_arg8))
    (m' ((c.tc : Thread nD τ).loc main_arg9)) (shapeCast _ (m' ((c.tc : Thread nD τ).loc main_arg11)) shapeCasts_S1x1024x2048_S1024x2048)
    (shapeCast _ (m' ((c.tc : Thread nD τ).loc main_arg12)) shapeCasts_S1x512x2048_S512x2048)
    (shapeCast _ (m' ((c.tc : Thread nD τ).loc main_arg13)) shapeCasts_S1x2048x2048_S2048x2048)

open Cert.Reference7Ideal Cert.Reference7Ideal.Gen in
theorem res0_eq : Cert.Reference7Ideal.Value.res_main_v69 (F := Ideal) m' c = rArr m' c := rfl

open Cert.Reference7Ideal Cert.Reference7Ideal.Gen in
theorem res1_eq : Cert.Reference7Ideal.Value.res_main_v84 (F := Ideal) m' c
    = truncf .bf16 (rNorm (rArr m' c) (shapeCast S2048 (m' ((c.tc : Thread nD τ).loc main_arg10)) shapeCasts_S1x2048_S2048)) bitsLt_bf16_f32 := rfl

variable
  (a0 : m' ((c.tc : Thread Cert.Reference7Ideal.nD Cert.Reference7Ideal.τ).loc Cert.Reference7Ideal.main_arg0)
    = m ((c.tc : Thread Cert.Kernel7Ideal.nD Cert.Kernel7Ideal.τ).loc Cert.Kernel7Ideal.main_arg0))
  (a1 : m' ((c.tc : Thread Cert.Reference7Ideal.nD Cert.Reference7Ideal.τ).loc Cert.Reference7Ideal.main_arg1)
    = m ((c.tc : Thread Cert.Kernel7Ideal.nD Cert.Kernel7Ideal.τ).loc Cert.Kernel7Ideal.main_arg1))
  (a2 : m' ((c.tc : Thread Cert.Reference7Ideal.nD Cert.Reference7Ideal.τ).loc Cert.Reference7Ideal.main_arg2)
    = m ((c.tc : Thread Cert.Kernel7Ideal.nD Cert.Kernel7Ideal.τ).loc Cert.Kernel7Ideal.main_arg2))
  (a3 : m' ((c.tc : Thread Cert.Reference7Ideal.nD Cert.Reference7Ideal.τ).loc Cert.Reference7Ideal.main_arg3)
    = m ((c.tc : Thread Cert.Kernel7Ideal.nD Cert.Kernel7Ideal.τ).loc Cert.Kernel7Ideal.main_arg3))
  (a4 : m' ((c.tc : Thread Cert.Reference7Ideal.nD Cert.Reference7Ideal.τ).loc Cert.Reference7Ideal.main_arg4)
    = m ((c.tc : Thread Cert.Kernel7Ideal.nD Cert.Kernel7Ideal.τ).loc Cert.Kernel7Ideal.main_arg4))
  (a5 : m' ((c.tc : Thread Cert.Reference7Ideal.nD Cert.Reference7Ideal.τ).loc Cert.Reference7Ideal.main_arg5)
    = m ((c.tc : Thread Cert.Kernel7Ideal.nD Cert.Kernel7Ideal.τ).loc Cert.Kernel7Ideal.main_arg5))
  (a6 : m' ((c.tc : Thread Cert.Reference7Ideal.nD Cert.Reference7Ideal.τ).loc Cert.Reference7Ideal.main_arg6)
    = m ((c.tc : Thread Cert.Kernel7Ideal.nD Cert.Kernel7Ideal.τ).loc Cert.Kernel7Ideal.main_arg6))
  (a7 : m' ((c.tc : Thread Cert.Reference7Ideal.nD Cert.Reference7Ideal.τ).loc Cert.Reference7Ideal.main_arg7)
    = m ((c.tc : Thread Cert.Kernel7Ideal.nD Cert.Kernel7Ideal.τ).loc Cert.Kernel7Ideal.main_arg7))
  (a8 : m' ((c.tc : Thread Cert.Reference7Ideal.nD Cert.Reference7Ideal.τ).loc Cert.Reference7Ideal.main_arg8)
    = m ((c.tc : Thread Cert.Kernel7Ideal.nD Cert.Kernel7Ideal.τ).loc Cert.Kernel7Ideal.main_arg8))
  (a9 : m' ((c.tc : Thread Cert.Reference7Ideal.nD Cert.Reference7Ideal.τ).loc Cert.Reference7Ideal.main_arg9)
    = m ((c.tc : Thread Cert.Kernel7Ideal.nD Cert.Kernel7Ideal.τ).loc Cert.Kernel7Ideal.main_arg9))
  (a10 : m' ((c.tc : Thread Cert.Reference7Ideal.nD Cert.Reference7Ideal.τ).loc Cert.Reference7Ideal.main_arg10)
    = m ((c.tc : Thread Cert.Kernel7Ideal.nD Cert.Kernel7Ideal.τ).loc Cert.Kernel7Ideal.main_arg10))
  (a11 : m' ((c.tc : Thread Cert.Reference7Ideal.nD Cert.Reference7Ideal.τ).loc Cert.Reference7Ideal.main_arg11)
    = m ((c.tc : Thread Cert.Kernel7Ideal.nD Cert.Kernel7Ideal.τ).loc Cert.Kernel7Ideal.main_arg11))
  (a12 : m' ((c.tc : Thread Cert.Reference7Ideal.nD Cert.Reference7Ideal.τ).loc Cert.Reference7Ideal.main_arg12)
    = m ((c.tc : Thread Cert.Kernel7Ideal.nD Cert.Kernel7Ideal.τ).loc Cert.Kernel7Ideal.main_arg12))
  (a13 : m' ((c.tc : Thread Cert.Reference7Ideal.nD Cert.Reference7Ideal.τ).loc Cert.Reference7Ideal.main_arg13)
    = m ((c.tc : Thread Cert.Kernel7Ideal.nD Cert.Kernel7Ideal.τ).loc Cert.Kernel7Ideal.main_arg13))

include a0 a1 a2 a3 a4 a5 a6 a7 a8 a9 a11 a12 a13 in
/-- From equal arguments the reference's tokens are those of the call's arrays. -/
theorem rArr_eq : rArr m' c = rTok (arrX m c) (arrA m c) (arrO0 m c) (arrO1 m c) (arrO2 m c) (arrL0 m c) (arrL1 m c) (arrL2 m c)
    (arrG m c) (arrP m c) (arrWh m c) (arrWa m c) (arrWo m c) := by
  unfold rArr
  rw [a0, a1, a2, a3, a4, a5, a6, a7, a8, a9, a11, a12, a13]
  rfl

open Cert.Kernel7Ideal Cert.Kernel7Ideal.Gen in
include a0 a1 a2 a3 a4 a5 a6 a7 a8 a9 a11 a12 a13 in
/-- From equal arguments, the reference's token is the call's. -/
theorem rArr_row (r : Fin 32768) (d : Fin 2048) : rArr m' c (ix2 r d) = rowT m c r.val d.val := by
  rw [rArr_eq m m' c a0 a1 a2 a3 a4 a5 a6 a7 a8 a9 a11 a12 a13]
  exact rTok_apply _ _ _ _ _ _ _ _ _ _ _ _ _ r d

open Cert.Kernel7Ideal Cert.Kernel7Ideal.Gen in
include a0 a1 a2 a3 a4 a5 a6 a7 a8 a9 a11 a12 a13 in
/-- The first results are equal. -/
theorem tok_eq : Cert.Reference7Ideal.Value.res_out0 (F := Ideal) m' c = (dats m 0 c).arrAt 15 cfg0.N := by
  rw [array15]
  refine (res0_eq m' c).trans ?_
  funext i
  obtain ⟨r, d, rfl⟩ : ∃ (r : Fin 32768) (d : Fin 2048), i = ix2 r d := ⟨i 0, i 1, eq_ix2 i⟩
  exact rArr_row m m' c a0 a1 a2 a3 a4 a5 a6 a7 a8 a9 a11 a12 a13 r d

open Cert.Kernel7Ideal Cert.Kernel7Ideal.Gen in
include a0 a1 a2 a3 a4 a5 a6 a7 a8 a9 a10 a11 a12 a13 in
/-- So are the second. -/
theorem nrm_eq : Cert.Reference7Ideal.Value.res_out1 (F := Ideal) m' c = (dats m 0 c).arrAt 16 cfg0.N := by
  rw [array16]
  refine (res1_eq m' c).trans ?_
  rw [a10]
  funext i
  obtain ⟨r, d, rfl⟩ : ∃ (r : Fin 32768) (d : Fin 2048), i = ix2 r d := ⟨i 0, i 1, eq_ix2 i⟩
  exact rNorm_apply _ (arrQ m c) _ r d fun k => rArr_row m m' c a0 a1 a2 a3 a4 a5 a6 a7 a8 a9 a11 a12 a13 r k

end Claim

end Cert.Merge
-- ==== Proof.MergeRun.lean ====
/-
The merging call's run, its two result arrays named.
-/
module
public import proofs.«01_k».proof.Proof.Gen.Kernel7Ideal.Frame
public import Idealize.ShloMosaic.Lib.Pipeline.Value
public import Idealize.ShloMosaic.PureOps.Ideal

@[expose] public section

noncomputable section

open Idealize.ShloMosaic Idealize.ShloMosaic.TcCoe Idealize.SL.Sem

namespace Cert.Merge
open Cert.Kernel7Ideal Cert.Kernel7Ideal.Gen

/-- After the call, the two results are what its blocks wrote, and its arguments are kept. -/
theorem runs (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v6_0) = (dats m 0 c).arrAt 15 cfg0.N
      ∧ r.2.mem ((c : Thread nD τ).loc main_v6_1) = (dats m 0 c).arrAt 16 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun _ h c => ⟨(h.2 c).1 15, (h.2 c).1 16, h.1 c⟩) (θ_run_and (unchanged m ρ) (run_main m ρ))

end Cert.Merge
-- ==== Proof.QkValue.lean ====
/-
The projection to the queries and keys with their rotary embedding: the call's array.
-/
module
public import proofs.«01_k».proof.Proof.Gen.Kernel8Ideal.Value
public import proofs.«01_k».proof.Proof.Coord
public import proofs.«01_k».proof.Proof.FfnSpec
public import Idealize.ShloMosaic.Lib.Pointwise
public import Idealize.ShloMosaic.Lib.Pipeline.ValueKit

@[expose] public section

set_option maxRecDepth 16384
noncomputable section

open Idealize.ShloMosaic Idealize.ShloMosaic.TcCoe Idealize.SL.Sem
open Idealize.ShloMosaic.Pipeline (Dat)

namespace Cert.Qk
open Cert.Attn (at2 at2_eq at2_ix)
open Cert.Ffn (proj)

section Kernel
open Cert.Kernel8Ideal Cert.Kernel8Ideal.Gen Cert.Kernel8Ideal.Value

/-- The block of each window at each grid point. -/
theorem idx : ∀ t : Fin cfg0.N,
    win0_0.index t = ![t.val / 2, 0] ∧ win0_1.index t = ![0, t.val % 2] ∧ win0_2.index t = ![t.val % 2, t.val / 2 % 16, 0]
      ∧ win0_3.index t = ![t.val % 2, t.val / 2 % 16, 0] ∧ win0_4.index t = ![t.val % 2, t.val / 2 % 16, 0]
      ∧ win0_5.index t = ![t.val / 2, t.val % 2] :=
  (by decide +kernel : ∀ t : Fin grid0.N, _)

variable (m : (ℓ : Loc nD τ sig) → Buf (Elt Ideal) ℓ)

/-- The tokens. -/
def arrU (c : Dev nD) : FVec Ideal S32768x2048 .bf16 := m ((c.tc : Thread nD τ).loc main_arg0)

/-- The weight matrix of all the projections. -/
def arrW (c : Dev nD) : FVec Ideal S2048x11776 .f32 :=
  shapeCast S2048x11776 (m ((c.tc : Thread nD τ).loc main_arg1)) shapeCasts_S1x2048x11776_S2048x11776

/-- The angle of each position and frequency. -/
def ang : FVec Ideal S16384x16 .f32 :=
  mulf (broadcastInDim S16384x16 ![0, 1] bcast_S16384x1_S16384x16_0_1
      (broadcastInDim S16384x1 ![0] bcast_S16384_S16384x1_0 (sitofp .f32 (iotaInDim S16384 32 0))))
    (broadcastInDim S16384x16 ![0, 1] bcast_S1x16_S16384x16_0_1 (broadcastInDim S1x16 ![1] bcast_S16_S1x16_1
      (Host.powf (broadcastInDim S16 ![] bcast_S_S16 (constant S_ .f32 0x48F42400#32))
        (Host.divf (Host.negf (sitofp .f32 (iotaInDim S16 32 0)))
          (broadcastInDim S16 ![] bcast_S_S16 (constant S_ .f32 0x41800000#32))))))

/-- A table for the keys, preceded by the same times the scale for the queries. -/
def twice (x : FVec Ideal S16384x128 .f32) : FVec Ideal S2x16384x128 .f32 :=
  concatenate S2x16384x128 0
    [⟨S1x16384x128, broadcastInDim S1x16384x128 ![1, 2] bcast_S16384x128_S1x16384x128_1_2
      (mulf x (broadcastInDim S16384x128 ![] bcast_S_S16384x128 (constant (F := Ideal) S_ .f32 0x3DB504F3#32)))⟩,
     ⟨S1x16384x128, broadcastInDim S1x16384x128 ![1, 2] bcast_S16384x128_S1x16384x128_1_2 x⟩]
    concatenates_S1x16384x128_S1x16384x128_S2x16384x128_d0

/-- The factors of the feature itself. -/
def tabC (cs : FVec Ideal S16384x16 .f32) : FVec Ideal S16384x128 .f32 :=
  concatenate S16384x128 1 [⟨S16384x16, cs⟩, ⟨S16384x16, cs⟩,
    ⟨S16384x96, broadcastInDim S16384x96 ![] bcast_S_S16384x96 (constant (F := Ideal) S_ .f32 0x3F800000#32)⟩]
    concatenates_S16384x16_S16384x16_S16384x96_S16384x128_d1

/-- The factors of the feature sixteen places on. -/
def tabLo (sn : FVec Ideal S16384x16 .f32) : FVec Ideal S16384x128 .f32 :=
  concatenate S16384x128 1 [⟨S16384x16, Host.negf sn⟩,
    ⟨S16384x112, broadcastInDim S16384x112 ![] bcast_S_S16384x112 (constant (F := Ideal) S_ .f32 0x00000000#32)⟩]
    concatenates_S16384x16_S16384x112_S16384x128_d1

/-- The factors of the feature sixteen places before. -/
def tabHi (sn : FVec Ideal S16384x16 .f32) : FVec Ideal S16384x128 .f32 :=
  concatenate S16384x128 1
    [⟨S16384x16, broadcastInDim S16384x16 ![] bcast_S_S16384x16 (constant (F := Ideal) S_ .f32 0x00000000#32)⟩, ⟨S16384x16, sn⟩,
     ⟨S16384x96, broadcastInDim S16384x96 ![] bcast_S_S16384x96 (constant (F := Ideal) S_ .f32 0x00000000#32)⟩]
    concatenates_S16384x16_S16384x16_S16384x96_S16384x128_d1

/-- The scale of the queries; the keys have none. -/
def scl (s : ℕ) (x : EReal) : EReal := if s = 0 then x * Ideal.ofBits .f32 0x3DB504F3#32 else x

theorem twice_apply (x : FVec Ideal S16384x128 .f32) (s : Fin 2) (p : Fin 16384) (l : Fin 128) :
    twice x (ix3 s p l) = scl s.val (x (ix2 p l)) := by
  unfold twice scl
  match s with
  | 0 => pointwise []
  | 1 => pointwise []

/-- The factor of feature `l` itself at position `p`. -/
def fC (cs : FVec Ideal S16384x16 .f32) (p l : ℕ) : EReal :=
  if l < 16 then at2 cs p l else if l - 16 < 16 then at2 cs p (l - 16) else 1

/-- The factor of the feature sixteen places on. -/
def fLo (sn : FVec Ideal S16384x16 .f32) (p l : ℕ) : EReal := if l < 16 then -at2 sn p l else 0

/-- The factor of the feature sixteen places before. -/
def fHi (sn : FVec Ideal S16384x16 .f32) (p l : ℕ) : EReal :=
  if l < 16 then 0 else if l - 16 < 16 then at2 sn p (l - 16) else 0

theorem tabC_apply (cs : FVec Ideal S16384x16 .f32) (p : Fin 16384) (l : Fin 128) :
    tabC cs (ix2 p l) = fC cs p.val l.val := by
  unfold tabC fC
  pointwise []
  split_ifs <;> first | rfl | exact (at2_ix cs p ⟨_, _⟩).symm

theorem tabLo_apply (sn : FVec Ideal S16384x16 .f32) (p : Fin 16384) (l : Fin 128) :
    tabLo sn (ix2 p l) = fLo sn p.val l.val := by
  unfold tabLo fLo
  pointwise []
  split_ifs <;> first | rfl | exact congrArg Neg.neg (at2_ix sn p ⟨_, _⟩).symm

theorem tabHi_apply (sn : FVec Ideal S16384x16 .f32) (p : Fin 16384) (l : Fin 128) :
    tabHi sn (ix2 p l) = fHi sn p.val l.val := by
  unfold tabHi fHi
  pointwise []
  split_ifs <;> first | rfl | exact (at2_ix sn p ⟨_, _⟩).symm

/-- The weights at the launch of the call: the 3072 columns from 3072 on. -/
theorem V_w (c : Dev nD) : V m c main_v4
    = truncf .bf16 (extractStridedSlice S2048x3072 ![0, 3072] (arrW m c) slices_S2048x11776_S2048x3072_0_3072) bitsLt_bf16_f32 := by
  unfold V
  after_results
  try rfl

/-- The tables at the launch of the call. -/
theorem V_c (c : Dev nD) : V m c main_v35 = twice (tabC (Host.cos ang)) := by
  unfold V
  after_results
  try rfl

theorem V_lo (c : Dev nD) : V m c main_v40 = twice (tabLo (Host.sin ang)) := by
  unfold V
  after_results
  try rfl

theorem V_hi (c : Dev nD) : V m c main_v45 = twice (tabHi (Host.sin ang)) := by
  unfold V
  after_results
  try rfl

theorem iblk0 (c : Dev nD) (t : Fin cfg0.N) (y : S1024x2048.Idx) :
    iblk m c 0 t y = at2 (arrU m c) (t.val / 2 * 1024 + (y 0).val) (y 1).val := by
  refine (show iblk m c 0 t y = arrU m c ((win0_0.blk t).view.emb y) from rfl).trans (at2_eq _ _ _ _ ?_ ?_)
  · blk_simp [idx t]
  · blk_simp [idx t]

/-- An entry of the weights' columns. -/
theorem cols_apply (W : FVec Ideal S2048x11776 .f32) (i : S2048x3072.Idx) :
    truncf .bf16 (extractStridedSlice S2048x3072 ![0, 3072] W slices_S2048x11776_S2048x3072_0_3072) bitsLt_bf16_f32 i
      = at2 W (i 0).val (3072 + (i 1).val) := by
  obtain ⟨r, d, rfl⟩ : ∃ (r : Fin 2048) (d : Fin 3072), i = ix2 r d := ⟨i 0, i 1, eq_ix2 i⟩
  pointwise []
  refine at2_eq _ _ _ _ ?_ ?_
  · simp
  · simp

theorem iblk1 (c : Dev nD) (t : Fin cfg0.N) (y : S2048x1536.Idx) :
    iblk m c 1 t y = at2 (arrW m c) (y 0).val (3072 + (t.val % 2 * 1536 + (y 1).val)) := by
  refine ((show iblk m c 1 t y = V m c main_v4 ((win0_1.blk t).view.emb y) from rfl).trans
    (congrFun (V_w m c) _)).trans ((cols_apply _ _).trans (congrArg₂ (at2 (arrW m c)) ?_ ?_))
  · blk_simp [idx t]
  · blk_simp [idx t]

/-- A block of a table, from the table. -/
theorem twice_at (x : FVec Ideal S16384x128 .f32) (f : ℕ → ℕ → EReal)
    (hx : ∀ (p : Fin 16384) (l : Fin 128), x (ix2 p l) = f p.val l.val) (i : S2x16384x128.Idx) (s p l : ℕ)
    (h0 : (i 0).val = s) (h1 : (i 1).val = p) (h2 : (i 2).val = l) : twice x i = scl s (f p l) := by
  subst h0 h1 h2
  obtain ⟨s, p, l, rfl⟩ : ∃ (s : Fin 2) (p : Fin 16384) (l : Fin 128), i = ix3 s p l := ⟨i 0, i 1, i 2, eq_ix3 i⟩
  rw [twice_apply, hx]
  rfl

theorem iblk2 (c : Dev nD) (t : Fin cfg0.N) (r : Fin 1024) (l : Fin 128) :
    iblk m c 2 t (ix3 0 r l) = scl (t.val % 2) (fC (Host.cos ang) (t.val / 2 % 16 * 1024 + r.val) l.val) := by
  refine ((show iblk m c 2 t (ix3 0 r l) = V m c main_v35 ((win0_2.blk t).view.emb (ix3 0 r l)) from rfl).trans
    (congrFun (V_c m c) _)).trans (twice_at _ _ (tabC_apply _) _ _ _ _ ?_ ?_ ?_)
  · blk_simp [idx t]
    rfl
  · blk_simp [idx t]
  · blk_simp [idx t]

theorem iblk3 (c : Dev nD) (t : Fin cfg0.N) (r : Fin 1024) (l : Fin 128) :
    iblk m c 3 t (ix3 0 r l) = scl (t.val % 2) (fLo (Host.sin ang) (t.val / 2 % 16 * 1024 + r.val) l.val) := by
  refine ((show iblk m c 3 t (ix3 0 r l) = V m c main_v40 ((win0_3.blk t).view.emb (ix3 0 r l)) from rfl).trans
    (congrFun (V_lo m c) _)).trans (twice_at _ _ (tabLo_apply _) _ _ _ _ ?_ ?_ ?_)
  · blk_simp [idx t]
    rfl
  · blk_simp [idx t]
  · blk_simp [idx t]

theorem iblk4 (c : Dev nD) (t : Fin cfg0.N) (r : Fin 1024) (l : Fin 128) :
    iblk m c 4 t (ix3 0 r l) = scl (t.val % 2) (fHi (Host.sin ang) (t.val / 2 % 16 * 1024 + r.val) l.val) := by
  refine ((show iblk m c 4 t (ix3 0 r l) = V m c main_v45 ((win0_4.blk t).view.emb (ix3 0 r l)) from rfl).trans
    (congrFun (V_hi m c) _)).trans (twice_at _ _ (tabHi_apply _) _ _ _ _ ?_ ?_ ?_)
  · blk_simp [idx t]
    rfl
  · blk_simp [idx t]
  · blk_simp [idx t]

/-- The block of products. -/
def prod (u : FVec Ideal S1024x2048 .bf16) (w : FVec Ideal S2048x1536 .bf16) : FVec Ideal S1024x1536 .f32 :=
  matmul dot_S1024x2048_S2048x1536_S1024x1536_1_0_0_1_n_n none u (shapeCast S2048x1536 w shapeCasts_S2048x1536_S2048x1536)
    (constant S1024x1536 .f32 0x00000000#32)

theorem prod_apply (u : FVec Ideal S1024x2048 .bf16) (w : FVec Ideal S2048x1536 .bf16) (r : Fin 1024) (d : Fin 1536) :
    (prod u w (ix2 r d) : EReal) = ∑ k : Fin 2048, u (ix2 r k) * w (ix2 k d) := by
  pointwise [prod]

/-- A table's block repeated for the twelve heads. -/
def wide (v : FVec Ideal S1x1024x128 .f32) : FVec Ideal S1024x1536 .f32 :=
  concatenate S1024x1536 1
    (List.replicate 12 (⟨S1024x128, shapeCast S1024x128 v shapeCasts_S1x1024x128_S1024x128⟩ : (s : Shape) × (s.Idx → EReal)))
    concatenates_S1024x128_S1024x128_S1024x128_S1024x128_S1024x128_S1024x128_S1024x128_S1024x128_S1024x128_S1024x128_S1024x128_S1024x128_S1024x1536_d1

theorem wide_apply (v : FVec Ideal S1x1024x128 .f32) (r : Fin 1024) (d : Fin 1536) :
    (wide v (ix2 r d) : EReal) = v (ix3 0 r ⟨d.val % 128, Nat.mod_lt _ (by decide)⟩) := by
  unfold wide
  refine (concatenate_replicate_apply (t := S1024x1536) (s₁ := S1024x128) 1 12
    (shapeCast S1024x128 v shapeCasts_S1x1024x128_S1024x128) _ rfl (ix2 r d)
    (ix2 r (⟨d.val % 128, Nat.mod_lt _ (by decide)⟩ : Fin 128)) rfl ?_).trans ?_
  · intro b hb
    match b, hb with
    | ⟨0, _⟩, _ => rfl
    | ⟨1, _⟩, hb => exact absurd rfl hb
  · pointwise []

/-- One block of results, from the block of products and the tables. -/
theorem pay_eq (u : FVec Ideal S1024x2048 .bf16) (w : FVec Ideal S2048x1536 .bf16) (x2 x3 x4 : FVec Ideal S1x1024x128 .f32)
    (i : S1024x1536.Idx) :
    (k0_pay1 (F := Ideal) u w x2 x3 x4 i : EReal)
      = prod u w i * wide x2 i + dynamicRotate 1 1520#32 none (prod u w) rotates_S1024x1536_d1 i * wide x3 i
        + dynamicRotate 1 16#32 none (prod u w) rotates_S1024x1536_d1 i * wide x4 i := rfl

theorem lo_apply (x : FVec Ideal S1024x1536 .f32) (r : Fin 1024) (d : Fin 1536) :
    (dynamicRotate 1 1520#32 none x rotates_S1024x1536_d1 (ix2 r d) : EReal)
      = x (ix2 r ⟨(d.val + 16) % 1536, Nat.mod_lt _ (by decide)⟩) := by
  pointwise []
  exact congrArg x (congrArg (ix2 r) (Fin.ext (by dsimp only; omega)))

theorem hi_apply (x : FVec Ideal S1024x1536 .f32) (r : Fin 1024) (d : Fin 1536) :
    (dynamicRotate 1 16#32 none x rotates_S1024x1536_d1 (ix2 r d) : EReal)
      = x (ix2 r ⟨(d.val + 1520) % 1536, Nat.mod_lt _ (by decide)⟩) := by
  pointwise []
  exact congrArg x (congrArg (ix2 r) (Fin.ext (by dsimp only; omega)))

/-- What a grid point leaves in its block of the array. -/
theorem out_eq (u : FVec Ideal S1024x2048 .bf16) (w : FVec Ideal S2048x1536 .bf16) (x2 x3 x4 : FVec Ideal S1x1024x128 .f32) :
    out0_5 (F := Ideal) u w x2 x3 x4 = k0_pay1 (F := Ideal) u w x2 x3 x4 := by
  unfold out0_5
  frame_out

/-- The rotation of the first 32 of a head's features, the frequencies' cosines and sines given. -/
def rot (P cs sn : ℕ → EReal) (f l : ℕ) : EReal :=
  if l < 16 then P f * cs l - P (f + 16) * sn l
  else if l < 32 then P f * cs (l - 16) + P (f - 16) * sn (l - 16) else P f

/-- The scale is a nonnegative real number. -/
theorem scale_real : 0 ≤ Ideal.ofBits .f32 0x3DB504F3#32 ∧ Ideal.ofBits .f32 0x3DB504F3#32 ≠ ⊤ := by
  simp [Ideal.ofBits, Ideal.ieee]
  rw [← EReal.coe_mul]
  exact ⟨EReal.coe_nonneg.2 (by positivity), EReal.coe_ne_top _⟩

/-- The scale distributes over a sum. -/
theorem scl_add (s : ℕ) (x y : EReal) : scl s (x + y) = scl s x + scl s y := by
  unfold scl
  split_ifs
  · exact EReal.right_distrib_of_nonneg_of_ne_top scale_real.1 scale_real.2 x y
  · rfl

/-- The scale may be moved into the second factor. -/
theorem mul_scl (s : ℕ) (x y : EReal) : x * scl s y = scl s (x * y) := by
  unfold scl
  split_ifs
  · exact (mul_assoc _ _ _).symm
  · rfl

/-- With the tables' factors the three products add up to the scaled rotation. -/
theorem tables_eq (P : ℕ → EReal) (cs sn : FVec Ideal S16384x16 .f32) (s p f l : ℕ) (x y : EReal)
    (hx : l < 16 → x = P (f + 16)) (hy : 16 ≤ l → l < 32 → y = P (f - 16)) :
    P f * scl s (fC cs p l) + x * scl s (fLo sn p l) + y * scl s (fHi sn p l)
      = scl s (rot P (at2 cs p) (at2 sn p) f l) := by
  rw [mul_scl, mul_scl, mul_scl, ← scl_add, ← scl_add]
  refine congrArg (scl s) ?_
  unfold fC fLo fHi rot
  by_cases h : l < 16
  · rw [if_pos h, if_pos h, if_pos h, if_pos h, hx h, mul_zero, add_zero, mul_neg, sub_eq_add_neg]
  · rw [if_neg h, if_neg h, if_neg h, if_neg h, mul_zero, add_zero]
    by_cases h' : l < 32
    · rw [if_pos (show l - 16 < 16 by omega), if_pos h', if_pos (show l - 16 < 16 by omega), hy (by omega) h']
    · rw [if_neg (show ¬ l - 16 < 16 by omega), if_neg h', if_neg (show ¬ l - 16 < 16 by omega), mul_zero, add_zero, mul_one]

/-- The scaled and rotated feature `f` of the queries and keys of a token at position `p`. -/
def qk (u : ℕ → EReal) (w : ℕ → ℕ → EReal) (cs sn : FVec Ideal S16384x16 .f32) (p f : ℕ) : EReal :=
  scl (f / 1536) (rot (fun g => proj u w (3072 + g)) (at2 cs p) (at2 sn p) f (f % 128))

/-- One block of results, from the products and the tables' factors. -/
theorem pay_spec (u : FVec Ideal S1024x2048 .bf16) (w : FVec Ideal S2048x1536 .bf16) (x2 x3 x4 : FVec Ideal S1x1024x128 .f32)
    (P : ℕ → EReal) (cs sn : FVec Ideal S16384x16 .f32) (s p : ℕ) (r : Fin 1024) (d : Fin 1536)
    (hP : ∀ e : Fin 1536, (prod u w (ix2 r e) : EReal) = P (s * 1536 + e.val))
    (h2 : ∀ l : Fin 128, x2 (ix3 0 r l) = scl s (fC cs p l.val)) (h3 : ∀ l : Fin 128, x3 (ix3 0 r l) = scl s (fLo sn p l.val))
    (h4 : ∀ l : Fin 128, x4 (ix3 0 r l) = scl s (fHi sn p l.val)) :
    (k0_pay1 (F := Ideal) u w x2 x3 x4 (ix2 r d) : EReal)
      = scl s (rot P (at2 cs p) (at2 sn p) (s * 1536 + d.val) (d.val % 128)) := by
  have hd := d.isLt
  rw [pay_eq, lo_apply, hi_apply, wide_apply, wide_apply, wide_apply, hP, hP, hP, h2, h3, h4]
  refine tables_eq P cs sn s p (s * 1536 + d.val) (d.val % 128) _ _ (fun h => congrArg P ?_) fun h h' => congrArg P ?_
  · dsimp only
    omega
  · dsimp only
    omega

/-- The call's array: each token's queries and keys. -/
theorem val_array (c : Dev nD) : (dats m 0 c).arrAt 5 cfg0.N
    = fun i : S32768x3072.Idx => (qk (at2 (arrU m c) (i 0).val) (at2 (arrW m c)) (Host.cos ang) (Host.sin ang)
        ((i 0).val % 16384) (i 1).val : Elt Ideal .bf16) := by
  refine (dats m 0 c).arrAt_eq_of_covers 5 _ (by decide +kernel) fun t hf y => ?_
  rw [after0_5]
  obtain ⟨r, d, rfl⟩ : ∃ (r : Fin 1024) (d : Fin 1536), y = ix2 r d := ⟨y 0, y 1, eq_ix2 y⟩
  have e0 : ((((cfg0.win 5).blk t).view.emb (ix2 r d)) 0 : ℕ) = t.val / 2 * 1024 + r.val := by
    blk_simp [idx t]
  have e1 : ((((cfg0.win 5).blk t).view.emb (ix2 r d)) 1 : ℕ) = t.val % 2 * 1536 + d.val := by
    blk_simp [idx t]
  rw [out_eq]
  refine (pay_spec _ _ _ _ _ (fun g => proj (at2 (arrU m c) (t.val / 2 * 1024 + r.val)) (at2 (arrW m c)) (3072 + g))
    (Host.cos ang) (Host.sin ang) (t.val % 2) (t.val / 2 % 16 * 1024 + r.val) r d (fun e => ?_)
    (iblk2 m c t r) (iblk3 m c t r) (iblk4 m c t r)).trans ?_
  · exact (prod_apply _ _ r e).trans (Finset.sum_congr rfl fun k _ => by rw [iblk0, iblk1]; rfl)
  · have hr := r.isLt
    have hd := d.isLt
    dsimp only
    rw [e0, e1]
    unfold qk
    rw [show (t.val % 2 * 1536 + d.val) / 1536 = t.val % 2 by omega,
      show (t.val % 2 * 1536 + d.val) % 128 = d.val % 128 by omega,
      show (t.val / 2 * 1024 + r.val) % 16384 = t.val / 2 % 16 * 1024 + r.val by omega]

end Kernel

end Cert.Qk
-- ==== Proof.QkRef.lean ====
/-
The projection to the queries and keys with their rotary embedding: the reference's array, equal to the call's.
-/
module
public import proofs.«01_k».proof.Proof.QkValue
public import proofs.«01_k».proof.Proof.Gen.Reference8Ideal.Run

@[expose] public section

set_option maxRecDepth 16384
noncomputable section

open Idealize.ShloMosaic Idealize.ShloMosaic.TcCoe Idealize.SL.Sem

namespace Cert.Qk
open Cert.Attn (at2 at2_eq at2_ix)
open Cert.Ffn (proj)

section Ref
open Cert.Reference8Ideal Cert.Reference8Ideal.Gen

/-- The products with the columns of the queries, keys and values, by batch, position, which of the three, head and feature. -/
def rX (u : FVec Ideal S32768x2048 .bf16) (w : FVec Ideal S2048x11776 .f32) : FVec Ideal S2x16384x3x12x128 .f32 :=
  shapeCast _ (extractStridedSlice S32768x4608 ![0, 3072]
    (Host.dotGeneral (F := Ideal) dot_S32768x2048_S2048x11776_S32768x11776_1_0_0_1_n_n none (extf .f32 u bitsLt_bf16_f32) w)
    slices_S32768x11776_S32768x4608_0_3072) shapeCasts_S32768x4608_S2x16384x3x12x128

/-- A table of the frequencies' values laid out for the heads. -/
def rT (x : FVec Ideal S16384x16 .f32) : FVec Ideal S2x16384x12x16 .f32 :=
  broadcastInDim S2x16384x12x16 ![0, 1, 2, 3] bcast_S1x16384x1x16_S2x16384x12x16_0_1_2_3
    (shapeCast _ x shapeCasts_S16384x16_S1x16384x1x16)

/-- The first sixteen features, and the next. -/
def rA (x : FVec Ideal S2x16384x12x128 .f32) : FVec Ideal S2x16384x12x16 .f32 :=
  extractStridedSlice S2x16384x12x16 ![0, 0, 0, 0]
    (extractStridedSlice S2x16384x12x32 ![0, 0, 0, 0] x slices_S2x16384x12x128_S2x16384x12x32_0_0_0_0)
    slices_S2x16384x12x32_S2x16384x12x16_0_0_0_0

def rB (x : FVec Ideal S2x16384x12x128 .f32) : FVec Ideal S2x16384x12x16 .f32 :=
  extractStridedSlice S2x16384x12x16 ![0, 0, 0, 16]
    (extractStridedSlice S2x16384x12x32 ![0, 0, 0, 0] x slices_S2x16384x12x128_S2x16384x12x32_0_0_0_0)
    slices_S2x16384x12x32_S2x16384x12x16_0_0_0_16

/-- The rotated features followed by the others. -/
def rRope (x : FVec Ideal S2x16384x12x128 .f32) (cs sn : FVec Ideal S16384x16 .f32) : FVec Ideal S2x16384x12x128 .f32 :=
  concatenate S2x16384x12x128 3
    [⟨S2x16384x12x32, concatenate S2x16384x12x32 3
      [⟨S2x16384x12x16, subf (mulf (rA x) (rT cs)) (mulf (rB x) (rT sn))⟩,
       ⟨S2x16384x12x16, addf (mulf (rB x) (rT cs)) (mulf (rA x) (rT sn))⟩]
      concatenates_S2x16384x12x16_S2x16384x12x16_S2x16384x12x32_d3⟩,
     ⟨S2x16384x12x96, extractStridedSlice S2x16384x12x96 ![0, 0, 0, 32] x slices_S2x16384x12x128_S2x16384x12x96_0_0_0_32⟩]
    concatenates_S2x16384x12x32_S2x16384x12x96_S2x16384x12x128_d3

/-- The queries, and the keys, before the rotation. -/
def rQ (x : FVec Ideal S2x16384x3x12x128 .f32) : FVec Ideal S2x16384x12x128 .f32 :=
  shapeCast _ (extractStridedSlice S2x16384x1x12x128 ![0, 0, 0, 0, 0] x slices_S2x16384x3x12x128_S2x16384x1x12x128_0_0_0_0_0)
    shapeCasts_S2x16384x1x12x128_S2x16384x12x128

def rK (x : FVec Ideal S2x16384x3x12x128 .f32) : FVec Ideal S2x16384x12x128 .f32 :=
  shapeCast _ (extractStridedSlice S2x16384x1x12x128 ![0, 0, 1, 0, 0] x slices_S2x16384x3x12x128_S2x16384x1x12x128_0_0_1_0_0)
    shapeCasts_S2x16384x1x12x128_S2x16384x12x128

/-- The scaled queries and the keys side by side. -/
def rStack (q k : FVec Ideal S2x16384x12x128 .f32) : FVec Ideal S2x16384x2x12x128 .f32 :=
  concatenate S2x16384x2x12x128 2
    [⟨S2x16384x1x12x128, broadcastInDim S2x16384x1x12x128 ![0, 1, 3, 4] bcast_S2x16384x12x128_S2x16384x1x12x128_0_1_3_4
      (mulf q (broadcastInDim S2x16384x12x128 ![] bcast_S_S2x16384x12x128 (constant (F := Ideal) S_ .f32 0x3DB504F3#32)))⟩,
     ⟨S2x16384x1x12x128, broadcastInDim S2x16384x1x12x128 ![0, 1, 3, 4] bcast_S2x16384x12x128_S2x16384x1x12x128_0_1_3_4 k⟩]
    concatenates_S2x16384x1x12x128_S2x16384x1x12x128_S2x16384x2x12x128_d2

/-- The reference's array, from its arguments. -/
def refQk (u : FVec Ideal S32768x2048 .bf16) (w : FVec Ideal S2048x11776 .f32) (cs sn : FVec Ideal S16384x16 .f32) :
    FVec Ideal S32768x3072 .bf16 :=
  truncf .bf16 (shapeCast _ (rStack (rRope (rQ (rX u w)) cs sn) (rRope (rK (rX u w)) cs sn))
    shapeCasts_S2x16384x2x12x128_S32768x3072) bitsLt_bf16_f32

open Cert.Reference8Ideal.Value in
theorem res_eq (m : (ℓ : Loc nD τ sig) → Buf (Elt Ideal) ℓ) (c : Dev nD) : res_out0 m c
    = refQk (m ((c.tc : Thread nD τ).loc main_arg0))
        (shapeCast _ (m ((c.tc : Thread nD τ).loc main_arg1)) shapeCasts_S1x2048x11776_S2048x11776)
        (Host.cos ang) (Host.sin ang) := by
  unfold res_out0 res_main_v78
  rfl

theorem rX_apply (u : FVec Ideal S32768x2048 .bf16) (w : FVec Ideal S2048x11776 .f32) (b : Fin 2) (p : Fin 16384) (s : Fin 3)
    (h : Fin 12) (l : Fin 128) : rX u w (ix5 b p s h l)
      = proj (at2 u (b.val * 16384 + p.val)) (at2 w) (3072 + (s.val * 1536 + h.val * 128 + l.val)) := by
  unfold rX
  refine (shapeCast_apply _ _ _ (ix2 (⟨b.val * 16384 + p.val, by omega⟩ : Fin 32768)
    (⟨s.val * 1536 + h.val * 128 + l.val, by omega⟩ : Fin 4608)) ?_).trans ?_
  · rw [Shape.rowMajor_val_two, Shape.rowMajor_val_five]
    simp
    omega
  · pointwise []
    exact Finset.sum_congr rfl fun k _ => congrArg₂ (· * ·) (at2_eq u _ _ _ rfl rfl) (at2_eq w _ _ _ rfl rfl)

theorem rT_apply (x : FVec Ideal S16384x16 .f32) (b : Fin 2) (p : Fin 16384) (h : Fin 12) (l : Fin 16) :
    rT x (ix4 b p h l) = x (ix2 p l) := by
  unfold rT
  pointwise []

theorem rA_apply (x : FVec Ideal S2x16384x12x128 .f32) (b : Fin 2) (p : Fin 16384) (h : Fin 12) (l : Fin 16) :
    rA x (ix4 b p h l) = x (ix4 b p h ⟨l.val, by omega⟩) := by
  unfold rA
  pointwise []

theorem rB_apply (x : FVec Ideal S2x16384x12x128 .f32) (b : Fin 2) (p : Fin 16384) (h : Fin 12) (l : Fin 16) :
    rB x (ix4 b p h l) = x (ix4 b p h ⟨16 + l.val, by omega⟩) := by
  unfold rB
  pointwise []

theorem rQ_apply (x : FVec Ideal S2x16384x3x12x128 .f32) (b : Fin 2) (p : Fin 16384) (h : Fin 12) (l : Fin 128) :
    rQ x (ix4 b p h l) = x (ix5 b p 0 h l) := by
  unfold rQ
  pointwise []

theorem rK_apply (x : FVec Ideal S2x16384x3x12x128 .f32) (b : Fin 2) (p : Fin 16384) (h : Fin 12) (l : Fin 128) :
    rK x (ix4 b p h l) = x (ix5 b p 1 h l) := by
  unfold rK
  pointwise []

theorem rStack_apply (q k : FVec Ideal S2x16384x12x128 .f32) (b : Fin 2) (p : Fin 16384) (s : Fin 2) (h : Fin 12) (l : Fin 128) :
    rStack q k (ix5 b p s h l) = if s.val = 0 then q (ix4 b p h l) * Ideal.ofBits .f32 0x3DB504F3#32 else k (ix4 b p h l) := by
  unfold rStack
  match s with
  | 0 => pointwise []
  | 1 => pointwise []

theorem rRope_apply (x : FVec Ideal S2x16384x12x128 .f32) (cs sn : FVec Ideal S16384x16 .f32) (P : ℕ → EReal) (f : ℕ)
    (b : Fin 2) (p : Fin 16384) (h : Fin 12) (l : Fin 128)
    (hx : ∀ l' : Fin 128, x (ix4 b p h l') = P (f + l'.val)) :
    rRope x cs sn (ix4 b p h l) = rot P (at2 cs p.val) (at2 sn p.val) (f + l.val) l.val := by
  unfold rRope
  pointwise []
  unfold rot
  by_cases h0 : l.val < 16
  · rw [dif_pos (show l.val < 32 by omega), dif_pos h0, if_pos h0]
    simp only [rA_apply, rB_apply, rT_apply, hx]
    refine congrArg₂ (· - ·) (congrArg₂ (· * ·) rfl (at2_ix cs p ⟨l.val, h0⟩).symm)
      (congrArg₂ (· * ·) (congrArg P ?_) (at2_ix sn p ⟨l.val, h0⟩).symm)
    omega
  · by_cases h1 : l.val < 32
    · rw [dif_pos h1, dif_neg h0, if_neg h0, if_pos h1]
      simp only [rA_apply, rB_apply, rT_apply, hx]
      refine congrArg₂ (· + ·) (congrArg₂ (· * ·) (congrArg P ?_) (at2_ix cs p ⟨l.val - 16, by omega⟩).symm)
        (congrArg₂ (· * ·) (congrArg P ?_) (at2_ix sn p ⟨l.val - 16, by omega⟩).symm)
      · omega
      · omega
    · rw [dif_neg h1, if_neg h0, if_neg h1, hx]
      refine congrArg P ?_
      dsimp only
      omega

/-- The stacked queries and keys, entry by entry. -/
theorem stack_eq (u : FVec Ideal S32768x2048 .bf16) (w : FVec Ideal S2048x11776 .f32) (cs sn : FVec Ideal S16384x16 .f32)
    (b : Fin 2) (p : Fin 16384) (s : Fin 2) (h : Fin 12) (l : Fin 128) :
    rStack (rRope (rQ (rX u w)) cs sn) (rRope (rK (rX u w)) cs sn) (ix5 b p s h l)
      = scl s.val (rot (fun g => proj (at2 u (b.val * 16384 + p.val)) (at2 w) (3072 + g)) (at2 cs p.val) (at2 sn p.val)
          (s.val * 1536 + h.val * 128 + l.val) l.val) := by
  rw [rStack_apply]
  unfold scl
  match s with
  | 0 =>
    refine (if_pos rfl).trans (Eq.trans ?_ (if_pos rfl).symm)
    refine congrArg (· * _) (rRope_apply (rQ (rX u w)) cs sn
      (fun g => proj (at2 u (b.val * 16384 + p.val)) (at2 w) (3072 + g)) (0 * 1536 + h.val * 128) b p h l fun l' => ?_)
    rw [rQ_apply, rX_apply]
    rfl
  | 1 =>
    refine (if_neg (by decide)).trans (Eq.trans ?_ (if_neg (by decide)).symm)
    refine rRope_apply (rK (rX u w)) cs sn
      (fun g => proj (at2 u (b.val * 16384 + p.val)) (at2 w) (3072 + g)) (1 * 1536 + h.val * 128) b p h l fun l' => ?_
    rw [rK_apply, rX_apply]
    rfl

/-- The reference's array is each token's queries and keys. -/
theorem ref_array (u : FVec Ideal S32768x2048 .bf16) (w : FVec Ideal S2048x11776 .f32) (cs sn : FVec Ideal S16384x16 .f32) :
    refQk u w cs sn = fun i : S32768x3072.Idx =>
      (qk (at2 u (i 0).val) (at2 w) cs sn ((i 0).val % 16384) (i 1).val : Elt Ideal .bf16) := by
  funext i
  obtain ⟨r, f, rfl⟩ : ∃ (r : Fin 32768) (f : Fin 3072), i = ix2 r f := ⟨i 0, i 1, eq_ix2 i⟩
  obtain ⟨b, p, hbp⟩ : ∃ (b : Fin 2) (p : Fin 16384), r.val = b.val * 16384 + p.val :=
    ⟨⟨r.val / 16384, by omega⟩, ⟨r.val % 16384, by omega⟩, by dsimp only; omega⟩
  obtain ⟨s, h, l, hf⟩ : ∃ (s : Fin 2) (h : Fin 12) (l : Fin 128), f.val = s.val * 1536 + h.val * 128 + l.val :=
    ⟨⟨f.val / 1536, by omega⟩, ⟨f.val % 1536 / 128, by omega⟩, ⟨f.val % 128, by omega⟩, by dsimp only; omega⟩
  refine (show refQk u w cs sn (ix2 r f) = shapeCast S32768x3072 (rStack (rRope (rQ (rX u w)) cs sn) (rRope (rK (rX u w)) cs sn))
    shapeCasts_S2x16384x2x12x128_S32768x3072 (ix2 r f) from rfl).trans ?_
  refine (shapeCast_apply _ _ _ (ix5 b p s h l) ?_).trans ?_
  · rw [Shape.rowMajor_val_two, Shape.rowMajor_val_five]
    simp
    omega
  have hl := l.isLt
  have hh := h.isLt
  have hs := s.isLt
  have e1 : r.val % 16384 = p.val := by omega
  have e2 : f.val / 1536 = s.val := by omega
  have e3 : f.val % 128 = l.val := by omega
  rw [stack_eq]
  show _ = qk (at2 u r.val) (at2 w) cs sn (r.val % 16384) f.val
  unfold qk
  rw [e1, e2, e3, ← hbp, ← hf]

end Ref

open Cert.Kernel8Ideal Cert.Kernel8Ideal.Gen in
/-- From equal arguments the two arrays are equal. -/
theorem claim_eq (m : (ℓ : Loc nD τ sig) → Buf (Elt Ideal) ℓ)
    (m' : (ℓ : Loc Cert.Reference8Ideal.nD Cert.Reference8Ideal.τ Cert.Reference8Ideal.sig) → Buf (Elt Ideal) ℓ)
    (c : Dev nD)
    (hu : m' ((c.tc : Thread Cert.Reference8Ideal.nD Cert.Reference8Ideal.τ).loc Cert.Reference8Ideal.main_arg0)
      = m ((c.tc : Thread nD τ).loc main_arg0))
    (hw : m' ((c.tc : Thread Cert.Reference8Ideal.nD Cert.Reference8Ideal.τ).loc Cert.Reference8Ideal.main_arg1)
      = m ((c.tc : Thread nD τ).loc main_arg1)) :
    Cert.Reference8Ideal.Value.res_out0 m' c = (dats m 0 c).arrAt 5 cfg0.N := by
  rw [val_array, res_eq, hu, hw]
  exact ref_array (arrU m c) (arrW m c) (Host.cos ang) (Host.sin ang)

end Cert.Qk
-- ==== Proof.HySpec.lean ====
/-
The inputs of the long convolution for one token, over the extended reals.
-/
module
public import proofs.«01_k».proof.Proof.FfnSpec

@[expose] public section

noncomputable section

namespace Cert.Hy
open Cert.Ffn (proj)

/-- Feature `C` of token `R`: its product with the column, and those of the tokens before and after it in its sequence of
    16384, nought outside, times the three taps, and the offset. -/
def hy (u w cw : ℕ → ℕ → EReal) (cb : ℕ → EReal) (R C : ℕ) : EReal :=
  (if R % 16384 = 0 then 0 else proj (u (R - 1)) w C) * cw 0 C + proj (u R) w C * cw 1 C
    + (if R % 16384 = 16383 then 0 else proj (u (R + 1)) w C) * cw 2 C + cb C

end Cert.Hy
-- ==== Proof.HyBlock.lean ====
/-
The blocks the call for the long convolution's inputs reads and the payloads of its body.
-/
module
public import proofs.«01_k».proof.Proof.Gen.Kernel9Ideal.Value
public import proofs.«01_k».proof.Proof.Coord
public import proofs.«01_k».proof.Proof.HySpec
public import Idealize.ShloMosaic.Lib.Pointwise
public import Idealize.ShloMosaic.Lib.Pipeline.ValueKit
public import Idealize.ShloMosaic.Lib.Pipeline.ReadBack

@[expose] public section

set_option maxRecDepth 16384
noncomputable section

open Idealize.ShloMosaic Idealize.ShloMosaic.TcCoe Idealize.SL.Sem
open Idealize.ShloMosaic.Pipeline (Dat)

namespace Cert.Hy
open Cert.Kernel9Ideal Cert.Kernel9Ideal.Gen Cert.Kernel9Ideal.Value
open Cert.Attn (at2 at2_eq at2_ix)
open Cert.Ffn (proj)

/-- The block of each window at each grid point: three blocks of columns for each block of rows. -/
theorem idx : ∀ t : Fin cfg0.N,
    win0_0.index t = ![t.val / 3, 0] ∧ win0_1.index t = ![t.val / 3 * 64 - 1, 0]
      ∧ win0_2.index t = ![min (t.val / 3 * 64 + 64) 2047, 0] ∧ win0_3.index t = ![0, t.val % 3]
      ∧ win0_4.index t = ![0, t.val % 3] ∧ win0_5.index t = ![0, t.val % 3] ∧ win0_6.index t = ![t.val % 3, t.val / 3, 0] :=
  (by decide +kernel : ∀ t : Fin grid0.N, _)

/-- The block of rows of a grid point. -/
theorem coord0 : ∀ t : Fin cfg0.N, ((grid0.coords t) 0).val = t.val / 3 :=
  (by decide +kernel : ∀ t : Fin grid0.N, _)

variable (m : (ℓ : Loc nD τ sig) → Buf (Elt Ideal) ℓ)

/-- The tokens. -/
def arrU (c : Dev nD) : FVec Ideal S32768x2048 .bf16 := m ((c.tc : Thread nD τ).loc main_arg0)

/-- The weight matrix of all the projections. -/
def arrW (c : Dev nD) : FVec Ideal S2048x11776 .f32 :=
  shapeCast S2048x11776 (m ((c.tc : Thread nD τ).loc main_arg1)) shapeCasts_S1x2048x11776_S2048x11776

/-- The taps. -/
def arrC (c : Dev nD) : FVec Ideal S3x3072 .f32 :=
  shapeCast S3x3072 (m ((c.tc : Thread nD τ).loc main_arg2)) shapeCasts_S1x3x3072_S3x3072

/-- The offsets. -/
def arrB (c : Dev nD) : FVec Ideal S1x3072 .f32 := m ((c.tc : Thread nD τ).loc main_arg3)

/-- The weights at the launch of the call: the first 3072 columns. -/
theorem V_w (c : Dev nD) : V m c main_v2
    = truncf .bf16 (extractStridedSlice S2048x3072 ![0, 0] (arrW m c) slices_S2048x11776_S2048x3072_0_0) bitsLt_bf16_f32 := by
  unfold V
  after_results
  try rfl

/-- The taps at the launch of the call. -/
theorem V_c (c : Dev nD) : V m c main_v9 = arrC m c := by
  unfold V
  after_results
  try rfl

theorem iblk0 (c : Dev nD) (t : Fin cfg0.N) (y : S1024x2048.Idx) :
    iblk m c 0 t y = at2 (arrU m c) (t.val / 3 * 1024 + (y 0).val) (y 1).val := by
  refine (show iblk m c 0 t y = arrU m c ((win0_0.blk t).view.emb y) from rfl).trans (at2_eq _ _ _ _ ?_ ?_)
  · blk_simp [idx t]
  · blk_simp [idx t]

theorem iblk1 (c : Dev nD) (t : Fin cfg0.N) (y : S16x2048.Idx) :
    iblk m c 1 t y = at2 (arrU m c) ((t.val / 3 * 64 - 1) * 16 + (y 0).val) (y 1).val := by
  refine (show iblk m c 1 t y = arrU m c ((win0_1.blk t).view.emb y) from rfl).trans (at2_eq _ _ _ _ ?_ ?_)
  · blk_simp [idx t]
  · blk_simp [idx t]

theorem iblk2 (c : Dev nD) (t : Fin cfg0.N) (y : S16x2048.Idx) :
    iblk m c 2 t y = at2 (arrU m c) (min (t.val / 3 * 64 + 64) 2047 * 16 + (y 0).val) (y 1).val := by
  refine (show iblk m c 2 t y = arrU m c ((win0_2.blk t).view.emb y) from rfl).trans (at2_eq _ _ _ _ ?_ ?_)
  · blk_simp [idx t]
  · blk_simp [idx t]

/-- An entry of the weights' columns. -/
theorem cols_apply (W : FVec Ideal S2048x11776 .f32) (i : S2048x3072.Idx) :
    truncf .bf16 (extractStridedSlice S2048x3072 ![0, 0] W slices_S2048x11776_S2048x3072_0_0) bitsLt_bf16_f32 i
      = at2 W (i 0).val (i 1).val := by
  obtain ⟨r, d, rfl⟩ : ∃ (r : Fin 2048) (d : Fin 3072), i = ix2 r d := ⟨i 0, i 1, eq_ix2 i⟩
  pointwise []
  refine at2_eq _ _ _ _ ?_ ?_
  · simp
  · simp

theorem iblk3 (c : Dev nD) (t : Fin cfg0.N) (y : S2048x1024.Idx) :
    iblk m c 3 t y = at2 (arrW m c) (y 0).val (t.val % 3 * 1024 + (y 1).val) := by
  refine ((show iblk m c 3 t y = V m c main_v2 ((win0_3.blk t).view.emb y) from rfl).trans
    (congrFun (V_w m c) _)).trans ((cols_apply _ _).trans (congrArg₂ (at2 (arrW m c)) ?_ ?_))
  · blk_simp [idx t]
  · blk_simp [idx t]

theorem iblk4 (c : Dev nD) (t : Fin cfg0.N) (y : S3x1024.Idx) :
    iblk m c 4 t y = at2 (arrC m c) (y 0).val (t.val % 3 * 1024 + (y 1).val) := by
  refine ((show iblk m c 4 t y = V m c main_v9 ((win0_4.blk t).view.emb y) from rfl).trans
    (congrFun (V_c m c) _)).trans (at2_eq _ _ _ _ ?_ ?_)
  · blk_simp [idx t]
  · blk_simp [idx t]

theorem iblk5 (c : Dev nD) (t : Fin cfg0.N) (y : S1x1024.Idx) :
    iblk m c 5 t y = at2 (arrB m c) (y 0).val (t.val % 3 * 1024 + (y 1).val) := by
  refine (show iblk m c 5 t y = arrB m c ((win0_5.blk t).view.emb y) from rfl).trans (at2_eq _ _ _ _ ?_ ?_)
  · blk_simp [idx t]
  · blk_simp [idx t]

/-- Row `a` of a block of taps. -/
def tap (x : Vec Ideal S3x1024 .f32) (a : Fin 3) : Vec Ideal S1x1024 .f32 := fun i => x (ix2 a (i 1))

theorem tap0 (x : Vec Ideal S3x1024 .f32) : View.ld x (Rect.unit ![0, 0] ![1, 1024] inb_S3x1024_S1x1024_0_0) = tap x 0 := by
  funext i
  obtain ⟨r, d, rfl⟩ : ∃ (r : Fin 1) (d : Fin 1024), i = ix2 r d := ⟨i 0, i 1, eq_ix2 i⟩
  exact congrArg x (funext (Fin.forall_fin_two.2 ⟨Fin.ext (by rw [Rect.idx_unit_val]; simp), Fin.ext (by rw [Rect.idx_unit_val]; simp)⟩))

theorem tap1 (x : Vec Ideal S3x1024 .f32) : View.ld x (Rect.unit ![1, 0] ![1, 1024] inb_S3x1024_S1x1024_1_0) = tap x 1 := by
  funext i
  obtain ⟨r, d, rfl⟩ : ∃ (r : Fin 1) (d : Fin 1024), i = ix2 r d := ⟨i 0, i 1, eq_ix2 i⟩
  exact congrArg x (funext (Fin.forall_fin_two.2 ⟨Fin.ext (by rw [Rect.idx_unit_val]; simp), Fin.ext (by rw [Rect.idx_unit_val]; simp)⟩))

theorem tap2 (x : Vec Ideal S3x1024 .f32) : View.ld x (Rect.unit ![2, 0] ![1, 1024] inb_S3x1024_S1x1024_2_0) = tap x 2 := by
  funext i
  obtain ⟨r, d, rfl⟩ : ∃ (r : Fin 1) (d : Fin 1024), i = ix2 r d := ⟨i 0, i 1, eq_ix2 i⟩
  exact congrArg x (funext (Fin.forall_fin_two.2 ⟨Fin.ext (by rw [Rect.idx_unit_val]; simp), Fin.ext (by rw [Rect.idx_unit_val]; simp)⟩))

/-- A row of the extended block that lies outside the sequence of the block. -/
def edge (n q : ℕ) : Prop := (q < 16 ∧ n % 16 = 0) ∨ (1040 ≤ q ∧ n % 16 = 15)

instance (n q : ℕ) : Decidable (edge n q) := by unfold edge; infer_instance

/-- The position of a block of rows in its sequence, as the body computes it. -/
def pos0 (n : ℕ) : BitVec 32 :=
  let v8 := Scalar.muli (BitVec.ofNat 32 n) 1024#32
  let v9 : BitVec 1 := Scalar.cmpi .eq 16384#32 0#32
  let v10 : BitVec 32 := Scalar.select v9 1#32 16384#32
  let v11 : BitVec 32 := Scalar.remsi v8 v10
  let v12 : BitVec 1 := Scalar.cmpi .ne v11 0#32
  let v13 : BitVec 1 := Scalar.cmpi .slt v11 0#32
  let v14 : BitVec 1 := Scalar.cmpi .slt v10 0#32
  let v15 : BitVec 1 := Scalar.xori v13 v14
  let v16 : BitVec 1 := Scalar.andi v15 v12
  let v17 : BitVec 32 := Scalar.addi v11 v10
  Scalar.select v16 v17 v11

/-- The bit that selects a row outside the sequence. -/
def edgeBit (n q : ℕ) : BitVec 1 :=
  Scalar.ori (Scalar.andi (Scalar.cmpi .slt (BitVec.ofNat 32 q) 16#32) (Scalar.cmpi .eq (pos0 n) 0#32))
    (Scalar.andi (Scalar.cmpi .sge (BitVec.ofNat 32 q) 1040#32) (Scalar.cmpi .eq (Scalar.addi (pos0 n) 1024#32) 16384#32))

/-- A row's products, selected by the bit. -/
theorem pay5_bit (i : grid0.Coords) (x : FVec Ideal S1056x2048 .bf16) (w : FVec Ideal S2048x1024 .bf16) (q : Fin 1056) (d : Fin 1024) :
    (k0_pay5 (F := Ideal) i x w (ix2 q d) : EReal)
      = if edgeBit (i 0).val q.val = 1#1 then 0 else ∑ k : Fin 2048, x (ix2 q k) * w (ix2 k d) := by
  unfold k0_pay5
  pointwise []
  rfl

theorem lowBit : ∀ q : Fin 1056, Scalar.cmpi .slt (BitVec.ofNat 32 q.val) 16#32 = if q.val < 16 then 1#1 else 0#1 := by
  decide +kernel

theorem highBit : ∀ q : Fin 1056, Scalar.cmpi .sge (BitVec.ofNat 32 q.val) 1040#32 = if 1040 ≤ q.val then 1#1 else 0#1 := by
  decide +kernel

theorem firstBit : ∀ n : Fin 32, Scalar.cmpi .eq (pos0 n.val) 0#32 = if n.val % 16 = 0 then 1#1 else 0#1 := by
  decide +kernel

theorem lastBit : ∀ n : Fin 32, Scalar.cmpi .eq (Scalar.addi (pos0 n.val) 1024#32) 16384#32 = if n.val % 16 = 15 then 1#1 else 0#1 := by
  decide +kernel

/-- The bit is set at the rows outside the sequence. -/
theorem edgeBit_iff (n : Fin 32) (q : Fin 1056) : edgeBit n.val q.val = 1#1 ↔ edge n.val q.val := by
  unfold edgeBit edge
  rw [lowBit, highBit, firstBit, lastBit]
  by_cases h1 : q.val < 16 <;> by_cases h2 : n.val % 16 = 0 <;> by_cases h3 : 1040 ≤ q.val <;> by_cases h4 : n.val % 16 = 15 <;>
    first
    | (exfalso; omega)
    | (simp only [h1, h2, h3, h4, if_true, if_false]; decide)

/-- A row's products, nought outside the sequence. -/
theorem pay5_apply (t : Fin cfg0.N) (x : FVec Ideal S1056x2048 .bf16) (w : FVec Ideal S2048x1024 .bf16) (q : Fin 1056) (d : Fin 1024) :
    (k0_pay5 (F := Ideal) (grid0.coords t) x w (ix2 q d) : EReal)
      = if edge (t.val / 3) q.val then 0 else ∑ k : Fin 2048, x (ix2 q k) * w (ix2 k d) := by
  have e := edgeBit_iff ((grid0.coords t) 0) q
  rw [pay5_bit]
  rw [coord0 t] at e ⊢
  exact if_congr e rfl rfl

/-- The rows turned down by one. -/
theorem pay6_apply (i : grid0.Coords) (x : FVec Ideal S1056x2048 .bf16) (w : FVec Ideal S2048x1024 .bf16) (q : Fin 1056) (d : Fin 1024) :
    (k0_pay6 (F := Ideal) i x w (ix2 q d) : EReal)
      = k0_pay5 (F := Ideal) i x w (ix2 ⟨(q.val + 1055) % 1056, Nat.mod_lt _ (by decide)⟩ d) := by
  unfold k0_pay6
  pointwise []
  exact congrArg _ (congrArg (fun q => ix2 q d) (Fin.ext (by dsimp only; omega)))

/-- The three taps and the offset. -/
theorem pay1_apply (x y : FVec Ideal S1056x1024 .f32) (a b c e : FVec Ideal S1x1024 .f32) (r : Fin 1024) (d : Fin 1024) :
    (k0_pay1 (F := Ideal) x y a b c e (ix3 0 r d) : EReal)
      = y (ix2 ⟨16 + r.val, by omega⟩ d) * a (ix2 0 d) + x (ix2 ⟨16 + r.val, by omega⟩ d) * b (ix2 0 d)
        + x (ix2 ⟨17 + r.val, by omega⟩ d) * c (ix2 0 d) + e (ix2 0 d) := by
  have h : (⟨(16 + r.val + 1056 - 1055) % 1056, Nat.mod_lt _ (by decide)⟩ : Fin 1056) = ⟨17 + r.val, by omega⟩ :=
    Fin.ext (by dsimp only; omega)
  unfold k0_pay1
  pointwise []
  rw [h]

end Cert.Hy
-- ==== Proof.HyValue.lean ====
/-
The array of the call for the long convolution's inputs.
-/
module
public import proofs.«01_k».proof.Proof.HyBlock

@[expose] public section

set_option maxRecDepth 16384
noncomputable section

open Idealize.ShloMosaic Idealize.ShloMosaic.TcCoe Idealize.SL.Sem
open Idealize.ShloMosaic.Pipeline (Dat)

namespace Cert.Hy
open Cert.Kernel9Ideal Cert.Kernel9Ideal.Gen Cert.Kernel9Ideal.Value
open Cert.Attn (at2 at2_eq at2_ix)
open Cert.Ffn (proj)

/-- The first store's payload is the block as it is read. -/
theorem pay2_eq (x : FVec Ideal S16x2048 .bf16) : k0_pay2 (F := Ideal) x = x := by
  unfold k0_pay2
  exact shapeCast_self _ _

theorem pay3_eq (x : FVec Ideal S1024x2048 .bf16) : k0_pay3 (F := Ideal) x = x := by
  unfold k0_pay3
  exact shapeCast_self _ _

theorem pay4_eq (x : FVec Ideal S16x2048 .bf16) : k0_pay4 (F := Ideal) x = x := by
  unfold k0_pay4
  exact shapeCast_self _ _

/-- The three stores into the buffer. -/
abbrev stores (p : FVec Ideal S16x2048 .bf16) (x : FVec Ideal S1024x2048 .bf16) (n : FVec Ideal S16x2048 .bf16) :
    List (View.Piece (Elt Ideal) S1056x2048 .bf16) :=
  [⟨Rect.unit ![1040, 0] ![16, 2048] inb_S1056x2048_S16x2048_1040_0, n⟩,
   ⟨Rect.unit ![16, 0] ![1024, 2048] inb_S1056x2048_S1024x2048_16_0, x⟩,
   ⟨Rect.unit ![0, 0] ![16, 2048] inb_S1056x2048_S16x2048_0_0, p⟩]

/-- The three stores leave the function that each of them is a block of. -/
theorem canon_stores (f : ℕ → ℕ → EReal) (p : FVec Ideal S16x2048 .bf16) (x : FVec Ideal S1024x2048 .bf16) (n : FVec Ideal S16x2048 .bf16)
    (hp : ∀ y, p y = f (y 0).val (y 1).val) (hx : ∀ y, x y = f (16 + (y 0).val) (y 1).val) (hn : ∀ y, n y = f (1040 + (y 0).val) (y 1).val)
    (q : Fin 1056) (k : Fin 2048) : View.canon (stores p x n) (ix2 q k) = f q.val k.val := by
  refine View.canon_append_of_piecesOf (fun i => f (i 0).val (i 1).val) [] (stores p x n) ⟨fun z => ?_, fun z => ?_, fun z => ?_, trivial⟩ _ ?_
  · refine (hn z).trans (congrArg₂ f ?_ ?_)
    · show _ = 1040 + 1 * (z 0).val
      omega
    · show _ = 0 + 1 * (z 1).val
      omega
  · refine (hx z).trans (congrArg₂ f ?_ ?_)
    · show _ = 16 + 1 * (z 0).val
      omega
    · show _ = 0 + 1 * (z 1).val
      omega
  · refine (hp z).trans (congrArg₂ f ?_ ?_)
    · show _ = 0 + 1 * (z 0).val
      omega
    · show _ = 0 + 1 * (z 1).val
      omega
  · have hk := k.isLt
    have hq := q.isLt
    by_cases h : q.val < 16
    · refine ⟨⟨Rect.unit ![0, 0] ![16, 2048] inb_S1056x2048_S16x2048_0_0, p⟩, List.mem_cons_of_mem _ (List.mem_cons_of_mem _ List.mem_cons_self),
          (Rect.mem_set_unit (inb := inb_S1056x2048_S16x2048_0_0)).2 (Fin.forall_fin_two.2 ⟨?_, ?_⟩)⟩
      · exact ⟨Nat.zero_le _, by simpa using h⟩
      · exact ⟨Nat.zero_le _, by simp⟩
    · by_cases h' : q.val < 1040
      · refine ⟨⟨Rect.unit ![16, 0] ![1024, 2048] inb_S1056x2048_S1024x2048_16_0, x⟩, List.mem_cons_of_mem _ List.mem_cons_self,
          (Rect.mem_set_unit (inb := inb_S1056x2048_S1024x2048_16_0)).2 (Fin.forall_fin_two.2 ⟨?_, ?_⟩)⟩
        · dsimp only [ix2]
          simp
          omega
        · simp
      · refine ⟨⟨Rect.unit ![1040, 0] ![16, 2048] inb_S1056x2048_S16x2048_1040_0, n⟩, List.mem_cons_self,
          (Rect.mem_set_unit (inb := inb_S1056x2048_S16x2048_1040_0)).2 (Fin.forall_fin_two.2 ⟨?_, ?_⟩)⟩
        · dsimp only [ix2]
          simp
          omega
        · simp

variable (m : (ℓ : Loc nD τ sig) → Buf (Elt Ideal) ℓ)

/-- One point's output over what the buffer holds. -/
def body (c : Dev nD) (t : Fin cfg0.N) (X : FVec Ideal S1056x2048 .bf16) : FVec Ideal S1x1024x1024 .bf16 :=
  k0_pay1 (k0_pay5 (grid0.coords t) X (iblk m c 3 t)) (k0_pay6 (grid0.coords t) X (iblk m c 3 t))
    (tap (iblk m c 4 t) 0) (tap (iblk m c 4 t) 1) (tap (iblk m c 4 t) 2) (iblk m c 5 t)

/-- What the point before left. -/
abbrev prev (c : Dev nD) (t : Fin cfg0.N) := outsAt0 m c (t.val - 1) (Nat.lt_of_le_of_lt (Nat.sub_le _ _) t.isLt)

/-- What the three stores leave at a point. -/
def filled (c : Dev nD) (t : Fin cfg0.N) : FVec Ideal S1056x2048 .bf16 :=
  View.canon (stores (iblk m c 1 t) (iblk m c 0 t) (iblk m c 2 t))

/-- A load of the whole buffer is what its stores leave. -/
theorem readCov_whole (L : List (View.Piece (Elt Ideal) S1056x2048 .bf16)) :
    (View.whole cc0_scratch0).readCov L (Rect.unit ![0, 0] ![1056, 2048] inb_S1056x2048_S1056x2048_0_0).toLoadRect = View.canon L :=
  (View.readCov_eq_canon' _ _ _).trans (View.ld_unit_lit inb_S1056x2048_S1056x2048_0_0 (View.canon L) (by decide))

theorem scr_A (c : Dev nD) (t : Fin cfg0.N) (h0 : t.val % 3 = 0) : (outsAt0 m c t.val t.isLt).2 = filled m c t := by
  rw [outsAt0_A m c t h0]
  dsimp only
  unfold sout0_A_0
  frame_out
  rw [pay2_eq, pay3_eq, pay4_eq]
  try rfl

theorem out_A (c : Dev nD) (t : Fin cfg0.N) (h0 : t.val % 3 = 0) : (outsAt0 m c t.val t.isLt).1 = body m c t (filled m c t) := by
  rw [outsAt0_A m c t h0]
  frame_out
  rw [pay2_eq, pay3_eq, pay4_eq, readCov_whole]
  unfold body
  rw [← tap0, ← tap1, ← tap2]
  try rfl

theorem out_B (c : Dev nD) (t : Fin cfg0.N) (h0 : ¬t.val % 3 = 0) : (outsAt0 m c t.val t.isLt).1 = body m c t (prev m c t).2 := by
  rw [outsAt0_B m c t h0]
  frame_out
  rw [read_unread_whole]
  unfold body
  rw [← tap0, ← tap1, ← tap2]
  try rfl

theorem scr_B (c : Dev nD) (t : Fin cfg0.N) (h0 : ¬t.val % 3 = 0) : (outsAt0 m c t.val t.isLt).2 = (prev m c t).2 := by
  rw [outsAt0_B m c t h0]
  rfl

/-- What the buffer holds for a block of rows: the sixteen rows of the block before, the block, sixteen rows of the block after. -/
def held (c : Dev nD) (n q k : ℕ) : EReal :=
  if q < 16 then at2 (arrU m c) ((n * 64 - 1) * 16 + q) k
  else if q < 1040 then at2 (arrU m c) (n * 1024 + (q - 16)) k
  else at2 (arrU m c) (min (n * 64 + 64) 2047 * 16 + (q - 1040)) k

theorem filled_apply (c : Dev nD) (t : Fin cfg0.N) (q : Fin 1056) (k : Fin 2048) :
    filled m c t (ix2 q k) = held m c (t.val / 3) q.val k.val := by
  refine canon_stores (held m c (t.val / 3)) _ _ _ (fun y => ?_) (fun y => ?_) (fun y => ?_) q k
  · have hy : (y 0).val < 16 := (y 0).isLt
    rw [iblk1]
    unfold held
    rw [if_pos hy]
  · have hy : (y 0).val < 1024 := (y 0).isLt
    rw [iblk0]
    unfold held
    rw [if_neg (by omega), if_pos (by omega), Nat.add_sub_cancel_left]
  · have hy : (y 0).val < 16 := (y 0).isLt
    rw [iblk2]
    unfold held
    rw [if_neg (by omega), if_neg (by omega), Nat.add_sub_cancel_left]

/-- The buffer at every point. -/
theorem scr_held (c : Dev nD) (n : ℕ) : ∀ hn : n < cfg0.N, ∀ (q : Fin 1056) (k : Fin 2048),
    (outsAt0 m c n hn).2 (ix2 q k) = held m c (n / 3) q.val k.val := by
  induction n with
  | zero =>
    intro hn q k
    rw [scr_A m c ⟨0, hn⟩ rfl]
    exact filled_apply m c ⟨0, hn⟩ q k
  | succ n ih =>
    intro hn q k
    by_cases h0 : (n + 1) % 3 = 0
    · rw [scr_A m c ⟨n + 1, hn⟩ h0]
      exact filled_apply m c ⟨n + 1, hn⟩ q k
    · rw [scr_B m c ⟨n + 1, hn⟩ h0, show (n + 1) / 3 = n / 3 by omega]
      exact ih (by omega) q k

/-- Every point's output is the body's over what the buffer holds for its block of rows. -/
theorem out_eq (c : Dev nD) (t : Fin cfg0.N) : ∃ X : FVec Ideal S1056x2048 .bf16,
    (∀ q k, X (ix2 q k) = held m c (t.val / 3) q.val k.val) ∧ (outsAt0 m c t.val t.isLt).1 = body m c t X := by
  by_cases h0 : t.val % 3 = 0
  · exact ⟨_, filled_apply m c t, out_A m c t h0⟩
  · refine ⟨_, fun q k => ?_, out_B m c t h0⟩
    rw [scr_held, show (t.val - 1) / 3 = t.val / 3 by omega]

/-- Inside the sequence the buffer holds the rows around the block. -/
theorem held_inside (c : Dev nD) (n q k : ℕ) (hn : n < 32) (h : ¬edge n q) : held m c n q k = at2 (arrU m c) (n * 1024 + q - 16) k := by
  unfold edge at h
  unfold held
  split_ifs with h1 h2
  · rw [show (n * 64 - 1) * 16 + q = n * 1024 + q - 16 by omega]
  · rw [show n * 1024 + (q - 16) = n * 1024 + q - 16 by omega]
  · rw [show min (n * 64 + 64) 2047 * 16 + (q - 1040) = n * 1024 + q - 16 by omega]

/-- A row's products over what the buffer holds. -/
theorem prod_held (c : Dev nD) (t : Fin cfg0.N) (X : FVec Ideal S1056x2048 .bf16)
    (hX : ∀ q k, X (ix2 q k) = held m c (t.val / 3) q.val k.val) (q : Fin 1056) (d : Fin 1024) :
    (k0_pay5 (F := Ideal) (grid0.coords t) X (iblk m c 3 t) (ix2 q d) : EReal)
      = if edge (t.val / 3) q.val then 0
        else proj (at2 (arrU m c) (t.val / 3 * 1024 + q.val - 16)) (at2 (arrW m c)) (t.val % 3 * 1024 + d.val) := by
  have hN : t.val < 96 := lt_of_lt_of_eq t.isLt (show cfg0.N = 96 from N_0)
  rw [pay5_apply]
  split_ifs with h
  · rfl
  · refine Finset.sum_congr rfl fun k _ => ?_
    rw [hX, iblk3, held_inside m c _ _ _ (by omega) h]
    rfl

/-- The output of a point. -/
theorem body_apply (c : Dev nD) (t : Fin cfg0.N) (X : FVec Ideal S1056x2048 .bf16)
    (hX : ∀ q k, X (ix2 q k) = held m c (t.val / 3) q.val k.val) (r : Fin 1024) (d : Fin 1024) :
    (body m c t X (ix3 0 r d) : EReal)
      = hy (at2 (arrU m c)) (at2 (arrW m c)) (at2 (arrC m c)) (at2 (arrB m c) 0) (t.val / 3 * 1024 + r.val) (t.val % 3 * 1024 + d.val) := by
  have hN : t.val < 96 := lt_of_lt_of_eq t.isLt (show cfg0.N = 96 from N_0)
  have hr := r.isLt
  unfold body
  rw [pay1_apply, pay6_apply, prod_held m c t X hX, prod_held m c t X hX, prod_held m c t X hX]
  unfold hy tap
  rw [iblk4, iblk4, iblk4, iblk5]
  dsimp only
  refine congrArg₂ (· + ·) (congrArg₂ (· + ·) (congrArg₂ (· + ·) (congrArg₂ (· * ·) ?_ rfl) (congrArg₂ (· * ·) ?_ rfl))
    (congrArg₂ (· * ·) ?_ rfl)) rfl
  · refine if_congr ?_ rfl ?_
    · unfold edge
      omega
    · rw [show t.val / 3 * 1024 + (16 + r.val + 1055) % 1056 - 16 = t.val / 3 * 1024 + r.val - 1 by omega]
  · rw [if_neg (by unfold edge; omega), show t.val / 3 * 1024 + (16 + r.val) - 16 = t.val / 3 * 1024 + r.val by omega]
  · refine if_congr ?_ rfl ?_
    · unfold edge
      omega
    · rw [show t.val / 3 * 1024 + (17 + r.val) - 16 = t.val / 3 * 1024 + r.val + 1 by omega]

/-- The call's result. -/
theorem hy_array (c : Dev nD) : (dats m 0 c).arrAt 6 cfg0.N
    = fun i : S3x32768x1024.Idx => (hy (at2 (arrU m c)) (at2 (arrW m c)) (at2 (arrC m c)) (at2 (arrB m c) 0) (i 1).val
        ((i 0).val * 1024 + (i 2).val) : Elt Ideal .bf16) := by
  refine (dats m 0 c).arrAt_eq_of_covers 6 _ (by decide +kernel) fun t hf y => ?_
  rw [after0_6]
  obtain ⟨z, r, d, rfl⟩ : ∃ (z : Fin 1) (r : Fin 1024) (d : Fin 1024), y = ix3 z r d := ⟨y 0, y 1, y 2, eq_ix3 y⟩
  obtain rfl : z = 0 := Subsingleton.elim _ _
  have e0 : ((((cfg0.win 6).blk t).view.emb (ix3 0 r d)) 0 : ℕ) = t.val % 3 := by
    blk_simp [idx t]
    try rfl
  have e1 : ((((cfg0.win 6).blk t).view.emb (ix3 0 r d)) 1 : ℕ) = t.val / 3 * 1024 + r.val := by
    blk_simp [idx t]
  have e2 : ((((cfg0.win 6).blk t).view.emb (ix3 0 r d)) 2 : ℕ) = d.val := by
    blk_simp [idx t]
  obtain ⟨X, hX, h⟩ := out_eq m c t
  rw [h]
  refine (body_apply m c t X hX r d).trans ?_
  dsimp only
  rw [e0, e1, e2]

end Cert.Hy
-- ==== Proof.HyClaim.lean ====
/-
The reference's inputs of the long convolution, and the two arrays compared.
-/
module
public import proofs.«01_k».proof.Proof.HyValue
public import proofs.«01_k».proof.Proof.Gen.Reference9Ideal.Run
public import Idealize.ShloMosaic.Lib.KernelVsHost

@[expose] public section

set_option maxRecDepth 16384
noncomputable section

open Idealize.ShloMosaic Idealize.ShloMosaic.TcCoe Idealize.SL.Sem

namespace Cert.Hy
open Cert.Attn (at2 at2_eq at2_ix)
open Cert.Ffn (proj)

section Ref
open Cert.Reference9Ideal Cert.Reference9Ideal.Gen

/-- The projected features. -/
def rX (u : FVec Ideal S32768x2048 .bf16) (w : FVec Ideal S2048x11776 .f32) : FVec Ideal S2x16384x3072 .f32 :=
  extractStridedSlice S2x16384x3072 ![0, 0, 0] (shapeCast _ (Host.dotGeneral (F := Ideal)
    dot_S32768x2048_S2048x11776_S32768x11776_1_0_0_1_n_n none (extf .f32 u bitsLt_bf16_f32) w)
    shapeCasts_S32768x11776_S2x16384x11776) slices_S2x16384x11776_S2x16384x3072_0_0_0

/-- One row of noughts before each sequence and one after it. -/
def rPad (x : FVec Ideal S2x16384x3072 .f32) : FVec Ideal S2x16386x3072 .f32 :=
  pad S2x16386x3072 ![0, 1, 0] ![0, 1, 0] ![0, 0, 0] x (sitofp (F := Ideal) .f32 (constantI S_ 32 0#32))
    pads_S2x16384x3072_S2x16386x3072_000_110_000 h_S_

/-- A row of features, at every token. -/
def rAll (x : FVec Ideal S3072 .f32) : FVec Ideal S2x16384x3072 .f32 :=
  broadcastInDim S2x16384x3072 ![0, 1, 2] bcast_S1x1x3072_S2x16384x3072_0_1_2
    (broadcastInDim S1x1x3072 ![2] bcast_S3072_S1x1x3072_2 x)

def rC0 (x : FVec Ideal S3x3072 .f32) : FVec Ideal S3072 .f32 :=
  shapeCast _ (extractStridedSlice S1x3072 ![0, 0] x slices_S3x3072_S1x3072_0_0) shapeCasts_S1x3072_S3072

def rC1 (x : FVec Ideal S3x3072 .f32) : FVec Ideal S3072 .f32 :=
  shapeCast _ (extractStridedSlice S1x3072 ![1, 0] x slices_S3x3072_S1x3072_1_0) shapeCasts_S1x3072_S3072

def rC2 (x : FVec Ideal S3x3072 .f32) : FVec Ideal S3072 .f32 :=
  shapeCast _ (extractStridedSlice S1x3072 ![2, 0] x slices_S3x3072_S1x3072_2_0) shapeCasts_S1x3072_S3072

def rB (x : FVec Ideal S1x3072 .f32) : FVec Ideal S3072 .f32 := shapeCast _ x shapeCasts_S1x3072_S3072

/-- The short convolution. -/
def rY (x : FVec Ideal S2x16386x3072 .f32) (a b c e : FVec Ideal S2x16384x3072 .f32) : FVec Ideal S2x16384x3072 .f32 :=
  addf (addf (addf (mulf (extractStridedSlice S2x16384x3072 ![0, 0, 0] x slices_S2x16386x3072_S2x16384x3072_0_0_0) a)
    (mulf (extractStridedSlice S2x16384x3072 ![0, 1, 0] x slices_S2x16386x3072_S2x16384x3072_0_1_0) b))
    (mulf (extractStridedSlice S2x16384x3072 ![0, 2, 0] x slices_S2x16386x3072_S2x16384x3072_0_2_0) c)) e

/-- The three outputs, one behind another. -/
def rStack (y : FVec Ideal S32768x3072 .f32) : FVec Ideal S3x32768x1024 .f32 :=
  concatenate S3x32768x1024 0
    [⟨S1x32768x1024, broadcastInDim S1x32768x1024 ![1, 2] bcast_S32768x1024_S1x32768x1024_1_2
        (extractStridedSlice S32768x1024 ![0, 0] y slices_S32768x3072_S32768x1024_0_0)⟩,
      ⟨S1x32768x1024, broadcastInDim S1x32768x1024 ![1, 2] bcast_S32768x1024_S1x32768x1024_1_2
        (extractStridedSlice S32768x1024 ![0, 1024] y slices_S32768x3072_S32768x1024_0_1024)⟩,
      ⟨S1x32768x1024, broadcastInDim S1x32768x1024 ![1, 2] bcast_S32768x1024_S1x32768x1024_1_2
        (extractStridedSlice S32768x1024 ![0, 2048] y slices_S32768x3072_S32768x1024_0_2048)⟩]
    concatenates_S1x32768x1024_S1x32768x1024_S1x32768x1024_S3x32768x1024_d0

/-- The reference's array, from its arguments. -/
def refHy (u : FVec Ideal S32768x2048 .bf16) (w : FVec Ideal S2048x11776 .f32) (cw : FVec Ideal S3x3072 .f32)
    (cb : FVec Ideal S1x3072 .f32) : FVec Ideal S3x32768x1024 .bf16 :=
  truncf .bf16 (rStack (shapeCast _ (rY (rPad (rX u w)) (rAll (rC0 cw)) (rAll (rC1 cw)) (rAll (rC2 cw)) (rAll (rB cb)))
    shapeCasts_S2x16384x3072_S32768x3072)) bitsLt_bf16_f32

open Cert.Reference9Ideal.Value in
theorem res_eq (m : (ℓ : Loc nD τ sig) → Buf (Elt Ideal) ℓ) (c : Dev nD) : res_out0 m c
    = refHy (m ((c.tc : Thread nD τ).loc main_arg0))
        (shapeCast _ (m ((c.tc : Thread nD τ).loc main_arg1)) shapeCasts_S1x2048x11776_S2048x11776)
        (shapeCast _ (m ((c.tc : Thread nD τ).loc main_arg2)) shapeCasts_S1x3x3072_S3x3072)
        (m ((c.tc : Thread nD τ).loc main_arg3)) := by
  unfold res_out0 res_main_v39
  rfl

theorem rX_apply (u : FVec Ideal S32768x2048 .bf16) (w : FVec Ideal S2048x11776 .f32) (b : Fin 2) (p : Fin 16384) (C : Fin 3072) :
    rX u w (ix3 b p C) = proj (at2 u (b.val * 16384 + p.val)) (at2 w) C.val := by
  unfold rX
  refine (show _ = shapeCast S2x16384x11776 (Host.dotGeneral (F := Ideal)
    dot_S32768x2048_S2048x11776_S32768x11776_1_0_0_1_n_n none (extf .f32 u bitsLt_bf16_f32) w)
    shapeCasts_S32768x11776_S2x16384x11776 (ix3 b p (⟨C.val, by omega⟩ : Fin 11776)) from by pointwise []).trans ?_
  refine (shapeCast_apply _ _ _ (ix2 (⟨b.val * 16384 + p.val, by omega⟩ : Fin 32768) (⟨C.val, by omega⟩ : Fin 11776)) ?_).trans ?_
  · rw [Shape.rowMajor_val_two, Shape.rowMajor_val_three]
    simp
  · pointwise []
    exact Finset.sum_congr rfl fun k _ => congrArg₂ (· * ·) (at2_eq u _ _ _ rfl rfl) (at2_eq w _ _ _ rfl rfl)

theorem rPad_in (x : FVec Ideal S2x16384x3072 .f32) (b : Fin 2) (q : Fin 16386) (p : Fin 16384) (C : Fin 3072) (h : q.val = p.val + 1) :
    rPad x (ix3 b q C) = x (ix3 b p C) := by
  unfold rPad
  refine pad_apply_of_inside _ _ _ _ _ _ _ _ (ix3 b p C) (Fin.forall_fin_succ.2 ⟨?_, Fin.forall_fin_two.2 ⟨?_, ?_⟩⟩)
  · show b.val = 0 + b.val * (0 + 1)
    omega
  · show q.val = 1 + p.val * (0 + 1)
    omega
  · show C.val = 0 + C.val * (0 + 1)
    omega

theorem rPad_out (x : FVec Ideal S2x16384x3072 .f32) (b : Fin 2) (q : Fin 16386) (C : Fin 3072) (h : q.val = 0 ∨ q.val = 16385) :
    (rPad x (ix3 b q C) : EReal) = 0 := by
  unfold rPad
  refine (pad_apply_of_not_inside _ _ _ _ _ _ _ _ 1 ?_).trans ?_
  · show ¬(1 ≤ q.val ∧ (q.val - 1) % (0 + 1) = 0 ∧ (q.val - 1) / (0 + 1) < 16384)
    omega
  · show (((0#32 : BitVec 32).toInt : ℝ) : EReal) = 0
    simp

theorem rAll_apply (x : FVec Ideal S3072 .f32) (b : Fin 2) (p : Fin 16384) (C : Fin 3072) : rAll x (ix3 b p C) = x (ix1 C) := by
  unfold rAll
  pointwise []

theorem rC0_apply (x : FVec Ideal S3x3072 .f32) (C : Fin 3072) : rC0 x (ix1 C) = at2 x 0 C.val := by
  unfold rC0
  pointwise []
  exact at2_eq x _ _ _ rfl (by simp)

theorem rC1_apply (x : FVec Ideal S3x3072 .f32) (C : Fin 3072) : rC1 x (ix1 C) = at2 x 1 C.val := by
  unfold rC1
  pointwise []
  exact at2_eq x _ _ _ rfl (by simp)

theorem rC2_apply (x : FVec Ideal S3x3072 .f32) (C : Fin 3072) : rC2 x (ix1 C) = at2 x 2 C.val := by
  unfold rC2
  pointwise []
  exact at2_eq x _ _ _ rfl (by simp)

theorem rB_apply (x : FVec Ideal S1x3072 .f32) (C : Fin 3072) : rB x (ix1 C) = at2 x 0 C.val := by
  unfold rB
  pointwise []
  exact at2_eq x _ _ _ rfl (by simp)

theorem rY_apply (x : FVec Ideal S2x16386x3072 .f32) (a b c e : FVec Ideal S2x16384x3072 .f32) (i : Fin 2) (p : Fin 16384) (C : Fin 3072) :
    (rY x a b c e (ix3 i p C) : EReal) = x (ix3 i (⟨p.val, by omega⟩ : Fin 16386) C) * a (ix3 i p C)
      + x (ix3 i (⟨1 + p.val, by omega⟩ : Fin 16386) C) * b (ix3 i p C)
      + x (ix3 i (⟨2 + p.val, by omega⟩ : Fin 16386) C) * c (ix3 i p C) + e (ix3 i p C) := by
  unfold rY
  pointwise []

theorem rStack_apply (y : FVec Ideal S32768x3072 .f32) (s : Fin 3) (R : Fin 32768) (d : Fin 1024) :
    rStack y (ix3 s R d) = y (ix2 R (⟨s.val * 1024 + d.val, by omega⟩ : Fin 3072)) := by
  unfold rStack
  match s with
  | 0 =>
    pointwise []
    try exact congrArg y (congrArg (ix2 R) (Fin.ext (by simp)))
  | 1 =>
    pointwise []
    try exact congrArg y (congrArg (ix2 R) (Fin.ext (by simp)))
  | 2 =>
    pointwise []
    try exact congrArg y (congrArg (ix2 R) (Fin.ext (by simp)))

/-- The reference's array is each token's inputs. -/
theorem ref_array (u : FVec Ideal S32768x2048 .bf16) (w : FVec Ideal S2048x11776 .f32) (cw : FVec Ideal S3x3072 .f32)
    (cb : FVec Ideal S1x3072 .f32) : refHy u w cw cb = fun i : S3x32768x1024.Idx =>
      (hy (at2 u) (at2 w) (at2 cw) (at2 cb 0) (i 1).val ((i 0).val * 1024 + (i 2).val) : Elt Ideal .bf16) := by
  funext i
  obtain ⟨s, R, d, rfl⟩ : ∃ (s : Fin 3) (R : Fin 32768) (d : Fin 1024), i = ix3 s R d := ⟨i 0, i 1, i 2, eq_ix3 i⟩
  obtain ⟨b, p, hbp⟩ : ∃ (b : Fin 2) (p : Fin 16384), R.val = b.val * 16384 + p.val :=
    ⟨⟨R.val / 16384, by omega⟩, ⟨R.val % 16384, by omega⟩, by dsimp only; omega⟩
  have hs := s.isLt
  have hd := d.isLt
  have hp := p.isLt
  obtain ⟨C, hC⟩ : ∃ C : Fin 3072, C.val = s.val * 1024 + d.val := ⟨⟨s.val * 1024 + d.val, by omega⟩, rfl⟩
  refine (show refHy u w cw cb (ix3 s R d) = rStack (shapeCast S32768x3072 (rY (rPad (rX u w)) (rAll (rC0 cw)) (rAll (rC1 cw))
    (rAll (rC2 cw)) (rAll (rB cb))) shapeCasts_S2x16384x3072_S32768x3072) (ix3 s R d) from rfl).trans ?_
  rw [rStack_apply]
  refine (shapeCast_apply _ _ _ (ix3 b p C) ?_).trans ?_
  · rw [Shape.rowMajor_val_two, Shape.rowMajor_val_three]
    simp
    omega
  rw [rY_apply]
  simp only [rAll_apply, rC0_apply, rC1_apply, rC2_apply, rB_apply]
  show _ = hy (at2 u) (at2 w) (at2 cw) (at2 cb 0) R.val (s.val * 1024 + d.val)
  rw [← hC]
  unfold hy
  refine congrArg₂ (· + ·) (congrArg₂ (· + ·) (congrArg₂ (· + ·) (congrArg₂ (· * ·) ?_ rfl) (congrArg₂ (· * ·) ?_ rfl))
    (congrArg₂ (· * ·) ?_ rfl)) rfl
  · by_cases h : p.val = 0
    · rw [if_pos (by omega)]
      exact rPad_out _ _ _ _ (Or.inl h)
    · rw [if_neg (by omega), rPad_in _ b _ (⟨p.val - 1, by omega⟩ : Fin 16384) C (by dsimp only; omega), rX_apply]
      rw [show b.val * 16384 + (p.val - 1) = R.val - 1 by omega]
  · rw [rPad_in _ b _ p C (by dsimp only; omega), rX_apply, hbp]
  · by_cases h : p.val = 16383
    · rw [if_pos (by omega)]
      exact rPad_out _ _ _ _ (Or.inr (by dsimp only; omega))
    · rw [if_neg (by omega), rPad_in _ b _ (⟨p.val + 1, by omega⟩ : Fin 16384) C (by dsimp only; omega), rX_apply]
      rw [show b.val * 16384 + (p.val + 1) = R.val + 1 by omega]

end Ref

open Cert.Kernel9Ideal Cert.Kernel9Ideal.Gen in
/-- From equal arguments the two arrays are equal. -/
theorem claim_eq (m : (ℓ : Loc nD τ sig) → Buf (Elt Ideal) ℓ)
    (m' : (ℓ : Loc Cert.Reference9Ideal.nD Cert.Reference9Ideal.τ Cert.Reference9Ideal.sig) → Buf (Elt Ideal) ℓ)
    (c : Dev nD)
    (hu : m' ((c.tc : Thread Cert.Reference9Ideal.nD Cert.Reference9Ideal.τ).loc Cert.Reference9Ideal.main_arg0)
      = m ((c.tc : Thread nD τ).loc main_arg0))
    (hw : m' ((c.tc : Thread Cert.Reference9Ideal.nD Cert.Reference9Ideal.τ).loc Cert.Reference9Ideal.main_arg1)
      = m ((c.tc : Thread nD τ).loc main_arg1))
    (hc : m' ((c.tc : Thread Cert.Reference9Ideal.nD Cert.Reference9Ideal.τ).loc Cert.Reference9Ideal.main_arg2)
      = m ((c.tc : Thread nD τ).loc main_arg2))
    (hb : m' ((c.tc : Thread Cert.Reference9Ideal.nD Cert.Reference9Ideal.τ).loc Cert.Reference9Ideal.main_arg3)
      = m ((c.tc : Thread nD τ).loc main_arg3)) :
    Cert.Reference9Ideal.Value.res_out0 m' c = (dats m 0 c).arrAt 6 cfg0.N := by
  rw [hy_array, res_eq, hu, hw, hc, hb]
  exact ref_array (arrU m c) (arrW m c) (arrC m c) (arrB m c)

end Cert.Hy
-- ==== Proof.lean ====
/-
The proof of the certificate's claims: the attention call, the two feed-forward calls, the projections and the merge.
-/
module

public import proofs.«01_k».proof.Defs
public import proofs.«01_k».proof.Proof.Gen.Kernel.Frame
public import proofs.«01_k».proof.Proof.AttnClaim
public import proofs.«01_k».proof.Proof.Gen.ReferenceIdeal.Run
public import proofs.«01_k».proof.Proof.Gen.Kernel2.Frame
public import proofs.«01_k».proof.Proof.FfnClaim
public import proofs.«01_k».proof.Proof.Gen.Kernel3.Frame
public import proofs.«01_k».proof.Proof.Gen.Kernel3Ideal.Value
public import proofs.«01_k».proof.Proof.Ffn1Claim
public import proofs.«01_k».proof.Proof.Gen.Reference3Ideal.Run
public import proofs.«01_k».proof.Proof.Gen.Kernel4.Frame
public import proofs.«01_k».proof.Proof.Gen.Kernel4Ideal.Value
public import proofs.«01_k».proof.Proof.FfnSClaim
public import proofs.«01_k».proof.Proof.Gen.Reference4Ideal.Run
public import proofs.«01_k».proof.Proof.Gen.Kernel5.Frame
public import proofs.«01_k».proof.Proof.Gen.Kernel5Ideal.Value
public import proofs.«01_k».proof.Proof.GateValue
public import proofs.«01_k».proof.Proof.Gen.Reference5Ideal.Run
public import proofs.«01_k».proof.Proof.Gen.Kernel6.Frame
public import proofs.«01_k».proof.Proof.Gen.Kernel6Ideal.Value
public import proofs.«01_k».proof.Proof.ValValue
public import proofs.«01_k».proof.Proof.Gen.Reference6Ideal.Run
public import proofs.«01_k».proof.Proof.Gen.Kernel7.Frame
public import proofs.«01_k».proof.Proof.Gen.Kernel7Ideal.Frame
public import proofs.«01_k».proof.Proof.MergeClaim
public import proofs.«01_k».proof.Proof.MergeRun
public import proofs.«01_k».proof.Proof.Gen.Reference7Ideal.Run
public import proofs.«01_k».proof.Proof.Gen.Kernel8.Frame
public import proofs.«01_k».proof.Proof.Gen.Kernel8Ideal.Value
public import proofs.«01_k».proof.Proof.QkRef
public import proofs.«01_k».proof.Proof.Gen.Reference8Ideal.Run
public import proofs.«01_k».proof.Proof.Gen.Kernel9.Frame
public import proofs.«01_k».proof.Proof.Gen.Kernel9Ideal.Value
public import proofs.«01_k».proof.Proof.HyClaim
public import proofs.«01_k».proof.Proof.Gen.Reference9Ideal.Run
public import Idealize.ShloMosaic.Lib.Claim

@[expose] public section

noncomputable section

namespace Cert.Proof

open Idealize.ShloMosaic Idealize.SL.Sem

/-- The attention call runs to completion, its arguments kept. -/
theorem frame_kernel : @Cert.quiescent_Kernel Cert.Kernel.Gen.facts := by
  intro m g _
  exact Cert.Kernel.Gen.frame m g

theorem frame_kernelIdeal : @Cert.quiescent_KernelIdeal Cert.KernelIdeal.Gen.facts := by
  intro m g _
  exact Cert.KernelIdeal.Gen.frame m g

theorem frame_kernelIdeal_pre :
    @Cert.quiescent_KernelIdeal_pre_finite_scores Cert.KernelIdeal.Gen.facts Cert.Attn.preFacts := by
  intro m g _
  exact Cert.KernelIdeal.Gen.frame m g

/-- The reference runs to completion, its arguments kept; it has no semaphore. -/
theorem frame_referenceIdeal : @Cert.quiescent_ReferenceIdeal Cert.ReferenceIdeal.Gen.facts := fun m g _ =>
  (θ_run Cert.ReferenceIdeal.defs _ _).mono
    (fun r h => ⟨fun c => (h c).2.2, sem_eq_zero_of_no_sems (by decide) r.2⟩) (Cert.ReferenceIdeal.Value.run m g)

theorem frame_referenceIdeal_pre :
    @Cert.quiescent_ReferenceIdeal_pre_finite_scores Cert.ReferenceIdeal.Gen.facts Cert.Attn.preFacts := by
  intro m g _
  exact frame_referenceIdeal m g trivial

/-- The mask constant is named as minus infinity. -/
theorem preserves : Cert.preserves_Kernel_KernelIdeal :=
  IdealRules.named_const.statement Cert.KernelIdeal.κ "mask" .f32 0xF149F2CA#32 ⊥ rfl

/-- On finite queries and keys the attention call and the reference end with equal arrays. -/
theorem algebraic : @Cert.algebraic_KernelIdeal_ReferenceIdeal_pre_finite_scores Cert.KernelIdeal.Gen.facts
    Cert.ReferenceIdeal.Gen.facts Cert.Attn.preFacts := by
  pair_intro
  · run_from Cert.KernelIdeal.Value.run_blocks m g
  · run_from Cert.ReferenceIdeal.Value.run m' g'
    · rw [Cert.ReferenceIdeal.Read.val_main_v94_eq, (hagree c).1, (hagree c).2]
      exact Cert.Attn.out_eq m c (Cert.Attn.finite_entries _ _ (hpre c))
    · rw [Cert.ReferenceIdeal.Read.val_main_v96_eq, (hagree c).1]
      exact Cert.Attn.lse_eq m c

/-- The second feed-forward call runs to completion, its arguments kept. -/
theorem frame_kernel2 : @Cert.quiescent_Kernel2 Cert.Kernel2.Gen.facts := by
  intro m g _
  exact Cert.Kernel2.Gen.frame m g

theorem frame_kernel2Ideal : @Cert.quiescent_Kernel2Ideal Cert.Kernel2Ideal.Gen.facts := by
  intro m g _
  exact Cert.Kernel2Ideal.Gen.frame m g

/-- Its reference runs to completion, its arguments kept; it has no semaphore. -/
theorem frame_reference2Ideal : @Cert.quiescent_Reference2Ideal Cert.Reference2Ideal.Gen.facts := fun m g _ =>
  (θ_run Cert.Reference2Ideal.defs _ _).mono
    (fun r h => ⟨fun c => (h c).2, sem_eq_zero_of_no_sems (by decide) r.2⟩) (Cert.Reference2Ideal.Value.run m g)

/-- No operation of the second feed-forward call is rewritten. -/
theorem preserves2 : Cert.preserves_Kernel2_Kernel2Ideal := trivial

/-- The second feed-forward call and its reference end with equal arrays, whatever the arguments. -/
theorem algebraic2 : @Cert.algebraic_Kernel2Ideal_Reference2Ideal Cert.Kernel2Ideal.Gen.facts Cert.Reference2Ideal.Gen.facts := by
  pair_intro
  · run_from Cert.Kernel2Ideal.Value.run_blocks m g
  · run_from Cert.Reference2Ideal.Value.run m' g'
    obtain ⟨a0, a1, a2, a3, a4, a5⟩ := hagree c
    exact Cert.Ffn.out_eq m m' c a0 a1 a2 a3 a4 a5

/-- The first feed-forward call runs to completion, its arguments kept. -/
theorem frame_kernel3 : @Cert.quiescent_Kernel3 Cert.Kernel3.Gen.facts := by
  intro m g _
  exact Cert.Kernel3.Gen.frame m g

theorem frame_kernel3Ideal : @Cert.quiescent_Kernel3Ideal Cert.Kernel3Ideal.Gen.facts := by
  intro m g _
  exact Cert.Kernel3Ideal.Gen.frame m g

/-- Its reference runs to completion, its arguments kept; it has no semaphore. -/
theorem frame_reference3Ideal : @Cert.quiescent_Reference3Ideal Cert.Reference3Ideal.Gen.facts := fun m g _ =>
  (θ_run Cert.Reference3Ideal.defs _ _).mono
    (fun r h => ⟨fun c => (h c).2.2, sem_eq_zero_of_no_sems (by decide) r.2⟩) (Cert.Reference3Ideal.Value.run m g)

/-- No operation of the first feed-forward call is rewritten. -/
theorem preserves3 : Cert.preserves_Kernel3_Kernel3Ideal := trivial

/-- The first feed-forward call and its reference end with equal arrays, whatever the arguments. -/
theorem algebraic3 : @Cert.algebraic_Kernel3Ideal_Reference3Ideal Cert.Kernel3Ideal.Gen.facts Cert.Reference3Ideal.Gen.facts := by
  pair_intro
  · run_from Cert.Kernel3Ideal.Value.run_blocks m g
  · run_from Cert.Reference3Ideal.Value.run m' g'
    · obtain ⟨a0, a1, a2, a3, a4, a5, a6⟩ := hagree c
      exact Cert.Ffn1.tok_eq m m' c a0 a1 a2 a3 a4 a5
    · obtain ⟨a0, a1, a2, a3, a4, a5, a6⟩ := hagree c
      exact Cert.Ffn1.nrm_eq m m' c a0 a1 a2 a3 a4 a5 a6

/-- The second feed-forward call runs to completion on the second batch, its arguments kept. -/
theorem frame_kernel4 : @Cert.quiescent_Kernel4 Cert.Kernel4.Gen.facts := by
  intro m g _
  exact Cert.Kernel4.Gen.frame m g

theorem frame_kernel4Ideal : @Cert.quiescent_Kernel4Ideal Cert.Kernel4Ideal.Gen.facts := by
  intro m g _
  exact Cert.Kernel4Ideal.Gen.frame m g

/-- Its reference runs to completion, its arguments kept; it has no semaphore. -/
theorem frame_reference4Ideal : @Cert.quiescent_Reference4Ideal Cert.Reference4Ideal.Gen.facts := fun m g _ =>
  (θ_run Cert.Reference4Ideal.defs _ _).mono
    (fun r h => ⟨fun c => (h c).2, sem_eq_zero_of_no_sems (by decide) r.2⟩) (Cert.Reference4Ideal.Value.run m g)

/-- No operation of it is rewritten. -/
theorem preserves4 : Cert.preserves_Kernel4_Kernel4Ideal := trivial

/-- On the second batch too the second feed-forward call and its reference end with equal arrays. -/
theorem algebraic4 : @Cert.algebraic_Kernel4Ideal_Reference4Ideal Cert.Kernel4Ideal.Gen.facts Cert.Reference4Ideal.Gen.facts := by
  pair_intro
  · run_from Cert.Kernel4Ideal.Value.run_blocks m g
  · run_from Cert.Reference4Ideal.Value.run m' g'
    obtain ⟨a0, a1, a2, a3, a4, a5⟩ := hagree c
    exact Cert.FfnS.out_eq m m' c a0 a1 a2 a3 a4 a5

/-- The projection to the gates runs to completion, its arguments kept. -/
theorem frame_kernel5 : @Cert.quiescent_Kernel5 Cert.Kernel5.Gen.facts := by
  intro m g _
  exact Cert.Kernel5.Gen.frame m g

theorem frame_kernel5Ideal : @Cert.quiescent_Kernel5Ideal Cert.Kernel5Ideal.Gen.facts := by
  intro m g _
  exact Cert.Kernel5Ideal.Gen.frame m g

/-- Its reference runs to completion, its arguments kept; it has no semaphore. -/
theorem frame_reference5Ideal : @Cert.quiescent_Reference5Ideal Cert.Reference5Ideal.Gen.facts := fun m g _ =>
  (θ_run Cert.Reference5Ideal.defs _ _).mono
    (fun r h => ⟨fun c => (h c).2, sem_eq_zero_of_no_sems (by decide) r.2⟩) (Cert.Reference5Ideal.Value.run m g)

/-- No operation of it is rewritten. -/
theorem preserves5 : Cert.preserves_Kernel5_Kernel5Ideal := trivial

/-- The projection to the gates and its reference end with equal arrays, whatever the arguments. -/
theorem algebraic5 : @Cert.algebraic_Kernel5Ideal_Reference5Ideal Cert.Kernel5Ideal.Gen.facts Cert.Reference5Ideal.Gen.facts := by
  pair_intro
  · run_from Cert.Kernel5Ideal.Value.run_blocks m g
  · run_from Cert.Reference5Ideal.Value.run m' g'
    exact Cert.Gate.claim_eq m c _ _ rfl rfl

/-- The projection to the values runs to completion, its arguments kept. -/
theorem frame_kernel6 : @Cert.quiescent_Kernel6 Cert.Kernel6.Gen.facts := by
  intro m g _
  exact Cert.Kernel6.Gen.frame m g

theorem frame_kernel6Ideal : @Cert.quiescent_Kernel6Ideal Cert.Kernel6Ideal.Gen.facts := by
  intro m g _
  exact Cert.Kernel6Ideal.Gen.frame m g

/-- Its reference runs to completion, its arguments kept; it has no semaphore. -/
theorem frame_reference6Ideal : @Cert.quiescent_Reference6Ideal Cert.Reference6Ideal.Gen.facts := fun m g _ =>
  (θ_run Cert.Reference6Ideal.defs _ _).mono
    (fun r h => ⟨fun c => (h c).2, sem_eq_zero_of_no_sems (by decide) r.2⟩) (Cert.Reference6Ideal.Value.run m g)

/-- No operation of it is rewritten. -/
theorem preserves6 : Cert.preserves_Kernel6_Kernel6Ideal := trivial

/-- The projection to the values and its reference end with equal arrays, whatever the arguments. -/
theorem algebraic6 : @Cert.algebraic_Kernel6Ideal_Reference6Ideal Cert.Kernel6Ideal.Gen.facts Cert.Reference6Ideal.Gen.facts := by
  pair_intro
  · run_from Cert.Kernel6Ideal.Value.run_blocks m g
  · run_from Cert.Reference6Ideal.Value.run m' g'
    exact Cert.Val.claim_eq m c _ _ rfl rfl

/-- The merging call runs to completion, its arguments kept. -/
theorem frame_kernel7 : @Cert.quiescent_Kernel7 Cert.Kernel7.Gen.facts := by
  intro m g _
  exact Cert.Kernel7.Gen.frame m g

theorem frame_kernel7Ideal : @Cert.quiescent_Kernel7Ideal Cert.Kernel7Ideal.Gen.facts := by
  intro m g _
  exact Cert.Kernel7Ideal.Gen.frame m g

/-- Its reference runs to completion, its arguments kept; it has no semaphore. -/
theorem frame_reference7Ideal : @Cert.quiescent_Reference7Ideal Cert.Reference7Ideal.Gen.facts := fun m g _ =>
  (θ_run Cert.Reference7Ideal.defs _ _).mono
    (fun r h => ⟨fun c => (h c).2.2, sem_eq_zero_of_no_sems (by decide) r.2⟩) (Cert.Reference7Ideal.Value.run m g)

/-- No operation of it is rewritten. -/
theorem preserves7 : Cert.preserves_Kernel7_Kernel7Ideal := trivial

/-- The merging call and its reference end with equal arrays, whatever the arguments. -/
theorem algebraic7 : @Cert.algebraic_Kernel7Ideal_Reference7Ideal Cert.Kernel7Ideal.Gen.facts Cert.Reference7Ideal.Gen.facts := by
  pair_intro
  · run_from Cert.Merge.runs m g
  · run_from Cert.Reference7Ideal.Value.run m' g'
    · obtain ⟨a0, a1, a2, a3, a4, a5, a6, a7, a8, a9, a10, a11, a12, a13⟩ := hagree c
      exact Cert.Merge.tok_eq m m' c a0 a1 a2 a3 a4 a5 a6 a7 a8 a9 a11 a12 a13
    · obtain ⟨a0, a1, a2, a3, a4, a5, a6, a7, a8, a9, a10, a11, a12, a13⟩ := hagree c
      exact Cert.Merge.nrm_eq m m' c a0 a1 a2 a3 a4 a5 a6 a7 a8 a9 a10 a11 a12 a13

/-- The projection to the queries and keys runs to completion, its arguments kept. -/
theorem frame_kernel8 : @Cert.quiescent_Kernel8 Cert.Kernel8.Gen.facts := by
  intro m g _
  exact Cert.Kernel8.Gen.frame m g

theorem frame_kernel8Ideal : @Cert.quiescent_Kernel8Ideal Cert.Kernel8Ideal.Gen.facts := by
  intro m g _
  exact Cert.Kernel8Ideal.Gen.frame m g

/-- Its reference runs to completion, its arguments kept; it has no semaphore. -/
theorem frame_reference8Ideal : @Cert.quiescent_Reference8Ideal Cert.Reference8Ideal.Gen.facts := fun m g _ =>
  (θ_run Cert.Reference8Ideal.defs _ _).mono
    (fun r h => ⟨fun c => (h c).2, sem_eq_zero_of_no_sems (by decide) r.2⟩) (Cert.Reference8Ideal.Value.run m g)

/-- No operation of it is rewritten. -/
theorem preserves8 : Cert.preserves_Kernel8_Kernel8Ideal := trivial

/-- The projection to the queries and keys and its reference end with equal arrays, whatever the arguments. -/
theorem algebraic8 : @Cert.algebraic_Kernel8Ideal_Reference8Ideal Cert.Kernel8Ideal.Gen.facts Cert.Reference8Ideal.Gen.facts := by
  pair_intro
  · run_from Cert.Kernel8Ideal.Value.run_blocks m g
  · run_from Cert.Reference8Ideal.Value.run m' g'
    obtain ⟨a0, a1⟩ := hagree c
    exact Cert.Qk.claim_eq m m' c a0 a1

/-- The projection to the Hyena branch's inputs runs to completion, its arguments kept. -/
theorem frame_kernel9 : @Cert.quiescent_Kernel9 Cert.Kernel9.Gen.facts := by
  intro m g _
  exact Cert.Kernel9.Gen.frame m g

theorem frame_kernel9Ideal : @Cert.quiescent_Kernel9Ideal Cert.Kernel9Ideal.Gen.facts := by
  intro m g _
  exact Cert.Kernel9Ideal.Gen.frame m g

/-- Its reference runs to completion, its arguments kept; it has no semaphore. -/
theorem frame_reference9Ideal : @Cert.quiescent_Reference9Ideal Cert.Reference9Ideal.Gen.facts := fun m g _ =>
  (θ_run Cert.Reference9Ideal.defs _ _).mono
    (fun r h => ⟨fun c => (h c).2, sem_eq_zero_of_no_sems (by decide) r.2⟩) (Cert.Reference9Ideal.Value.run m g)

/-- No operation of it is rewritten. -/
theorem preserves9 : Cert.preserves_Kernel9_Kernel9Ideal := trivial

/-- The projection to the Hyena branch's inputs and its reference end with equal arrays, whatever the arguments. -/
theorem algebraic9 : @Cert.algebraic_Kernel9Ideal_Reference9Ideal Cert.Kernel9Ideal.Gen.facts Cert.Reference9Ideal.Gen.facts := by
  pair_intro
  · run_from Cert.Kernel9Ideal.Value.run_blocks m g
  · run_from Cert.Reference9Ideal.Value.run m' g'
    obtain ⟨a0, a1, a2, a3⟩ := hagree c
    exact Cert.Hy.claim_eq m m' c a0 a1 a2 a3

/-- Every claim. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Attn.preFacts,
    frame_kernel, frame_kernelIdeal, frame_kernelIdeal_pre, frame_referenceIdeal, frame_referenceIdeal_pre,
    frame_kernel2, frame_kernel2Ideal, frame_reference2Ideal, frame_kernel3, frame_kernel3Ideal, frame_reference3Ideal,
    frame_kernel4, frame_kernel4Ideal, frame_reference4Ideal,
    frame_kernel5, frame_kernel5Ideal, frame_reference5Ideal,
    frame_kernel6, frame_kernel6Ideal, frame_reference6Ideal,
    frame_kernel7, frame_kernel7Ideal, frame_reference7Ideal,
    frame_kernel8, frame_kernel8Ideal, frame_reference8Ideal,
    frame_kernel9, frame_kernel9Ideal, frame_reference9Ideal,
    preserves, algebraic, preserves2, algebraic2, preserves3, algebraic3, preserves4, algebraic4,
    preserves5, algebraic5, preserves6, algebraic6, preserves7, algebraic7, preserves8, algebraic8, preserves9, algebraic9⟩

end Cert.Proof

end
